-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_swiglu [hPre_finite_swiglu : Cert.Pre_finite_swiglu.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_swiglu.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_swiglu [hPre_finite_swiglu : Cert.Pre_finite_swiglu.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_swiglu.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_swiglu [hKernel2Ideal : Cert.Kernel2Ideal.Facts] [hPre_finite_swiglu : Cert.Pre_finite_swiglu.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_swiglu m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_swiglu [hReference2Ideal : Cert.Reference2Ideal.Facts] [hPre_finite_swiglu : Cert.Pre_finite_swiglu.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_swiglu m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_v172) = v1 c
          ∧ r.2.mem ((c.tc : Thread Cert.ReferenceIdeal.nD Cert.ReferenceIdeal.τ).loc Cert.ReferenceIdeal.main_v173) = v2 c
          ∧ r.2.mem ((c.tc : Thread Cert.ReferenceIdeal.nD Cert.ReferenceIdeal.τ).loc Cert.ReferenceIdeal.main_v174) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_swiglu [hKernel2Ideal : Cert.Kernel2Ideal.Facts] [hReference2Ideal : Cert.Reference2Ideal.Facts] [hPre_finite_swiglu : Cert.Pre_finite_swiglu.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_swiglu m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v20) = v0 c
          ∧ r.2.mem ((c.tc : Thread Cert.Reference14Ideal.nD Cert.Reference14Ideal.τ).loc Cert.Reference14Ideal.main_v21) = v1 c
          ∧ r.2.mem ((c.tc : Thread Cert.Reference14Ideal.nD Cert.Reference14Ideal.τ).loc Cert.Reference14Ideal.main_v22) = v2 c
          ∧ r.2.mem ((c.tc : Thread Cert.Reference14Ideal.nD Cert.Reference14Ideal.τ).loc Cert.Reference14Ideal.main_v23) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v12) = v0 c
          ∧ r.2.mem ((c.tc : Thread Cert.Reference15Ideal.nD Cert.Reference15Ideal.τ).loc Cert.Reference15Ideal.main_v14) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v45) = v0 c
          ∧ r.2.mem ((c.tc : Thread Cert.Reference16Ideal.nD Cert.Reference16Ideal.τ).loc Cert.Reference16Ideal.main_v28) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite_scores : Cert.Pre_finite_scores.Facts) (hPre_finite_swiglu : Cert.Pre_finite_swiglu.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_swiglu (hKernel2Ideal := hKernel2Ideal) (hPre_finite_swiglu := hPre_finite_swiglu)
    ∧ quiescent_Reference2Ideal (hReference2Ideal := hReference2Ideal)
    ∧ quiescent_Reference2Ideal_pre_finite_swiglu (hReference2Ideal := hReference2Ideal) (hPre_finite_swiglu := hPre_finite_swiglu)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_swiglu (hKernel2Ideal := hKernel2Ideal) (hReference2Ideal := hReference2Ideal) (hPre_finite_swiglu := hPre_finite_swiglu)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite_scores.lean ====
abbrev S2x2048x8x64 : Shape := ⟨4, ![2, 2048, 8, 64]⟩
abbrev S2x2048x2x64 : Shape := ⟨4, ![2, 2048, 2, 64]⟩
abbrev S8 : Shape := ⟨1, ![8]⟩
abbrev S2x2048x512 : Shape := ⟨3, ![2, 2048, 512]⟩
abbrev S_ : Shape := ⟨0, ![]⟩
abbrev S2x2048x2x4x64 : Shape := ⟨5, ![2, 2048, 2, 4, 64]⟩
abbrev S2x2048x2x1x64 : Shape := ⟨5, ![2, 2048, 2, 1, 64]⟩
abbrev S1x1x2x4x1 : Shape := ⟨5, ![1, 1, 2, 4, 1]⟩

class Facts : Prop where
  bcast_S_S2x2048x8x64 : S_.BroadcastsInDim S2x2048x8x64 (![] : Fin 0 → Fin S2x2048x8x64.rank)
  shapeCasts_S2x2048x8x64_S2x2048x2x4x64 : S2x2048x8x64.ShapeCasts S2x2048x2x4x64
  bcast_S_S2x2048x2x64 : S_.BroadcastsInDim S2x2048x2x64 (![] : Fin 0 → Fin S2x2048x2x64.rank)
  shapeCasts_S2x2048x2x64_S2x2048x2x1x64 : S2x2048x2x64.ShapeCasts S2x2048x2x1x64
  bcast_S_S8 : S_.BroadcastsInDim S8 (![] : Fin 0 → Fin S8.rank)
  shapeCasts_S8_S1x1x2x4x1 : S8.ShapeCasts S1x1x2x4x1
  bcast_S2x2048x2x1x64_S2x2048x2x4x64_0_1_2_3_4 : S2x2048x2x1x64.BroadcastsInDim S2x2048x2x4x64 (![0, 1, 2, 3, 4] : Fin 5 → Fin S2x2048x2x4x64.rank)
  bcast_S1x1x2x4x1_S2x2048x2x4x64_0_1_2_3_4 : S1x1x2x4x1.BroadcastsInDim S2x2048x2x4x64 (![0, 1, 2, 3, 4] : Fin 5 → Fin S2x2048x2x4x64.rank)

variable [Facts]

def fn {F : FTy → Type} [FloatOps F] (main_arg0 : FVec F S2x2048x8x64 .f32) (main_arg1 : FVec F S2x2048x2x64 .f32) (main_arg2 : FVec F S2x2048x2x64 .f32) (main_arg3 : FVec F S8 .f32) (main_arg4 : FVec F S2x2048x512 .f32) : IVec S2x2048x2x4x64 1 :=
  let main_v0 : FVec F S2x2048x8x64 .f32 := Host.absf main_arg0
  let main_cst : FVec F S_ .f32 := constant S_ .f32 0x7F800000#32
  let main_v1 : FVec F S2x2048x8x64 .f32 := broadcastInDim S2x2048x8x64 ![] bcast_S_S2x2048x8x64 main_cst
  let main_v2 : IVec S2x2048x8x64 1 := cmpf .olt main_v0 main_v1
  let main_v3 : IVec S2x2048x2x4x64 1 := shapeCast S2x2048x2x4x64 main_v2 shapeCasts_S2x2048x8x64_S2x2048x2x4x64
  let main_v4 : FVec F S2x2048x2x64 .f32 := Host.absf main_arg1
  let main_cst_0 : FVec F S_ .f32 := constant S_ .f32 0x7F800000#32
  let main_v5 : FVec F S2x2048x2x64 .f32 := broadcastInDim S2x2048x2x64 ![] bcast_S_S2x2048x2x64 main_cst_0
  let main_v6 : IVec S2x2048x2x64 1 := cmpf .olt main_v4 main_v5
  let main_v7 : IVec S2x2048x2x1x64 1 := shapeCast S2x2048x2x1x64 main_v6 shapeCasts_S2x2048x2x64_S2x2048x2x1x64
  let main_v8 : FVec F S8 .f32 := Host.absf main_arg3
  let main_cst_1 : FVec F S_ .f32 := constant S_ .f32 0x7F800000#32
  let main_v9 : FVec F S8 .f32 := broadcastInDim S8 ![] bcast_S_S8 main_cst_1
  let main_v10 : IVec S8 1 := cmpf .olt main_v8 main_v9
  let main_v11 : IVec S1x1x2x4x1 1 := shapeCast S1x1x2x4x1 main_v10 shapeCasts_S8_S1x1x2x4x1
  let main_v12 : IVec S2x2048x2x4x64 1 := broadcastInDim S2x2048x2x4x64 ![0, 1, 2, 3, 4] bcast_S2x2048x2x1x64_S2x2048x2x4x64_0_1_2_3_4 main_v7
  let main_v13 : IVec S2x2048x2x4x64 1 := andi main_v3 main_v12
  let main_v14 : IVec S2x2048x2x4x64 1 := broadcastInDim S2x2048x2x4x64 ![0, 1, 2, 3, 4] bcast_S1x1x2x4x1_S2x2048x2x4x64_0_1_2_3_4 main_v11
  let main_v15 : IVec S2x2048x2x4x64 1 := andi main_v13 main_v14
  main_v15
-- ==== Pre_finite_swiglu.lean ====
abbrev S4096x1024 : Shape := ⟨2, ![4096, 1024]⟩
abbrev S3072x1024 : Shape := ⟨2, ![3072, 1024]⟩
abbrev S4096x3072 : Shape := ⟨2, ![4096, 3072]⟩
abbrev S_ : Shape := ⟨0, ![]⟩
abbrev S4x1024x1x1024 : Shape := ⟨4, ![4, 1024, 1, 1024]⟩
abbrev S1x1024x3x1024 : Shape := ⟨4, ![1, 1024, 3, 1024]⟩
abbrev S4x1024x3x1024 : Shape := ⟨4, ![4, 1024, 3, 1024]⟩

class Facts : Prop where
  bcast_S_S4096x1024 : S_.BroadcastsInDim S4096x1024 (![] : Fin 0 → Fin S4096x1024.rank)
  shapeCasts_S4096x1024_S4x1024x1x1024 : S4096x1024.ShapeCasts S4x1024x1x1024
  bitsLt_bf16_f32 : FTy.bits .bf16 < FTy.bits .f32
  bcast_S_S3072x1024 : S_.BroadcastsInDim S3072x1024 (![] : Fin 0 → Fin S3072x1024.rank)
  shapeCasts_S3072x1024_S1x1024x3x1024 : S3072x1024.ShapeCasts S1x1024x3x1024
  bcast_S_S4096x3072 : S_.BroadcastsInDim S4096x3072 (![] : Fin 0 → Fin S4096x3072.rank)
  shapeCasts_S4096x3072_S4x1024x3x1024 : S4096x3072.ShapeCasts S4x1024x3x1024
  bcast_S4x1024x1x1024_S4x1024x3x1024_0_1_2_3 : S4x1024x1x1024.BroadcastsInDim S4x1024x3x1024 (![0, 1, 2, 3] : Fin 4 → Fin S4x1024x3x1024.rank)
  bcast_S1x1024x3x1024_S4x1024x3x1024_0_1_2_3 : S1x1024x3x1024.BroadcastsInDim S4x1024x3x1024 (![0, 1, 2, 3] : Fin 4 → Fin S4x1024x3x1024.rank)

variable [Facts]

def fn {F : FTy → Type} [FloatOps F] (main_arg0 : FVec F S4096x1024 .f32) (main_arg1 : FVec F S3072x1024 .bf16) (main_arg2 : FVec F S4096x3072 .bf16) (main_arg3 : FVec F S4096x3072 .bf16) : IVec S4x1024x3x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : IVec S4x1024x1x1024 1 := shapeCast S4x1024x1x1024 main_v2 shapeCasts_S4096x1024_S4x1024x1x1024
  let main_v4 : FVec F S3072x1024 .f32 := (extf .f32 · bitsLt_bf16_f32) main_arg1
  let main_v5 : FVec F S3072x1024 .f32 := Host.absf main_v4
  let main_cst_0 : FVec F S_ .f32 := constant S_ .f32 0x7F800000#32
  let main_v6 : FVec F S3072x1024 .f32 := broadcastInDim S3072x1024 ![] bcast_S_S3072x1024 main_cst_0
  let main_v7 : IVec S3072x1024 1 := cmpf .olt main_v5 main_v6
  let main_v8 : IVec S1x1024x3x1024 1 := shapeCast S1x1024x3x1024 main_v7 shapeCasts_S3072x1024_S1x1024x3x1024
  let main_v9 : FVec F S4096x3072 .f32 := (extf .f32 · bitsLt_bf16_f32) main_arg3
  let main_v10 : FVec F S4096x3072 .f32 := Host.absf main_v9
  let main_cst_1 : FVec F S_ .f32 := constant S_ .f32 0x7F800000#32
  let main_v11 : FVec F S4096x3072 .f32 := broadcastInDim S4096x3072 ![] bcast_S_S4096x3072 main_cst_1
  let main_v12 : IVec S4096x3072 1 := cmpf .olt main_v10 main_v11
  let main_v13 : IVec S4x1024x3x1024 1 := shapeCast S4x1024x3x1024 main_v12 shapeCasts_S4096x3072_S4x1024x3x1024
  let main_v14 : IVec S4x1024x3x1024 1 := broadcastInDim S4x1024x3x1024 ![0, 1, 2, 3] bcast_S4x1024x1x1024_S4x1024x3x1024_0_1_2_3 main_v3
  let main_v15 : IVec S4x1024x3x1024 1 := broadcastInDim S4x1024x3x1024 ![0, 1, 2, 3] bcast_S1x1024x3x1024_S4x1024x3x1024_0_1_2_3 main_v8
  let main_v16 : IVec S4x1024x3x1024 1 := andi main_v14 main_v15
  let main_v17 : IVec S4x1024x3x1024 1 := andi main_v16 main_v13
  main_v17
-- ==== Kernel.lean ====
abbrev S2x2048x8x64 : Shape := ⟨4, ![2, 2048, 8, 64]⟩
abbrev S2x2048x2x64 : Shape := ⟨4, ![2, 2048, 2, 64]⟩
abbrev S8 : Shape := ⟨1, ![8]⟩
abbrev S2x2048x512 : Shape := ⟨3, ![2, 2048, 512]⟩
abbrev S2x2048x128 : Shape := ⟨3, ![2, 2048, 128]⟩
abbrev S_ : Shape := ⟨0, ![]⟩
abbrev S2x2048x4992 : Shape := ⟨3, ![2, 2048, 4992]⟩
abbrev S2x4x1x1 : Shape := ⟨4, ![2, 4, 1, 1]⟩
abbrev S1x128x512 : Shape := ⟨3, ![1, 128, 512]⟩
abbrev S1x128x128 : Shape := ⟨3, ![1, 128, 128]⟩
abbrev S1x2048x128 : Shape := ⟨3, ![1, 2048, 128]⟩
abbrev S512x384 : Shape := ⟨2, ![512, 384]⟩
abbrev S1x128x64 : Shape := ⟨3, ![1, 128, 64]⟩
abbrev S128x64 : Shape := ⟨2, ![128, 64]⟩
abbrev S384x64 : Shape := ⟨2, ![384, 64]⟩
abbrev S512x64 : Shape := ⟨2, ![512, 64]⟩
abbrev S1x1x1x1 : Shape := ⟨4, ![1, 1, 1, 1]⟩
abbrev S1x1 : Shape := ⟨2, ![1, 1]⟩
abbrev S128x1 : Shape := ⟨2, ![128, 1]⟩
abbrev S512x1 : Shape := ⟨2, ![512, 1]⟩
abbrev S512 : Shape := ⟨1, ![512]⟩
abbrev S1 : Shape := ⟨1, ![1]⟩

abbrev nBuf : Space → Nat
  | .hbm => 16
  | .vmem => 24
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x2x64, .f32⟩
  | .hbm, ⟨2, _⟩ => ⟨S2x2048x2x64, .f32⟩
  | .hbm, ⟨3, _⟩ => ⟨S8, .f32⟩
  | .hbm, ⟨4, _⟩ => ⟨S2x2048x512, .f32⟩
  | .hbm, ⟨5, _⟩ => ⟨S2x2048x128, .f32⟩
  | .hbm, ⟨6, _⟩ => ⟨S_, .i32⟩
  | .hbm, ⟨7, _⟩ => ⟨S_, .f32⟩
  | .hbm, ⟨8, _⟩ => ⟨S2x2048x4992, .f32⟩
  | .hbm, ⟨9, _⟩ => ⟨S2x2048x512, .f32⟩
  | .hbm, ⟨10, _⟩ => ⟨S2x2048x128, .f32⟩
  | .hbm, ⟨11, _⟩ => ⟨S2x4x1x1, .f32⟩
  | .hbm, ⟨12, _⟩ => ⟨S2x2048x512, .f32⟩
  | .hbm, ⟨13, _⟩ => ⟨S2x2048x128, .f32⟩
  | .hbm, ⟨14, _⟩ => ⟨S2x2048x128, .f32⟩
  | .hbm, ⟨15, _⟩ => ⟨S2x4x1x1, .f32⟩
  | .local _ .vmem, ⟨0, _⟩ => ⟨S1x128x512, .f32⟩
  | .local _ .vmem, ⟨1, _⟩ => ⟨S1x128x512, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S2x4x1x1, .f32⟩
  | .local _ .vmem, ⟨15, _⟩ => ⟨S1x128x512, .f32⟩
  | .local _ .vmem, ⟨16, _⟩ => ⟨S1x128x512, .f32⟩
  | .local _ .vmem, ⟨17, _⟩ => ⟨S1x128x512, .f32⟩
  | .local _ .vmem, ⟨18, _⟩ => ⟨S1x128x512, .f32⟩
  | .local _ .vmem, ⟨19, _⟩ => ⟨S1x2048x128, .f32⟩
  | .local _ .vmem, ⟨20, _⟩ => ⟨S1x2048x128, .f32⟩
  | .local _ .vmem, ⟨21, _⟩ => ⟨S1x2048x128, .f32⟩
  | .local _ .vmem, ⟨22, _⟩ => ⟨S1x2048x128, .f32⟩
  | .local _ .vmem, ⟨23, _⟩ => ⟨S2x4x1x1, .f32⟩
  | _, _ => ⟨S2x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let c15_i32 : BitVec 32 := 15#32
  let c0_i32_133 : BitVec 32 := 0#32
  let arg1 : BitVec 32 := BitVec.ofNat 32 (i 1).val
  let c_m1_i32 : BitVec 32 := 4294967295#32
  let v223 : BitVec 32 := Scalar.addi arg1 c_m1_i32
  let v224 : BitVec 32 := Scalar.maxsi c0_i32_133 v223
  let v225 : BitVec 32 := Scalar.minsi c15_i32 v224
  let c128_i32_134 : BitVec 32 := 128#32
  let v226 : BitVec 32 := Scalar.muli v225 c128_i32_134
  v226
def k0_off1 (i : grid0.Coords) (c_m1_i32 : BitVec 32) : Fin 3 → Nat :=
  let c0_135 : Index := 0#32
  let c15_i32 : BitVec 32 := 15#32
  let c0_i32_133 : BitVec 32 := 0#32
  let arg1 : BitVec 32 := BitVec.ofNat 32 (i 1).val
  let v223 : BitVec 32 := Scalar.addi arg1 c_m1_i32
  let v224 : BitVec 32 := Scalar.maxsi c0_i32_133 v223
  let v225 : BitVec 32 := Scalar.minsi c15_i32 v224
  let c128_i32_134 : BitVec 32 := 128#32
  let v226 : BitVec 32 := Scalar.muli v225 c128_i32_134
  let v227 : BitVec 32 := v226
  let v228 : Index := Scalar.indexCast v227
  let c0_136 : Index := 0#32
  ![0, v228.toNat, 0]
def k0_off1_at (r : Fin 3) : BitVec 32 :=
  if r.val < 1 then
    4294967295#32
  else
    if r.val < 2 then
      0#32
    else
      1#32
def k0_mult2 (i : grid0.Coords) : BitVec 32 :=
  let c15_i32_145 : BitVec 32 := 15#32
  let c0_i32_144 : BitVec 32 := 0#32
  let arg1 : BitVec 32 := BitVec.ofNat 32 (i 1).val
  let c0_i32_143 : BitVec 32 := 0#32
  let v246 : BitVec 32 := Scalar.addi arg1 c0_i32_143
  let v247 : BitVec 32 := Scalar.maxsi c0_i32_144 v246
  let v248 : BitVec 32 := Scalar.minsi c15_i32_145 v247
  let c128_i32_146 : BitVec 32 := 128#32
  let v249 : BitVec 32 := Scalar.muli v248 c128_i32_146
  v249
def k0_mult3 (i : grid0.Coords) : BitVec 32 :=
  let c15_i32_157 : BitVec 32 := 15#32
  let c0_i32_156 : BitVec 32 := 0#32
  let arg1 : BitVec 32 := BitVec.ofNat 32 (i 1).val
  let c1_i32_155 : BitVec 32 := 1#32
  let v269 : BitVec 32 := Scalar.addi arg1 c1_i32_155
  let v270 : BitVec 32 := Scalar.maxsi c0_i32_156 v269
  let v271 : BitVec 32 := Scalar.minsi c15_i32_157 v270
  let c128_i32_158 : BitVec 32 := 128#32
  let v272 : BitVec 32 := Scalar.muli v271 c128_i32_158
  v272
def k0_mult4 (i : grid0.Coords) : BitVec 32 :=
  let c15_i32_299 : BitVec 32 := 15#32
  let c0_i32_298 : BitVec 32 := 0#32
  let arg1 : BitVec 32 := BitVec.ofNat 32 (i 1).val
  let c_m1_i32_297 : BitVec 32 := 4294967295#32
  let v486 : BitVec 32 := Scalar.addi arg1 c_m1_i32_297
  let v487 : BitVec 32 := Scalar.maxsi c0_i32_298 v486
  let v488 : BitVec 32 := Scalar.minsi c15_i32_299 v487
  let c128_i32_300 : BitVec 32 := 128#32
  let v489 : BitVec 32 := Scalar.muli v488 c128_i32_300
  v489
def k0_off2 (i : grid0.Coords) (c_m1_i32_297 : BitVec 32) : Fin 3 → Nat :=
  let c0_301 : Index := 0#32
  let c15_i32_299 : BitVec 32 := 15#32
  let c0_i32_298 : BitVec 32 := 0#32
  let arg1 : BitVec 32 := BitVec.ofNat 32 (i 1).val
  let v486 : BitVec 32 := Scalar.addi arg1 c_m1_i32_297
  let v487 : BitVec 32 := Scalar.maxsi c0_i32_298 v486
  let v488 : BitVec 32 := Scalar.minsi c15_i32_299 v487
  let c128_i32_300 : BitVec 32 := 128#32
  let v489 : BitVec 32 := Scalar.muli v488 c128_i32_300
  let v490 : BitVec 32 := v489
  let v491 : Index := Scalar.indexCast v490
  let c64_302 : Index := 64#32
  ![0, v491.toNat, 64]
def k0_off2_at (r : Fin 3) : BitVec 32 :=
  if r.val < 1 then
    4294967295#32
  else
    if r.val < 2 then
      0#32
    else
      1#32
def k0_mult5 (i : grid0.Coords) : BitVec 32 :=
  let c15_i32_311 : BitVec 32 := 15#32
  let c0_i32_310 : BitVec 32 := 0#32
  let arg1 : BitVec 32 := BitVec.ofNat 32 (i 1).val
  let c0_i32_309 : BitVec 32 := 0#32
  let v509 : BitVec 32 := Scalar.addi arg1 c0_i32_309
  let v510 : BitVec 32 := Scalar.maxsi c0_i32_310 v509
  let v511 : BitVec 32 := Scalar.minsi c15_i32_311 v510
  let c128_i32_312 : BitVec 32 := 128#32
  let v512 : BitVec 32 := Scalar.muli v511 c128_i32_312
  v512
def k0_mult6 (i : grid0.Coords) : BitVec 32 :=
  let c15_i32_323 : BitVec 32 := 15#32
  let c0_i32_322 : BitVec 32 := 0#32
  let arg1 : BitVec 32 := BitVec.ofNat 32 (i 1).val
  let c1_i32_321 : BitVec 32 := 1#32
  let v532 : BitVec 32 := Scalar.addi arg1 c1_i32_321
  let v533 : BitVec 32 := Scalar.maxsi c0_i32_322 v532
  let v534 : BitVec 32 := Scalar.minsi c15_i32_323 v533
  let c128_i32_324 : BitVec 32 := 128#32
  let v535 : BitVec 32 := Scalar.muli v534 c128_i32_324
  v535
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![arg0.toNat, v2.toNat, c0_i32_1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c15_i32 : BitVec 32 := 15#32
  let v1 : BitVec 32 := Scalar.maxsi c0_i32 v0
  let v2 : BitVec 32 := Scalar.minsi c15_i32 v1
  let c37_i32 : BitVec 32 := 37#32
  let c0_i32_0 : BitVec 32 := 0#32
  ![arg0.toNat, v2.toNat, c37_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c37_i32 : BitVec 32 := 37#32
  let c0_i32_1 : BitVec 32 := 0#32
  ![arg0.toNat, v2.toNat, c37_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c15_i32 : BitVec 32 := 15#32
  let v1 : BitVec 32 := Scalar.maxsi c0_i32 v0
  let v2 : BitVec 32 := Scalar.minsi c15_i32 v1
  let c37_i32 : BitVec 32 := 37#32
  let c0_i32_0 : BitVec 32 := 0#32
  ![arg0.toNat, v2.toNat, c37_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S2x4x1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S2x4x1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== ReferenceIdeal.lean ====
abbrev S2x2048x8x64 : Shape := ⟨4, ![2, 2048, 8, 64]⟩
abbrev S2x2048x2x64 : Shape := ⟨4, ![2, 2048, 2, 64]⟩
abbrev S8 : Shape := ⟨1, ![8]⟩
abbrev S2x2048x512 : Shape := ⟨3, ![2, 2048, 512]⟩
abbrev S2x16x128x2x4x64 : Shape := ⟨6, ![2, 16, 128, 2, 4, 64]⟩
abbrev S2x16x2x4x128x64 : Shape := ⟨6, ![2, 16, 2, 4, 128, 64]⟩
abbrev S_ : Shape := ⟨0, ![]⟩
abbrev S2x128x2x64 : Shape := ⟨4, ![2, 128, 2, 64]⟩
abbrev S2x2304x2x64 : Shape := ⟨4, ![2, 2304, 2, 64]⟩
abbrev S2x18x128x2x64 : Shape := ⟨5, ![2, 18, 128, 2, 64]⟩
abbrev S2x16x128x2x64 : Shape := ⟨5, ![2, 16, 128, 2, 64]⟩
abbrev S2x16x384x2x64 : Shape := ⟨5, ![2, 16, 384, 2, 64]⟩
abbrev S2x16x2x4x128x384 : Shape := ⟨6, ![2, 16, 2, 4, 128, 384]⟩
abbrev S16 : Shape := ⟨1, ![16]⟩
abbrev S16x1x1 : Shape := ⟨3, ![16, 1, 1]⟩
abbrev S128 : Shape := ⟨1, ![128]⟩
abbrev S1x128x1 : Shape := ⟨3, ![1, 128, 1]⟩
abbrev S16x128x1 : Shape := ⟨3, ![16, 128, 1]⟩
abbrev S384 : Shape := ⟨1, ![384]⟩
abbrev S1x1x384 : Shape := ⟨3, ![1, 1, 384]⟩
abbrev S16x1x384 : Shape := ⟨3, ![16, 1, 384]⟩
abbrev S16x128x384 : Shape := ⟨3, ![16, 128, 384]⟩
abbrev S1x16x1x1x128x384 : Shape := ⟨6, ![1, 16, 1, 1, 128, 384]⟩
abbrev S1x1x2x4x1x1 : Shape := ⟨6, ![1, 1, 2, 4, 1, 1]⟩
abbrev S2x16x2x4x128 : Shape := ⟨5, ![2, 16, 2, 4, 128]⟩
abbrev S2x16x2x4x128x1 : Shape := ⟨6, ![2, 16, 2, 4, 128, 1]⟩
abbrev S2x16x2x64x4x128 : Shape := ⟨6, ![2, 16, 2, 64, 4, 128]⟩
abbrev S2x16x2x64x384 : Shape := ⟨5, ![2, 16, 2, 64, 384]⟩
abbrev S2x4x1 : Shape := ⟨3, ![2, 4, 1]⟩
abbrev S2x16x2x384x64 : Shape := ⟨5, ![2, 16, 2, 384, 64]⟩
abbrev S2x2048x128 : Shape := ⟨3, ![2, 2048, 128]⟩
abbrev S2x4x1x1 : Shape := ⟨4, ![2, 4, 1, 1]⟩

abbrev nBuf : Space → Nat
  | .hbm => 223
  | .vmem => 0
  | .smem => 0
  | _ => 0

abbrev hbmTy0_0 (i : Nat) : BufTy := match i % 128 with
  | 0 => ⟨S2x2048x8x64, .f32⟩
  | 1 => ⟨S2x2048x2x64, .f32⟩
  | 2 => ⟨S2x2048x2x64, .f32⟩
  | 3 => ⟨S8, .f32⟩
  | 4 => ⟨S2x2048x512, .f32⟩
  | 5 => ⟨S2x16x128x2x4x64, .f32⟩
  | 6 => ⟨S2x16x2x4x128x64, .f32⟩
  | 7 => ⟨S_, .f32⟩
  | 8 => ⟨S2x128x2x64, .f32⟩
  | 9 => ⟨S2x2304x2x64, .f32⟩
  | 10 => ⟨S_, .f32⟩
  | 11 => ⟨S2x128x2x64, .f32⟩
  | 12 => ⟨S_, .f32⟩
  | 13 => ⟨S2x128x2x64, .f32⟩
  | 14 => ⟨S2x18x128x2x64, .f32⟩
  | 15 => ⟨S2x2304x2x64, .f32⟩
  | 16 => ⟨S_, .f32⟩
  | 17 => ⟨S2x128x2x64, .f32⟩
  | 18 => ⟨S_, .f32⟩
  | 19 => ⟨S2x128x2x64, .f32⟩
  | 20 => ⟨S2x18x128x2x64, .f32⟩
  | 21 => ⟨S2x16x128x2x64, .f32⟩
  | 22 => ⟨S2x16x128x2x64, .f32⟩
  | 23 => ⟨S2x16x128x2x64, .f32⟩
  | 24 => ⟨S2x16x384x2x64, .f32⟩
  | 25 => ⟨S2x16x128x2x64, .f32⟩
  | 26 => ⟨S2x16x128x2x64, .f32⟩
  | 27 => ⟨S2x16x128x2x64, .f32⟩
  | 28 => ⟨S2x16x384x2x64, .f32⟩
  | 29 => ⟨S2x16x2x4x128x384, .f32⟩
  | 30 => ⟨S_, .f32⟩
  | 31 => ⟨S2x16x2x4x128x384, .f32⟩
  | 32 => ⟨S2x16x2x4x128x384, .f32⟩
  | 33 => ⟨S16, .i32⟩
  | 34 => ⟨S16x1x1, .i32⟩
  | 35 => ⟨S_, .i32⟩
  | 36 => ⟨S16x1x1, .i32⟩
  | 37 => ⟨S16x1x1, .i32⟩
  | 38 => ⟨S128, .i32⟩
  | 39 => ⟨S1x128x1, .i32⟩
  | 40 => ⟨S16x128x1, .i32⟩
  | 41 => ⟨S16x128x1, .i32⟩
  | 42 => ⟨S16x128x1, .i32⟩
  | 43 => ⟨S16, .i32⟩
  | 44 => ⟨S16x1x1, .i32⟩
  | 45 => ⟨S_, .i32⟩
  | 46 => ⟨S16x1x1, .i32⟩
  | 47 => ⟨S16x1x1, .i32⟩
  | 48 => ⟨S_, .i32⟩
  | 49 => ⟨S16x1x1, .i32⟩
  | 50 => ⟨S16x1x1, .i32⟩
  | 51 => ⟨S384, .i32⟩
  | 52 => ⟨S1x1x384, .i32⟩
  | 53 => ⟨S16x1x384, .i32⟩
  | 54 => ⟨S16x1x384, .i32⟩
  | 55 => ⟨S16x1x384, .i32⟩
  | 56 => ⟨S16x128x384, .i32⟩
  | 57 => ⟨S16x128x384, .i32⟩
  | 58 => ⟨S16x128x384, .i32⟩
  | 59 => ⟨S16x128x384, .i32⟩
  | 60 => ⟨S_, .i32⟩
  | 61 => ⟨S16x128x384, .i32⟩
  | 62 => ⟨S16x128x384, .i1⟩
  | 63 => ⟨S_, .i32⟩
  | 64 => ⟨S16x1x384, .i32⟩
  | 65 => ⟨S16x1x384, .i1⟩
  | 66 => ⟨S16x128x384, .i1⟩
  | 67 => ⟨S16x128x384, .i1⟩
  | 68 => ⟨S_, .i32⟩
  | 69 => ⟨S16x1x384, .i32⟩
  | 70 => ⟨S16x1x384, .i1⟩
  | 71 => ⟨S16x128x384, .i1⟩
  | 72 => ⟨S16x128x384, .i1⟩
  | 73 => ⟨S1x16x1x1x128x384, .i1⟩
  | 74 => ⟨S_, .f32⟩
  | 75 => ⟨S_, .f32⟩
  | 76 => ⟨S2x16x2x4x128x384, .i1⟩
  | 77 => ⟨S2x16x2x4x128x384, .f32⟩
  | 78 => ⟨S2x16x2x4x128x384, .f32⟩
  | 79 => ⟨S_, .f32⟩
  | 80 => ⟨S2x16x2x4x128x384, .f32⟩
  | 81 => ⟨S1x1x2x4x1x1, .f32⟩
  | 82 => ⟨S_, .f32⟩
  | 83 => ⟨S2x16x2x4x128, .f32⟩
  | 84 => ⟨S2x16x2x4x128x1, .f32⟩
  | 85 => ⟨S2x16x2x4x128x384, .f32⟩
  | 86 => ⟨S2x16x2x4x128x384, .i1⟩
  | 87 => ⟨S2x16x2x4x128x384, .f32⟩
  | 88 => ⟨S_, .f32⟩
  | 89 => ⟨S2x16x2x4x128, .f32⟩
  | 90 => ⟨S2x16x2x4x128x1, .f32⟩
  | 91 => ⟨S2x16x2x4x128x1, .f32⟩
  | 92 => ⟨S2x16x2x4x128x1, .f32⟩
  | 93 => ⟨S2x16x2x4x128x1, .f32⟩
  | 94 => ⟨S2x16x2x4x128x1, .i1⟩
  | 95 => ⟨S2x16x2x4x128x1, .f32⟩
  | 96 => ⟨S2x16x2x4x128x1, .i1⟩
  | 97 => ⟨S_, .f32⟩
  | 98 => ⟨S2x16x2x4x128x1, .f32⟩
  | 99 => ⟨S_, .f32⟩
  | 100 => ⟨S2x16x2x4x128x1, .f32⟩
  | 101 => ⟨S_, .f32⟩
  | 102 => ⟨S2x16x2x4x128x1, .f32⟩
  | 103 => ⟨S2x16x2x4x128x1, .f32⟩
  | 104 => ⟨S2x16x2x4x128x1, .f32⟩
  | 105 => ⟨S2x16x2x4x128x1, .f32⟩
  | 106 => ⟨S2x16x2x4x128x1, .i1⟩
  | 107 => ⟨S2x16x2x4x128x1, .f32⟩
  | 108 => ⟨S2x16x2x4x128x1, .i1⟩
  | 109 => ⟨S_, .f32⟩
  | 110 => ⟨S2x16x2x4x128x1, .f32⟩
  | 111 => ⟨S_, .f32⟩
  | 112 => ⟨S2x16x2x4x128x1, .f32⟩
  | 113 => ⟨S_, .f32⟩
  | 114 => ⟨S2x16x2x4x128x1, .f32⟩
  | 115 => ⟨S2x16x2x4x128x1, .f32⟩
  | 116 => ⟨S2x16x2x4x128x1, .f32⟩
  | 117 => ⟨S2x16x2x4x128x384, .f32⟩
  | 118 => ⟨S2x16x2x4x128x384, .f32⟩
  | 119 => ⟨S2x16x2x4x128x384, .f32⟩
  | 120 => ⟨S_, .f32⟩
  | 121 => ⟨S2x16x2x4x128, .f32⟩
  | 122 => ⟨S2x16x2x4x128x1, .f32⟩
  | 123 => ⟨S2x16x2x4x128x1, .f32⟩
  | 124 => ⟨S2x16x2x4x128x1, .f32⟩
  | 125 => ⟨S2x16x2x4x128x1, .f32⟩
  | 126 => ⟨S2x16x2x4x128x1, .f32⟩
  | 127 => ⟨S2x16x2x4x128x384, .f32⟩
  | _ => ⟨S2x2048x8x64, .f32⟩

abbrev hbmTy0_1 (i : Nat) : BufTy := match i % 128 with
  | 0 => ⟨S2x16x2x4x128x384, .f32⟩
  | 1 => ⟨S2x16x2x4x128x1, .f32⟩
  | 2 => ⟨S_, .f32⟩
  | 3 => ⟨S2x16x2x4x128x1, .f32⟩
  | 4 => ⟨S2x16x2x4x128x1, .f32⟩
  | 5 => ⟨S2x16x2x64x4x128, .f32⟩
  | 6 => ⟨S2x16x128x2x4x64, .f32⟩
  | 7 => ⟨S2x2048x512, .f32⟩
  | 8 => ⟨S2x16x128x2x4x64, .f32⟩
  | 9 => ⟨S2x16x2x64x4x128, .f32⟩
  | 10 => ⟨S2x16x2x4x128x384, .f32⟩
  | 11 => ⟨S2x16x2x64x384, .f32⟩
  | 12 => ⟨S2x16x384x2x64, .f32⟩
  | 13 => ⟨S2x16x2x4x128x384, .f32⟩
  | 14 => ⟨S2x16x2x4x128x384, .f32⟩
  | 15 => ⟨S2x16x2x4x128x384, .f32⟩
  | 16 => ⟨S_, .f32⟩
  | 17 => ⟨S2x16x2x4x128, .f32⟩
  | 18 => ⟨S2x16x2x4x128x1, .f32⟩
  | 19 => ⟨S2x16x2x4x128x1, .f32⟩
  | 20 => ⟨S2x16x2x4x128x384, .f32⟩
  | 21 => ⟨S2x16x2x4x128x384, .f32⟩
  | 22 => ⟨S2x16x2x4x128x1, .f32⟩
  | 23 => ⟨S_, .f32⟩
  | 24 => ⟨S2x4x1, .f32⟩
  | 25 => ⟨S1x1x2x4x1x1, .f32⟩
  | 26 => ⟨S2x16x2x4x128x1, .f32⟩
  | 27 => ⟨S_, .f32⟩
  | 28 => ⟨S2x16x2x4x128, .f32⟩
  | 29 => ⟨S2x16x2x4x128x384, .f32⟩
  | 30 => ⟨S2x16x2x4x128x384, .f32⟩
  | 31 => ⟨S2x16x2x4x128x384, .f32⟩
  | 32 => ⟨S2x16x2x4x128x384, .f32⟩
  | 33 => ⟨S_, .f32⟩
  | 34 => ⟨S2x16x2x4x128, .f32⟩
  | 35 => ⟨S2x16x2x4x128x1, .f32⟩
  | 36 => ⟨S2x16x2x4x128x1, .f32⟩
  | 37 => ⟨S2x16x2x4x128x1, .f32⟩
  | 38 => ⟨S_, .f32⟩
  | 39 => ⟨S2x4x1, .f32⟩
  | 40 => ⟨S1x1x2x4x1x1, .f32⟩
  | 41 => ⟨S1x1x2x4x1x1, .f32⟩
  | 42 => ⟨S2x16x2x4x128x1, .f32⟩
  | 43 => ⟨S_, .f32⟩
  | 44 => ⟨S2x16x2x4x128, .f32⟩
  | 45 => ⟨S2x16x2x4x128, .f32⟩
  | 46 => ⟨S2x16x2x4x128x384, .f32⟩
  | 47 => ⟨S2x16x2x4x128x384, .f32⟩
  | 48 => ⟨S2x16x2x4x128x384, .f32⟩
  | 49 => ⟨S8, .f32⟩
  | 50 => ⟨S_, .f32⟩
  | 51 => ⟨S2x16x2x4x128x384, .f32⟩
  | 52 => ⟨S2x16x2x4x128x384, .f32⟩
  | 53 => ⟨S_, .f32⟩
  | 54 => ⟨S2x16x2x4x128x384, .f32⟩
  | 55 => ⟨S2x16x2x4x128x384, .f32⟩
  | 56 => ⟨S2x16x2x384x64, .f32⟩
  | 57 => ⟨S2x16x384x2x64, .f32⟩
  | 58 => ⟨S2x16x2x4x128x64, .f32⟩
  | 59 => ⟨S2x16x128x2x64, .f32⟩
  | 60 => ⟨S2x16x128x2x64, .f32⟩
  | 61 => ⟨S2x16x128x2x64, .f32⟩
  | 62 => ⟨S_, .f32⟩
  | 63 => ⟨S2x18x128x2x64, .f32⟩
  | 64 => ⟨S_, .f32⟩
  | 65 => ⟨S2x18x128x2x64, .f32⟩
  | 66 => ⟨S2x18x128x2x64, .f32⟩
  | 67 => ⟨S_, .f32⟩
  | 68 => ⟨S2x18x128x2x64, .f32⟩
  | 69 => ⟨S2x18x128x2x64, .f32⟩
  | 70 => ⟨S2x16x128x2x64, .f32⟩
  | 71 => ⟨S2x16x128x2x64, .f32⟩
  | 72 => ⟨S2x16x128x2x64, .f32⟩
  | 73 => ⟨S_, .f32⟩
  | 74 => ⟨S2x18x128x2x64, .f32⟩
  | 75 => ⟨S_, .f32⟩
  | 76 => ⟨S2x18x128x2x64, .f32⟩
  | 77 => ⟨S2x18x128x2x64, .f32⟩
  | 78 => ⟨S_, .f32⟩
  | 79 => ⟨S2x18x128x2x64, .f32⟩
  | 80 => ⟨S2x18x128x2x64, .f32⟩
  | 81 => ⟨S2x2304x2x64, .f32⟩
  | 82 => ⟨S2x128x2x64, .f32⟩
  | 83 => ⟨S2x2048x2x64, .f32⟩
  | 84 => ⟨S2x128x2x64, .f32⟩
  | 85 => ⟨S2x2304x2x64, .f32⟩
  | 86 => ⟨S2x128x2x64, .f32⟩
  | 87 => ⟨S2x2048x2x64, .f32⟩
  | 88 => ⟨S2x128x2x64, .f32⟩
  | 89 => ⟨S2x16x128x2x4x64, .f32⟩
  | 90 => ⟨S2x2048x8x64, .f32⟩
  | 91 => ⟨S2x2048x512, .f32⟩
  | 92 => ⟨S2x2048x128, .f32⟩
  | 93 => ⟨S2x2048x128, .f32⟩
  | 94 => ⟨S2x4x1x1, .f32⟩
  | _ => ⟨S2x2048x8x64, .f32⟩

abbrev hbmTy (i : Nat) : BufTy := match i / 128 with
  | 0 => hbmTy0_0 i
  | 1 => hbmTy0_1 i
  | _ => ⟨S2x2048x8x64, .f32⟩

abbrev bufTy : (tb : Table) → Fin (tcTables nBuf tb) → BufTy
  | .hbm, ⟨i, _⟩ => hbmTy i
  | _, _ => ⟨S2x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_v33 : Ref sig .tc := ⟨.hbm, 46, rfl⟩
abbrev main_v34 : Ref sig .tc := ⟨.hbm, 47, rfl⟩
abbrev main_c_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_7 : Ref sig .tc := ⟨.hbm, 60, rfl⟩
abbrev main_v46 : Ref sig .tc := ⟨.hbm, 61, rfl⟩
abbrev main_v47 : Ref sig .tc := ⟨.hbm, 62, rfl⟩
abbrev main_c_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_10 : Ref sig .tc := ⟨.hbm, 74, rfl⟩
abbrev main_call0_v0 : Ref sig .tc := ⟨.hbm, 75, rfl⟩
abbrev main_v57_1 : Ref sig .tc := ⟨.hbm, 76, rfl⟩
abbrev main_call0_v2 : Ref sig .tc := ⟨.hbm, 77, rfl⟩
abbrev main_v57_0 : Ref sig .tc := ⟨.hbm, 78, rfl⟩
abbrev main_call0_cst : Ref sig .tc := ⟨.hbm, 79, rfl⟩
abbrev main_v57_2 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_13 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_16 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_cst_18 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_19 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_20 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_cst_21 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_cst_22 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_cst_23 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_24 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_cst_25 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_cst_26 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_call1_cst : Ref sig .tc := ⟨.hbm, 178, rfl⟩
abbrev main_call1_v0 : Ref sig .tc := ⟨.hbm, 179, rfl⟩
abbrev main_v139 : Ref sig .tc := ⟨.hbm, 180, rfl⟩
abbrev main_cst_27 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_cst_28 : Ref sig .tc := ⟨.hbm, 190, rfl⟩
abbrev main_v148 : Ref sig .tc := ⟨.hbm, 191, rfl⟩
abbrev main_cst_29 : Ref sig .tc := ⟨.hbm, 192, rfl⟩
abbrev main_v149 : Ref sig .tc := ⟨.hbm, 193, rfl⟩
abbrev main_v150 : Ref sig .tc := ⟨.hbm, 194, rfl⟩
abbrev main_cst_30 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_cst_31 : Ref sig .tc := ⟨.hbm, 201, rfl⟩
abbrev main_v156 : Ref sig .tc := ⟨.hbm, 202, rfl⟩
abbrev main_cst_32 : Ref sig .tc := ⟨.hbm, 203, rfl⟩
abbrev main_v157 : Ref sig .tc := ⟨.hbm, 204, rfl⟩
abbrev main_v158 : Ref sig .tc := ⟨.hbm, 205, rfl⟩
abbrev main_cst_33 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩

abbrev nD : Nat := 1
abbrev τ : Topo := Topo.v7x

variable {F : FTy → Type} [FloatOps F]
-- ==== Kernel2.lean ====
abbrev S4096x1024 : Shape := ⟨2, ![4096, 1024]⟩
abbrev S3072x1024 : Shape := ⟨2, ![3072, 1024]⟩
abbrev S4096x3072 : Shape := ⟨2, ![4096, 3072]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S3072x1024, .bf16⟩
  | .hbm, ⟨2, _⟩ => ⟨S4096x3072, .bf16⟩
  | .hbm, ⟨3, _⟩ => ⟨S4096x3072, .bf16⟩
  | .hbm, ⟨4, _⟩ => ⟨S4096x3072, .bf16⟩
  | .hbm, ⟨5, _⟩ => ⟨S4096x3072, .bf16⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4096x1024 : Shape := ⟨2, ![4096, 1024]⟩
abbrev S3072x1024 : Shape := ⟨2, ![3072, 1024]⟩
abbrev S4096x3072 : Shape := ⟨2, ![4096, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S3072x1024, .bf16⟩
  | .hbm, ⟨2, _⟩ => ⟨S4096x3072, .bf16⟩
  | .hbm, ⟨3, _⟩ => ⟨S4096x3072, .bf16⟩
  | .hbm, ⟨4, _⟩ => ⟨S3072x1024, .f32⟩
  | .hbm, ⟨5, _⟩ => ⟨S4096x3072, .f32⟩
  | .hbm, ⟨6, _⟩ => ⟨S4096x3072, .f32⟩
  | .hbm, ⟨7, _⟩ => ⟨S4096x3072, .f32⟩
  | .hbm, ⟨8, _⟩ => ⟨S4096x3072, .f32⟩
  | .hbm, ⟨9, _⟩ => ⟨S_, .f32⟩
  | .hbm, ⟨10, _⟩ => ⟨S4096x3072, .f32⟩
  | .hbm, ⟨11, _⟩ => ⟨S4096x3072, .f32⟩
  | .hbm, ⟨12, _⟩ => ⟨S_, .f32⟩
  | .hbm, ⟨13, _⟩ => ⟨S4096x3072, .f32⟩
  | .hbm, ⟨14, _⟩ => ⟨S4096x3072, .f32⟩
  | .hbm, ⟨15, _⟩ => ⟨S_, .f32⟩
  | .hbm, ⟨16, _⟩ => ⟨S4096x3072, .f32⟩
  | .hbm, ⟨17, _⟩ => ⟨S4096x3072, .f32⟩
  | .hbm, ⟨18, _⟩ => ⟨S4096x3072, .f32⟩
  | .hbm, ⟨19, _⟩ => ⟨S4096x3072, .f32⟩
  | .hbm, ⟨20, _⟩ => ⟨S4096x3072, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x3072, .f32⟩
  | .hbm, ⟨29, _⟩ => ⟨S4096x3072, .f32⟩
  | .hbm, ⟨30, _⟩ => ⟨S4096x3072, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S4096x3072, .f32⟩
  | .hbm, ⟨35, _⟩ => ⟨S4096x3072, .bf16⟩
  | .hbm, ⟨36, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== Kernel3.lean ====
abbrev S4096x3072 : Shape := ⟨2, ![4096, 3072]⟩
abbrev S4096x1024 : Shape := ⟨2, ![4096, 1024]⟩
abbrev S3072x1024 : Shape := ⟨2, ![3072, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S3072x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x3072 : Shape := ⟨2, ![4096, 3072]⟩
abbrev S4096x1024 : Shape := ⟨2, ![4096, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 12
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S3072x1024, .f32⟩
  | .hbm, ⟨5, _⟩ => ⟨S1024x3072, .f32⟩
  | .hbm, ⟨6, _⟩ => ⟨S4096x3072, .f32⟩
  | .hbm, ⟨7, _⟩ => ⟨S4096x3072, .f32⟩
  | .hbm, ⟨8, _⟩ => ⟨S3072x1024, .f32⟩
  | .hbm, ⟨9, _⟩ => ⟨S1024x3072, .f32⟩
  | .hbm, ⟨10, _⟩ => ⟨S3072x1024, .f32⟩
  | .hbm, ⟨11, _⟩ => ⟨S3072x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x3072 : Shape := ⟨2, ![4096, 3072]⟩
abbrev S4096x1024 : Shape := ⟨2, ![4096, 1024]⟩
abbrev S3072x1024 : Shape := ⟨2, ![3072, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .f32⟩
  | .hbm, ⟨2, _⟩ => ⟨S3072x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x3072 : Shape := ⟨2, ![4096, 3072]⟩
abbrev S4096x1024 : Shape := ⟨2, ![4096, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 15
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .f32⟩
  | .hbm, ⟨2, _⟩ => ⟨S4096x3072, .f32⟩
  | .hbm, ⟨3, _⟩ => ⟨S_, .f32⟩
  | .hbm, ⟨4, _⟩ => ⟨S3072x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S1024x3072, .f32⟩
  | .hbm, ⟨13, _⟩ => ⟨S3072x1024, .f32⟩
  | .hbm, ⟨14, _⟩ => ⟨S3072x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel5.lean ====
abbrev S4096x1024 : Shape := ⟨2, ![4096, 1024]⟩
abbrev S4096x4992 : Shape := ⟨2, ![4096, 4992]⟩
abbrev S1024x4992 : Shape := ⟨2, ![1024, 4992]⟩
abbrev S1024x1024 : Shape := ⟨2, ![1024, 1024]⟩
abbrev S1024x1664 : Shape := ⟨2, ![1024, 1664]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4992, .bf16⟩
  | .hbm, ⟨2, _⟩ => ⟨S1024x4992, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1664, .bf16⟩
  | .local _ .vmem, ⟨5, _⟩ => ⟨S1024x1664, .bf16⟩
  | .local _ .vmem, ⟨6, _⟩ => ⟨S1024x1664, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4096x4992 : Shape := ⟨2, ![4096, 4992]⟩
abbrev S_ : Shape := ⟨0, ![]⟩
abbrev S1024x4992 : Shape := ⟨2, ![1024, 4992]⟩
abbrev S4992x1024 : Shape := ⟨2, ![4992, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4992, .bf16⟩
  | .hbm, ⟨2, _⟩ => ⟨S4096x1024, .f32⟩
  | .hbm, ⟨3, _⟩ => ⟨S_, .f32⟩
  | .hbm, ⟨4, _⟩ => ⟨S1024x4992, .f32⟩
  | .hbm, ⟨5, _⟩ => ⟨S4096x4992, .f32⟩
  | .hbm, ⟨6, _⟩ => ⟨S4096x4992, .f32⟩
  | .hbm, ⟨7, _⟩ => ⟨S4992x1024, .f32⟩
  | .hbm, ⟨8, _⟩ => ⟨S1024x4992, .f32⟩
  | .hbm, ⟨9, _⟩ => ⟨S1024x4992, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x4992 : Shape := ⟨2, ![4096, 4992]⟩
abbrev S1024x4992 : Shape := ⟨2, ![1024, 4992]⟩
abbrev S4096x1024 : Shape := ⟨2, ![4096, 1024]⟩
abbrev S1024x1664 : Shape := ⟨2, ![1024, 1664]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4992, .bf16⟩
  | .hbm, ⟨1, _⟩ => ⟨S1024x4992, .bf16⟩
  | .hbm, ⟨2, _⟩ => ⟨S4096x1024, .f32⟩
  | .local _ .vmem, ⟨0, _⟩ => ⟨S1024x1664, .bf16⟩
  | .local _ .vmem, ⟨1, _⟩ => ⟨S1024x1664, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4992, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x4992 : Shape := ⟨2, ![4096, 4992]⟩
abbrev S1024x4992 : Shape := ⟨2, ![1024, 4992]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x4992, .bf16⟩
  | .hbm, ⟨1, _⟩ => ⟨S1024x4992, .bf16⟩
  | .hbm, ⟨2, _⟩ => ⟨S1024x4992, .f32⟩
  | .hbm, ⟨3, _⟩ => ⟨S_, .f32⟩
  | .hbm, ⟨4, _⟩ => ⟨S4096x1024, .f32⟩
  | .hbm, ⟨5, _⟩ => ⟨S4096x4992, .f32⟩
  | .hbm, ⟨6, _⟩ => ⟨S4096x4992, .f32⟩
  | .hbm, ⟨7, _⟩ => ⟨S4096x1024, .f32⟩
  | _, _ => ⟨S4096x4992, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x3072 : Shape := ⟨2, ![4096, 3072]⟩
abbrev S3072x1024 : Shape := ⟨2, ![3072, 1024]⟩
abbrev S4096x1024 : Shape := ⟨2, ![4096, 1024]⟩
abbrev S1024x3072 : Shape := ⟨2, ![1024, 3072]⟩
abbrev S3072x512 : Shape := ⟨2, ![3072, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S4096x1024, .f32⟩
  | .local _ .vmem, ⟨0, _⟩ => ⟨S1024x3072, .bf16⟩
  | .local _ .vmem, ⟨1, _⟩ => ⟨S1024x3072, .bf16⟩
  | .local _ .vmem, ⟨2, _⟩ => ⟨S3072x512, .bf16⟩
  | .local _ .vmem, ⟨3, _⟩ => ⟨S3072x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3072x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x3072 : Shape := ⟨2, ![4096, 3072]⟩
abbrev S3072x1024 : Shape := ⟨2, ![3072, 1024]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S4096x3072, .f32⟩
  | .hbm, ⟨4, _⟩ => ⟨S3072x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S512x1024, .f32⟩
  | .hbm, ⟨3, _⟩ => ⟨S_, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x512 : Shape := ⟨2, ![4096, 512]⟩
abbrev S4096x1024 : Shape := ⟨2, ![4096, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x512, .f32⟩
  | .hbm, ⟨3, _⟩ => ⟨S_, .f32⟩
  | .hbm, ⟨4, _⟩ => ⟨S512x1024, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x512, .f32⟩
  | .hbm, ⟨3, _⟩ => ⟨S512x1024, .f32⟩
  | .hbm, ⟨4, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S4096x1024 : Shape := ⟨2, ![4096, 1024]⟩
abbrev S1x1024 : Shape := ⟨2, ![1, 1024]⟩
abbrev S3072x1024 : Shape := ⟨2, ![3072, 1024]⟩
abbrev S4096x3072 : Shape := ⟨2, ![4096, 3072]⟩
abbrev S1024x1024 : Shape := ⟨2, ![1024, 1024]⟩
abbrev S512x1024 : Shape := ⟨2, ![512, 1024]⟩
abbrev S1024x512 : Shape := ⟨2, ![1024, 512]⟩
abbrev S1024 : Shape := ⟨1, ![1024]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S3072x1024, .bf16⟩
  | .hbm, ⟨3, _⟩ => ⟨S3072x1024, .bf16⟩
  | .hbm, ⟨4, _⟩ => ⟨S4096x1024, .bf16⟩
  | .hbm, ⟨5, _⟩ => ⟨S4096x3072, .bf16⟩
  | .hbm, ⟨6, _⟩ => ⟨S4096x3072, .bf16⟩
  | .hbm, ⟨7, _⟩ => ⟨S4096x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference14Ideal.lean ====
abbrev S4096x1024 : Shape := ⟨2, ![4096, 1024]⟩
abbrev S1x1024 : Shape := ⟨2, ![1, 1024]⟩
abbrev S3072x1024 : Shape := ⟨2, ![3072, 1024]⟩
abbrev S_ : Shape := ⟨0, ![]⟩
abbrev S4096 : Shape := ⟨1, ![4096]⟩
abbrev S4096x1 : Shape := ⟨2, ![4096, 1]⟩
abbrev S1024x3072 : Shape := ⟨2, ![1024, 3072]⟩
abbrev S4096x3072 : Shape := ⟨2, ![4096, 3072]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S3072x1024, .bf16⟩
  | .hbm, ⟨3, _⟩ => ⟨S3072x1024, .bf16⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S3072x1024, .f32⟩
  | .hbm, ⟨20, _⟩ => ⟨S1024x3072, .f32⟩
  | .hbm, ⟨21, _⟩ => ⟨S4096x3072, .f32⟩
  | .hbm, ⟨22, _⟩ => ⟨S3072x1024, .f32⟩
  | .hbm, ⟨23, _⟩ => ⟨S1024x3072, .f32⟩
  | .hbm, ⟨24, _⟩ => ⟨S4096x3072, .f32⟩
  | .hbm, ⟨25, _⟩ => ⟨S4096x3072, .f32⟩
  | .hbm, ⟨26, _⟩ => ⟨S4096x3072, .f32⟩
  | .hbm, ⟨27, _⟩ => ⟨S_, .f32⟩
  | .hbm, ⟨28, _⟩ => ⟨S4096x3072, .f32⟩
  | .hbm, ⟨29, _⟩ => ⟨S4096x3072, .f32⟩
  | .hbm, ⟨30, _⟩ => ⟨S_, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S4096x3072, .f32⟩
  | .hbm, ⟨35, _⟩ => ⟨S4096x1024, .bf16⟩
  | .hbm, ⟨36, _⟩ => ⟨S4096x3072, .bf16⟩
  | .hbm, ⟨37, _⟩ => ⟨S4096x3072, .bf16⟩
  | .hbm, ⟨38, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]
-- ==== Kernel15.lean ====
abbrev S4096x1024 : Shape := ⟨2, ![4096, 1024]⟩
abbrev S1x1024 : Shape := ⟨2, ![1, 1024]⟩
abbrev S1024x4992 : Shape := ⟨2, ![1024, 4992]⟩
abbrev S4096x4992 : Shape := ⟨2, ![4096, 4992]⟩
abbrev S1024x1024 : Shape := ⟨2, ![1024, 1024]⟩
abbrev S1024x1664 : Shape := ⟨2, ![1024, 1664]⟩
abbrev S1024 : Shape := ⟨1, ![1024]⟩
abbrev S1024x1 : Shape := ⟨2, ![1024, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4992, .bf16⟩
  | .hbm, ⟨3, _⟩ => ⟨S4096x1024, .bf16⟩
  | .hbm, ⟨4, _⟩ => ⟨S4096x4992, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1664, .bf16⟩
  | .local _ .vmem, ⟨4, _⟩ => ⟨S1024x1664, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1664, .f32⟩
  | .local _ .vmem, ⟨8, _⟩ => ⟨S1024x1664, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1664 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference15Ideal.lean ====
abbrev S4096x1024 : Shape := ⟨2, ![4096, 1024]⟩
abbrev S1x1024 : Shape := ⟨2, ![1, 1024]⟩
abbrev S1024x4992 : Shape := ⟨2, ![1024, 4992]⟩
abbrev S_ : Shape := ⟨0, ![]⟩
abbrev S4096 : Shape := ⟨1, ![4096]⟩
abbrev S4096x1 : Shape := ⟨2, ![4096, 1]⟩
abbrev S4096x4992 : Shape := ⟨2, ![4096, 4992]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4992, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S1024x4992, .f32⟩
  | .hbm, ⟨20, _⟩ => ⟨S4096x4992, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel16.lean ====
abbrev S4096x3072 : Shape := ⟨2, ![4096, 3072]⟩
abbrev S3072x1024 : Shape := ⟨2, ![3072, 1024]⟩
abbrev S1x1024 : Shape := ⟨2, ![1, 1024]⟩
abbrev S4096x1024 : Shape := ⟨2, ![4096, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S4096x3072, .bf16⟩
  | .hbm, ⟨1, _⟩ => ⟨S4096x3072, .bf16⟩
  | .hbm, ⟨2, _⟩ => ⟨S3072x1024, .bf16⟩
  | .hbm, ⟨3, _⟩ => ⟨S3072x1024, .bf16⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![8, 3], ![false, false]⟩

def k0_cond3 (i : grid0.Coords) : BitVec 1 :=
  let arg1 : BitVec 32 := BitVec.ofNat 32 (i 1).val
  let c2_i32_15 : BitVec 32 := 2#32
  let v20 : BitVec 1 := Scalar.cmpi .eq arg1 c2_i32_15
  let v21 : BitVec 32 := Scalar.extui v20
  let c0_i32_16 : BitVec 32 := 0#32
  let v22 : BitVec 1 := Scalar.cmpi .ne v21 c0_i32_16
  v22

def k0_cond2 (i : grid0.Coords) : BitVec 1 :=
  let arg1 : BitVec 32 := BitVec.ofNat 32 (i 1).val
  let c2_i32 : BitVec 32 := 2#32
  let v15 : BitVec 1 := Scalar.cmpi .eq arg1 c2_i32
  let arg0 : BitVec 32 := BitVec.ofNat 32 (i 0).val
  let c0_i32_13 : BitVec 32 := 0#32
  let v16 : BitVec 1 := Scalar.cmpi .eq arg0 c0_i32_13
  let v17 : BitVec 1 := Scalar.andi v15 v16
  let v18 : BitVec 32 := Scalar.extui v17
  let c0_i32_14 : BitVec 32 := 0#32
  let v19 : BitVec 1 := Scalar.cmpi .ne v18 c0_i32_14
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference16Ideal.lean ====
abbrev S4096x3072 : Shape := ⟨2, ![4096, 3072]⟩
abbrev S3072x1024 : Shape := ⟨2, ![3072, 1024]⟩
abbrev S1x1024 : Shape := ⟨2, ![1, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024x3072 : Shape := ⟨2, ![1024, 3072]⟩
abbrev S1024 : Shape := ⟨1, ![1024]⟩

abbrev nBuf : Space → Nat
  | .hbm => 62
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x3072, .bf16⟩
  | .hbm, ⟨2, _⟩ => ⟨S3072x1024, .bf16⟩
  | .hbm, ⟨3, _⟩ => ⟨S3072x1024, .bf16⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S3072x1024, .f32⟩
  | .hbm, ⟨9, _⟩ => ⟨S3072x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S1024x3072, .f32⟩
  | .hbm, ⟨30, _⟩ => ⟨S4096x3072, .f32⟩
  | .hbm, ⟨31, _⟩ => ⟨S1024x3072, .f32⟩
  | .hbm, ⟨32, _⟩ => ⟨S4096x3072, .f32⟩
  | .hbm, ⟨33, _⟩ => ⟨S4096x3072, .f32⟩
  | .hbm, ⟨34, _⟩ => ⟨S4096x3072, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Proof.Attn.Body.lean ====
/- The attention gradient's kernel body as functions on vectors: what one grid point makes of its input blocks and of the
   three blocks it accumulates into. Everything here is stated for any float type. -/
module

public import proofs.«01_k».proof.Proof.Gen.KernelIdeal.Skeleton
public import Idealize.ShloMosaic.Lib.VecWindow

@[expose] public section

noncomputable section

namespace Cert.KernelIdeal.Attn

open Idealize.ShloMosaic Idealize.SL.Sem Cert.KernelIdeal.Gen

variable {F : FTy → Type} [FloatOps F]

/-! ## One head -/

/-- The scores: scaled products of the query rows and the key band, `−∞` where the mask is off. -/
def scores (M : IVec S512x384 1) (K : FVec F S384x64 .f32) (Q : FVec F S512x64 .f32) : FVec F S512x384 .f32 := k0_pay19 M K Q

/-- The row maxima of the scores, kept as a column. -/
def rowMax (M : IVec S512x384 1) (K : FVec F S384x64 .f32) (Q : FVec F S512x64 .f32) : FVec F S512x1 .f32 := k0_pay23 M K Q

/-- The stabiliser: the larger of the row's maximum and its sink. -/
def stab (M : IVec S512x384 1) (K : FVec F S384x64 .f32) (Q : FVec F S512x64 .f32) (S : FVec F S512x1 .f32) : FVec F S512x1 .f32 :=
  maximumf (rowMax M K Q) S

/-- The share of the stabiliser's gradient that the scores' maximum takes: 1, one half at a tie, or 0. -/
def shareMax (M : IVec S512x384 1) (K : FVec F S384x64 .f32) (Q : FVec F S512x64 .f32) (S : FVec F S512x1 .f32) : FVec F S512x1 .f32 :=
  k0_pay29 (cmpf .ogt (rowMax M K Q) S) (cmpf .oeq (rowMax M K Q) S) k0_pay27 k0_pay28 (Scalar.ofBits .f32 0x3F000000#32)

/-- The share of the stabiliser's gradient that the sink takes. -/
def shareSink (M : IVec S512x384 1) (K : FVec F S384x64 .f32) (Q : FVec F S512x64 .f32) (S : FVec F S512x1 .f32) : FVec F S512x1 .f32 :=
  k0_pay30 S (rowMax M K Q)

/-- The unnormalised weights. -/
def weights (M : IVec S512x384 1) (K : FVec F S384x64 .f32) (Q : FVec F S512x64 .f32) (S : FVec F S512x1 .f32) : FVec F S512x384 .f32 :=
  k0_pay31 (scores M K Q) (stab M K Q S)

/-- The gradient of the sink, a row at a time. -/
def dSinkRows (M : IVec S512x384 1) (K V : FVec F S384x64 .f32) (Q : FVec F S512x64 .f32) (S : FVec F S512x1 .f32) (D : FVec F S512x64 .f32) : FVec F S512x1 .f32 :=
  k0_pay44 (shareSink M K Q S) (weights M K Q S) (k0_pay37 V S D (scores M K Q) (stab M K Q S)) (k0_pay39 V S D (scores M K Q) (stab M K Q S))
    (k0_pay40 V S D (scores M K Q) (stab M K Q S)) (k0_pay41 V S D (scores M K Q) (stab M K Q S))

/-- The gradient of the query rows. -/
def dQ (M : IVec S512x384 1) (K V : FVec F S384x64 .f32) (Q : FVec F S512x64 .f32) (S : FVec F S512x1 .f32) (D : FVec F S512x64 .f32) : FVec F S512x64 .f32 :=
  k0_pay46 M K (k0_pay21 M K Q) (k0_pay22 M K Q) (shareMax M K Q S) (weights M K Q S) (k0_pay37 V S D (scores M K Q) (stab M K Q S))
    (k0_pay40 V S D (scores M K Q) (stab M K Q S)) (k0_pay41 V S D (scores M K Q) (stab M K Q S))

/-- The gradient of the key band. -/
def dK (M : IVec S512x384 1) (K V : FVec F S384x64 .f32) (Q : FVec F S512x64 .f32) (S : FVec F S512x1 .f32) (D : FVec F S512x64 .f32) : FVec F S384x64 .f32 :=
  k0_pay47 M Q (k0_pay21 M K Q) (k0_pay22 M K Q) (shareMax M K Q S) (weights M K Q S) (k0_pay37 V S D (scores M K Q) (stab M K Q S))
    (k0_pay40 V S D (scores M K Q) (stab M K Q S)) (k0_pay41 V S D (scores M K Q) (stab M K Q S))

/-- The gradient of the value band. -/
def dV (M : IVec S512x384 1) (K : FVec F S384x64 .f32) (Q : FVec F S512x64 .f32) (S : FVec F S512x1 .f32) (D : FVec F S512x64 .f32) : FVec F S384x64 .f32 :=
  k0_pay36 S D (scores M K Q) (stab M K Q S)

/-! ## The blocks, a head at a time -/

/-- Sixty-four columns of a block of keys or values. -/
def cols128 (x : Vec F S1x128x128 .f32) (o : ℕ) (h : ∀ a, (![0, 0, o] : Fin 3 → ℕ) a + S1x128x64.size a ≤ S1x128x128.size a) : Vec F S1x128x64 .f32 :=
  VecWindow.window x ![0, 0, o] S1x128x64.size h

/-- Sixty-four columns of a block of queries or of the output's gradient. -/
def cols512 (x : Vec F S1x128x512 .f32) (o : ℕ) (h : ∀ a, (![0, 0, o] : Fin 3 → ℕ) a + S1x128x64.size a ≤ S1x128x512.size a) : Vec F S1x128x64 .f32 :=
  VecWindow.window x ![0, 0, o] S1x128x64.size h

/-- One cell of the sinks, or of their gradient. -/
def cell (x : Vec F S2x4x1x1 .f32) (a b : ℕ) (h : ∀ d, (![a, b, 0, 0] : Fin 4 → ℕ) d + S1x1x1x1.size d ≤ S2x4x1x1.size d) : Vec F S1x1x1x1 .f32 :=
  VecWindow.window x ![a, b, 0, 0] S1x1x1x1.size h

/-- The band of head 0: its columns of the previous, the own and the next block. -/
def band0 (x y z : Vec F S1x128x128 .f32) : FVec F S384x64 .f32 :=
  k0_pay12 (cols128 x 0 inb_S1x128x128_S1x128x64_0_0_0) (cols128 y 0 inb_S1x128x128_S1x128x64_0_0_0) (cols128 z 0 inb_S1x128x128_S1x128x64_0_0_0)

/-- The band of head 1. -/
def band1 (x y z : Vec F S1x128x128 .f32) : FVec F S384x64 .f32 :=
  k0_pay12 (cols128 x 64 inb_S1x128x128_S1x128x64_0_0_64) (cols128 y 64 inb_S1x128x128_S1x128x64_0_0_64) (cols128 z 64 inb_S1x128x128_S1x128x64_0_0_64)

/-- The rows of head 0's group: its four query heads, one below the other. -/
def group0 (x : Vec F S1x128x512 .f32) : FVec F S512x64 .f32 :=
  k0_pay13 (cols512 x 0 inb_S1x128x512_S1x128x64_0_0_0) (cols512 x 64 inb_S1x128x512_S1x128x64_0_0_64)
    (cols512 x 128 inb_S1x128x512_S1x128x64_0_0_128) (cols512 x 192 inb_S1x128x512_S1x128x64_0_0_192)

/-- The rows of head 1's group. -/
def group1 (x : Vec F S1x128x512 .f32) : FVec F S512x64 .f32 :=
  k0_pay13 (cols512 x 256 inb_S1x128x512_S1x128x64_0_0_256) (cols512 x 320 inb_S1x128x512_S1x128x64_0_0_320)
    (cols512 x 384 inb_S1x128x512_S1x128x64_0_0_384) (cols512 x 448 inb_S1x128x512_S1x128x64_0_0_448)

/-- The sinks of head 0's group, each repeated over its rows. -/
def sink0 (x : Vec F S2x4x1x1 .f32) : FVec F S512x1 .f32 :=
  k0_pay17 (k0_pay14 (cell x 0 0 inb_S2x4x1x1_S1x1x1x1_0_0_0_0)) (k0_pay15 (cell x 0 1 inb_S2x4x1x1_S1x1x1x1_0_1_0_0))
    (k0_pay16 (cell x 0 2 inb_S2x4x1x1_S1x1x1x1_0_2_0_0)) (cell x 0 3 inb_S2x4x1x1_S1x1x1x1_0_3_0_0)

/-- The sinks of head 1's group. -/
def sink1 (x : Vec F S2x4x1x1 .f32) : FVec F S512x1 .f32 :=
  k0_pay17 (k0_pay14 (cell x 1 0 inb_S2x4x1x1_S1x1x1x1_1_0_0_0)) (k0_pay15 (cell x 1 1 inb_S2x4x1x1_S1x1x1x1_1_1_0_0))
    (k0_pay16 (cell x 1 2 inb_S2x4x1x1_S1x1x1x1_1_2_0_0)) (cell x 1 3 inb_S2x4x1x1_S1x1x1x1_1_3_0_0)

/-! ## What a point leaves -/

/-- The query gradient's block: eight groups of sixty-four columns over whatever the block held. -/
def putQ (X : Vec F S1x128x512 .f32) (A B : FVec F S512x64 .f32) : Vec F S1x128x512 .f32 :=
  VecWindow.put (VecWindow.put (VecWindow.put (VecWindow.put (VecWindow.put (VecWindow.put (VecWindow.put (VecWindow.put X
    ![0, 0, 0] S1x128x64.size (shapeCast S1x128x64 (extractStridedSlice S128x64 ![0, 0] A slices_S512x64_o0_0_S128x64) shapeCasts_S128x64_S1x128x64))
    ![0, 0, 64] S1x128x64.size (k0_pay50 A)) ![0, 0, 128] S1x128x64.size (k0_pay52 A)) ![0, 0, 192] S1x128x64.size (k0_pay55 (k0_pay54 A)))
    ![0, 0, 256] S1x128x64.size (k0_pay98 B)) ![0, 0, 320] S1x128x64.size (k0_pay100 B)) ![0, 0, 384] S1x128x64.size (k0_pay103 (k0_pay102 B)))
    ![0, 0, 448] S1x128x64.size (k0_pay105 B)

/-- One block of 128 rows and 64 columns added into the accumulated gradient of the keys or values, at offsets `o`. -/
def addAt (o : Fin 3 → ℕ) (h : ∀ a, o a + S1x128x64.size a ≤ S1x2048x128.size a) (pay : Vec F S1x128x64 .f32 → Vec F S1x128x64 .f32)
    (X : Vec F S1x2048x128 .f32) : Vec F S1x2048x128 .f32 :=
  VecWindow.put X o S1x128x64.size (pay (VecWindow.window X o S1x128x64.size h))

/-- The accumulated gradient of the keys, or of the values, after a point: the bands `A` of head 0 and `B` of head 1, each cut
    into its three blocks and added at the previous, the own and the next block's rows. -/
def addBands (i : grid0.Coords) (A B : FVec F S384x64 .f32) (X : Vec F S1x2048x128 .f32) : Vec F S1x2048x128 .f32 :=
  addAt (k0_off2 i 1#32) (k0_off2_inb i 2) (k0_pay61 B) <| addAt (k0_off2 i 0#32) (k0_off2_inb i 1) (k0_pay59 B) <|
  addAt (k0_off2 i 4294967295#32) (k0_off2_inb i 0) (k0_pay57 B) <| addAt (k0_off1 i 1#32) (k0_off1_inb i 2) (k0_pay61 A) <|
  addAt (k0_off1 i 0#32) (k0_off1_inb i 1) (k0_pay59 A) <| addAt (k0_off1 i 4294967295#32) (k0_off1_inb i 0) (k0_pay57 A) X

/-- The first of the four sums of a group's rows. -/
def sum0 (A : FVec F S512x1 .f32) (v : Vec F S1x1x1x1 .f32) : Vec F S1x1x1x1 .f32 := k0_pay99 A v

/-- One cell of the sinks' accumulated gradient `X` added to by `pay`, put into `Y`, which has the other cells' new contents. -/
def addCell (X : Vec F S2x4x1x1 .f32) (a b : ℕ) (h : ∀ d, (![a, b, 0, 0] : Fin 4 → ℕ) d + S1x1x1x1.size d ≤ S2x4x1x1.size d)
    (pay : Vec F S1x1x1x1 .f32 → Vec F S1x1x1x1 .f32) (Y : Vec F S2x4x1x1 .f32) : Vec F S2x4x1x1 .f32 :=
  VecWindow.put Y ![a, b, 0, 0] S1x1x1x1.size (pay (cell X a b h))

/-- The sinks' accumulated gradient after a point: each cell plus the sum of its 128 rows. -/
def addSinks (A B : FVec F S512x1 .f32) (X : Vec F S2x4x1x1 .f32) : Vec F S2x4x1x1 .f32 :=
  addCell X 1 3 inb_S2x4x1x1_S1x1x1x1_1_3_0_0 (k0_pay56 B) <| addCell X 1 2 inb_S2x4x1x1_S1x1x1x1_1_2_0_0 (k0_pay53 B) <|
  addCell X 1 1 inb_S2x4x1x1_S1x1x1x1_1_1_0_0 (k0_pay51 B) <| addCell X 1 0 inb_S2x4x1x1_S1x1x1x1_1_0_0_0 (sum0 B) <|
  addCell X 0 3 inb_S2x4x1x1_S1x1x1x1_0_3_0_0 (k0_pay56 A) <| addCell X 0 2 inb_S2x4x1x1_S1x1x1x1_0_2_0_0 (k0_pay53 A) <|
  addCell X 0 1 inb_S2x4x1x1_S1x1x1x1_0_1_0_0 (k0_pay51 A) <| addCell X 0 0 inb_S2x4x1x1_S1x1x1x1_0_0_0_0 (sum0 A) X

/-- What a point leaves in the query gradient's block. -/
def outQ (i : grid0.Coords) (q : Vec F S1x128x512 .f32) (ka kb kc va vb vc : Vec F S1x128x128 .f32) (s : Vec F S2x4x1x1 .f32) (dy : Vec F S1x128x512 .f32)
    (X : Vec F S1x128x512 .f32) : Vec F S1x128x512 .f32 :=
  putQ X (dQ (k0_pay4 i) (band0 ka kb kc) (band0 va vb vc) (group0 q) (sink0 s) (group0 dy))
    (dQ (k0_pay4 i) (band1 ka kb kc) (band1 va vb vc) (group1 q) (sink1 s) (group1 dy))

/-- What a point leaves in the key gradient's block. -/
def outK (i : grid0.Coords) (q : Vec F S1x128x512 .f32) (ka kb kc va vb vc : Vec F S1x128x128 .f32) (s : Vec F S2x4x1x1 .f32) (dy : Vec F S1x128x512 .f32)
    (X : Vec F S1x2048x128 .f32) : Vec F S1x2048x128 .f32 :=
  addBands i (dK (k0_pay4 i) (band0 ka kb kc) (band0 va vb vc) (group0 q) (sink0 s) (group0 dy))
    (dK (k0_pay4 i) (band1 ka kb kc) (band1 va vb vc) (group1 q) (sink1 s) (group1 dy)) X

/-- What a point leaves in the value gradient's block. -/
def outV (i : grid0.Coords) (q : Vec F S1x128x512 .f32) (ka kb kc : Vec F S1x128x128 .f32) (s : Vec F S2x4x1x1 .f32) (dy : Vec F S1x128x512 .f32)
    (X : Vec F S1x2048x128 .f32) : Vec F S1x2048x128 .f32 :=
  addBands i (dV (k0_pay4 i) (band0 ka kb kc) (group0 q) (sink0 s) (group0 dy))
    (dV (k0_pay4 i) (band1 ka kb kc) (group1 q) (sink1 s) (group1 dy)) X

/-- What a point leaves in the sink gradient's block. -/
def outS (i : grid0.Coords) (q : Vec F S1x128x512 .f32) (ka kb kc va vb vc : Vec F S1x128x128 .f32) (s : Vec F S2x4x1x1 .f32) (dy : Vec F S1x128x512 .f32)
    (X : Vec F S2x4x1x1 .f32) : Vec F S2x4x1x1 .f32 :=
  addSinks (dSinkRows (k0_pay4 i) (band0 ka kb kc) (band0 va vb vc) (group0 q) (sink0 s) (group0 dy))
    (dSinkRows (k0_pay4 i) (band1 ka kb kc) (band1 va vb vc) (group1 q) (sink1 s) (group1 dy)) X

end Cert.KernelIdeal.Attn

end
-- ==== Proof.Attn.Run.lean ====
/- The body's run: from blocks held at vectors to blocks held at `outQ`, `outK`, `outV` and `outS` of them, in each of the
   three cases of its two conditionals. -/
module

public import proofs.«01_k».proof.Proof.Attn.Body
public import proofs.«01_k».proof.Proof.Gen.KernelIdeal.Frame
public import Idealize.ShloMosaic.Lib.VecWindow
public import Idealize.ShloMosaic.Lib.Tactic.Stretches
public import Idealize.ShloMosaic.Lib.Pipeline.ReadBack

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The first conditional: the point is the first of its batch. -/
abbrev cond1 (i : grid0.Coords) : Prop :=
  Scalar.cmpi .ne (Scalar.extui (Scalar.cmpi .eq (BitVec.ofNat 32 (i 1).val) 0#32)) 0#32 = 1#1

/-- The second conditional: the point is the first of the grid. -/
abbrev cond2 (i : grid0.Coords) : Prop :=
  Scalar.cmpi .ne (Scalar.extui (Scalar.andi (Scalar.cmpi .eq (BitVec.ofNat 32 (i 1).val) 0#32) (Scalar.cmpi .eq (BitVec.ofNat 32 (i 0).val) 0#32))) 0#32 = 1#1

/-- The bands' offsets, entry by entry: what one band's rows are against another's depends on the point. -/
instance closed1 (i : grid0.Coords) (c : BitVec 32) : ClosedOff (k0_off1 i c) :=
  ⟨![k0_off1 i c 0, k0_off1 i c 1, k0_off1 i c 2], by funext a; fin_cases a <;> rfl⟩

/-- The same for the second head's bands. -/
instance closed2 (i : grid0.Coords) (c : BitVec 32) : ClosedOff (k0_off2 i c) :=
  ⟨![k0_off2 i c 0, k0_off2 i c 1, k0_off2 i c 2], by funext a; fin_cases a <;> rfl⟩

/-- A store over earlier stores, read back: the payload put over what was there. -/
theorem read_put {κ : Kind} {sp : Space} {s : Shape} {e : EltTy} {Val : EltTy → Type} (v : View sig κ sp s e) (f : v.ty.Contents Val) {off size : Fin s.rank → ℕ}
    (inb : ∀ a, off a + size a ≤ s.size a) (w : (Rect.unit off size inb).shape.Idx → Val e) (L : List (View.Piece Val s e)) :
    v.read Val (v.writes Val f (⟨Rect.unit off size inb, w⟩ :: L)) = VecWindow.put (v.read Val (v.writes Val f L)) off size w :=
  View.read_writes_cons_put v f inb w L rfl

/-- A load of any contents: a window of what the view reads. -/
theorem load_window {κ : Kind} {sp : Space} {s : Shape} {e : EltTy} {Val : EltTy → Type} (v : View sig κ sp s e) (f : v.ty.Contents Val) {off size : Fin s.rank → ℕ}
    (inb : ∀ a, off a + size a ≤ s.size a) :
    v.readAt Val (Rect.unit off size inb).toLoadRect f = VecWindow.window (v.read Val f) off size inb :=
  View.readAt_unit v f inb rfl inb

/-- An accumulating store: a block loaded, changed by `pay` and stored where it was loaded from. -/
theorem read_addAt {κ : Kind} {sp : Space} (v : View sig κ sp S1x2048x128 .f32) (f : v.ty.Contents (Elt F)) (o : Fin 3 → ℕ)
    (h : ∀ a, o a + S1x128x64.size a ≤ S1x2048x128.size a) (pay : Vec F S1x128x64 .f32 → Vec F S1x128x64 .f32)
    (L : List (View.Piece (Elt F) S1x2048x128 .f32)) (X : Vec F S1x2048x128 .f32) (w : Vec F S1x128x64 .f32)
    (hX : v.read (Elt F) (v.writes (Elt F) f L) = X)
    (hw : w = pay (v.readAt (Elt F) (Rect.unit (s := S1x2048x128) o S1x128x64.size h).toLoadRect (v.writes (Elt F) f L))) :
    v.read (Elt F) (v.writes (Elt F) f (⟨Rect.unit (s := S1x2048x128) o S1x128x64.size h, w⟩ :: L)) = addAt o h pay X := by
  subst hX hw
  exact read_put v f h _ L

/-- A covered load of a block stored whole: a window of the payload. -/
theorem readCov_whole {κ : Kind} {sp : Space} {s : Shape} {e : EltTy} {Val : EltTy → Type} [∀ e, Nonempty (Val e)] (v : View sig κ sp s e)
    {o off size : Fin s.rank → ℕ} (inb' : ∀ a, o a + s.size a ≤ s.size a) (inb : ∀ a, off a + size a ≤ s.size a)
    (Z : (Rect.unit o s.size inb').shape.Idx → Val e) (L : List (View.Piece Val s e)) :
    v.readCov (⟨Rect.unit o s.size inb', Z⟩ :: L) (Rect.unit off size inb).toLoadRect = VecWindow.window (α := Val e) (s := s) Z off size inb :=
  (load_window v _ inb).trans (congrArg (fun x => VecWindow.window x off size inb) (View.read_writes_full v _ inb' Z L))

/-- A whole block put over another is itself. -/
theorem put_whole {α : Type} {s : Shape} (x : s.Idx → α) {o : Fin s.rank → ℕ} (inb : ∀ a, o a + s.size a ≤ s.size a) (Z : s.Idx → α) :
    VecWindow.put x o s.size Z = Z := by
  have e : o = fun _ => 0 := funext fun a => by have := inb a; omega
  subst e
  funext y
  have h : ∀ a, (fun _ : Fin s.rank => 0) a ≤ (y a).val ∧ (y a).val < (fun _ : Fin s.rank => 0) a + s.size a := fun a => ⟨Nat.zero_le _, by simpa using (y a).isLt⟩
  unfold VecWindow.put
  rw [dif_pos h]
  exact congrArg Z (funext fun a => Fin.ext (by simp [Rect.unitLocal]))

set_option maxHeartbeats 4000000 in
/-- A point that is not the first of its batch: all three accumulators go on. -/
theorem run_rest (c : Dev nD) (i : grid0.Coords) (arg2 : Memref sig .tc .vmem S1x128x512 .f32) (harg2 : arg2.IsWhole) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S1x128x128 .f32) (harg8 : arg8.IsWhole) (arg9 : Memref sig .tc .vmem S2x4x1x1 .f32) (harg9 : arg9.IsWhole) (arg10 : Memref sig .tc .vmem S1x128x512 .f32) (harg10 : arg10.IsWhole) (arg11 : Memref sig .tc .vmem S1x128x512 .f32) (harg11 : arg11.IsWhole) (arg12 : Memref sig .tc .vmem S1x2048x128 .f32) (harg12 : arg12.IsWhole) (arg13 : Memref sig .tc .vmem S1x2048x128 .f32) (harg13 : arg13.IsWhole) (arg14 : Memref sig .tc .vmem S2x4x1x1 .f32) (harg14 : arg14.IsWhole)
    (hc1 : ¬ cond1 i) (hc2 : ¬ cond2 i)
    (q dy X0 : Vec F S1x128x512 .f32) (ka kb kc va vb vc : Vec F S1x128x128 .f32) (s X3 : Vec F S2x4x1x1 .f32) (X1 X2 : Vec F S1x2048x128 .f32) :
    ∀ (E : Set ℕ) (K : PUnit → sProp 𝕄),
      iprop(owns (c : Thread nD τ) arg2 fullShare q ∗ owns (c : Thread nD τ) arg3 fullShare ka ∗ owns (c : Thread nD τ) arg4 fullShare kb ∗ owns (c : Thread nD τ) arg5 fullShare kc ∗ owns (c : Thread nD τ) arg6 fullShare va ∗ owns (c : Thread nD τ) arg7 fullShare vb ∗ owns (c : Thread nD τ) arg8 fullShare vc ∗ owns (c : Thread nD τ) arg9 fullShare s ∗ owns (c : Thread nD τ) arg10 fullShare dy
          ∗ owns (c : Thread nD τ) arg11 fullShare X0 ∗ owns (c : Thread nD τ) arg12 fullShare X1 ∗ owns (c : Thread nD τ) arg13 fullShare X2 ∗ owns (c : Thread nD τ) arg14 fullShare X3
          ∗ (iprop(owns (c : Thread nD τ) arg2 fullShare q ∗ owns (c : Thread nD τ) arg3 fullShare ka ∗ owns (c : Thread nD τ) arg4 fullShare kb ∗ owns (c : Thread nD τ) arg5 fullShare kc ∗ owns (c : Thread nD τ) arg6 fullShare va ∗ owns (c : Thread nD τ) arg7 fullShare vb ∗ owns (c : Thread nD τ) arg8 fullShare vc ∗ owns (c : Thread nD τ) arg9 fullShare s ∗ owns (c : Thread nD τ) arg10 fullShare dy
            ∗ owns (c : Thread nD τ) arg11 fullShare (outQ i q ka kb kc va vb vc s dy X0) ∗ owns (c : Thread nD τ) arg12 fullShare (outK i q ka kb kc va vb vc s dy X1) ∗ owns (c : Thread nD τ) arg13 fullShare (outV i q ka kb kc s dy X2) ∗ owns (c : Thread nD τ) arg14 fullShare (outS i q ka kb kc va vb vc s dy X3)) -∗ K ⟨⟩))
        ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
  intro E K
  simp only [cc0_attn_bwd_eq_skeleton]; unfold cc0_attn_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    sl_unfold_run_names
    simp only [↓ read_put, ↓ load_window, View.writes_nil, Memref.IsWhole.read_unread]
    (simp only [outQ, outK, outV, outS, putQ, addBands, addSinks, addCell, sum0, cell, scores, stab, weights, dSinkRows, dQ, dK, dV, band0, band1, group0, group1, sink0, sink1, cols128, cols512]; sl_open_pay; rfl)
  isplitl [H10]
  · iexists _; isplitr; swap; · iexact H10
    ipureintro
    sl_unfold_run_names
    simp only [↓ read_put, ↓ load_window, View.writes_nil, Memref.IsWhole.read_unread]
    (simp only [outQ, outK, outV, outS, putQ, addBands, addSinks, addCell, sum0, cell, scores, stab, weights, dSinkRows, dQ, dK, dV, band0, band1, group0, group1, sink0, sink1, cols128, cols512]; sl_open_pay; exact (read_addAt _ _ _ _ _ _ _ _ (read_addAt _ _ _ _ _ _ _ _ (read_addAt _ _ _ _ _ _ _ _ (read_addAt _ _ _ _ _ _ _ _ (read_addAt _ _ _ _ _ _ _ _ (read_addAt _ _ _ _ _ _ _ _ (harg12.read_unread _) rfl) rfl) rfl) rfl) rfl) rfl))
  isplitl [H11]
  · iexists _; isplitr; swap; · iexact H11
    ipureintro
    sl_unfold_run_names
    simp only [↓ read_put, ↓ load_window, View.writes_nil, Memref.IsWhole.read_unread]
    (simp only [outQ, outK, outV, outS, putQ, addBands, addSinks, addCell, sum0, cell, scores, stab, weights, dSinkRows, dQ, dK, dV, band0, band1, group0, group1, sink0, sink1, cols128, cols512]; sl_open_pay; exact (read_addAt _ _ _ _ _ _ _ _ (read_addAt _ _ _ _ _ _ _ _ (read_addAt _ _ _ _ _ _ _ _ (read_addAt _ _ _ _ _ _ _ _ (read_addAt _ _ _ _ _ _ _ _ (read_addAt _ _ _ _ _ _ _ _ (harg13.read_unread _) rfl) rfl) rfl) rfl) rfl) rfl))
  iexists _; isplitr; swap; · iexact H12
  ipureintro
  sl_unfold_run_names
  simp only [↓ read_put, ↓ load_window, View.writes_nil, Memref.IsWhole.read_unread]
  (simp only [outQ, outK, outV, outS, putQ, addBands, addSinks, addCell, sum0, cell, scores, stab, weights, dSinkRows, dQ, dK, dV, band0, band1, group0, group1, sink0, sink1, cols128, cols512]; sl_open_pay; rfl)
set_option maxHeartbeats 4000000 in
/-- The first point of a later batch: the keys' and the values' gradients begin at zero. -/
theorem run_batch (c : Dev nD) (i : grid0.Coords) (arg2 : Memref sig .tc .vmem S1x128x512 .f32) (harg2 : arg2.IsWhole) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S1x128x128 .f32) (harg8 : arg8.IsWhole) (arg9 : Memref sig .tc .vmem S2x4x1x1 .f32) (harg9 : arg9.IsWhole) (arg10 : Memref sig .tc .vmem S1x128x512 .f32) (harg10 : arg10.IsWhole) (arg11 : Memref sig .tc .vmem S1x128x512 .f32) (harg11 : arg11.IsWhole) (arg12 : Memref sig .tc .vmem S1x2048x128 .f32) (harg12 : arg12.IsWhole) (arg13 : Memref sig .tc .vmem S1x2048x128 .f32) (harg13 : arg13.IsWhole) (arg14 : Memref sig .tc .vmem S2x4x1x1 .f32) (harg14 : arg14.IsWhole)
    (hc1 : cond1 i) (hc2 : ¬ cond2 i)
    (q dy X0 : Vec F S1x128x512 .f32) (ka kb kc va vb vc : Vec F S1x128x128 .f32) (s X3 : Vec F S2x4x1x1 .f32) (X1 X2 : Vec F S1x2048x128 .f32) :
    ∀ (E : Set ℕ) (K : PUnit → sProp 𝕄),
      iprop(owns (c : Thread nD τ) arg2 fullShare q ∗ owns (c : Thread nD τ) arg3 fullShare ka ∗ owns (c : Thread nD τ) arg4 fullShare kb ∗ owns (c : Thread nD τ) arg5 fullShare kc ∗ owns (c : Thread nD τ) arg6 fullShare va ∗ owns (c : Thread nD τ) arg7 fullShare vb ∗ owns (c : Thread nD τ) arg8 fullShare vc ∗ owns (c : Thread nD τ) arg9 fullShare s ∗ owns (c : Thread nD τ) arg10 fullShare dy
          ∗ owns (c : Thread nD τ) arg11 fullShare X0 ∗ owns (c : Thread nD τ) arg12 fullShare X1 ∗ owns (c : Thread nD τ) arg13 fullShare X2 ∗ owns (c : Thread nD τ) arg14 fullShare X3
          ∗ (iprop(owns (c : Thread nD τ) arg2 fullShare q ∗ owns (c : Thread nD τ) arg3 fullShare ka ∗ owns (c : Thread nD τ) arg4 fullShare kb ∗ owns (c : Thread nD τ) arg5 fullShare kc ∗ owns (c : Thread nD τ) arg6 fullShare va ∗ owns (c : Thread nD τ) arg7 fullShare vb ∗ owns (c : Thread nD τ) arg8 fullShare vc ∗ owns (c : Thread nD τ) arg9 fullShare s ∗ owns (c : Thread nD τ) arg10 fullShare dy
            ∗ owns (c : Thread nD τ) arg11 fullShare (outQ i q ka kb kc va vb vc s dy X0) ∗ owns (c : Thread nD τ) arg12 fullShare (outK i q ka kb kc va vb vc s dy (k0_pay5)) ∗ owns (c : Thread nD τ) arg13 fullShare (outV i q ka kb kc s dy (k0_pay6)) ∗ owns (c : Thread nD τ) arg14 fullShare (outS i q ka kb kc va vb vc s dy X3)) -∗ K ⟨⟩))
        ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
  intro E K
  simp only [cc0_attn_bwd_eq_skeleton]; unfold cc0_attn_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    sl_unfold_run_names
    simp only [↓ read_put, ↓ load_window, View.writes_nil, Memref.IsWhole.read_unread]
    (simp only [outQ, outK, outV, outS, putQ, addBands, addSinks, addCell, sum0, cell, scores, stab, weights, dSinkRows, dQ, dK, dV, band0, band1, group0, group1, sink0, sink1, cols128, cols512]; sl_open_pay; rfl)
  isplitl [H10]
  · iexists _; isplitr; swap; · iexact H10
    ipureintro
    sl_unfold_run_names
    simp only [↓ read_put, ↓ load_window, View.writes_nil, Memref.IsWhole.read_unread]
    (simp only [outQ, outK, outV, outS, putQ, addBands, addSinks, addCell, sum0, cell, scores, stab, weights, dSinkRows, dQ, dK, dV, band0, band1, group0, group1, sink0, sink1, cols128, cols512]; sl_open_pay; exact (read_addAt _ _ _ _ _ _ _ _ (read_addAt _ _ _ _ _ _ _ _ (read_addAt _ _ _ _ _ _ _ _ (read_addAt _ _ _ _ _ _ _ _ (read_addAt _ _ _ _ _ _ _ _ (read_addAt _ _ _ _ _ _ _ _ (View.read_writes_full _ _ _ _ _) rfl) rfl) rfl) rfl) rfl) rfl))
  isplitl [H11]
  · iexists _; isplitr; swap; · iexact H11
    ipureintro
    sl_unfold_run_names
    simp only [↓ read_put, ↓ load_window, View.writes_nil, Memref.IsWhole.read_unread]
    (simp only [outQ, outK, outV, outS, putQ, addBands, addSinks, addCell, sum0, cell, scores, stab, weights, dSinkRows, dQ, dK, dV, band0, band1, group0, group1, sink0, sink1, cols128, cols512]; sl_open_pay; exact (read_addAt _ _ _ _ _ _ _ _ (read_addAt _ _ _ _ _ _ _ _ (read_addAt _ _ _ _ _ _ _ _ (read_addAt _ _ _ _ _ _ _ _ (read_addAt _ _ _ _ _ _ _ _ (read_addAt _ _ _ _ _ _ _ _ (View.read_writes_full _ _ _ _ _) rfl) rfl) rfl) rfl) rfl) rfl))
  iexists _; isplitr; swap; · iexact H12
  ipureintro
  sl_unfold_run_names
  simp only [↓ read_put, ↓ load_window, View.writes_nil, Memref.IsWhole.read_unread]
  (simp only [outQ, outK, outV, outS, putQ, addBands, addSinks, addCell, sum0, cell, scores, stab, weights, dSinkRows, dQ, dK, dV, band0, band1, group0, group1, sink0, sink1, cols128, cols512]; sl_open_pay; rfl)
set_option maxHeartbeats 4000000 in
/-- The first point of the grid: all three accumulators begin at zero. -/
theorem run_first (c : Dev nD) (i : grid0.Coords) (arg2 : Memref sig .tc .vmem S1x128x512 .f32) (harg2 : arg2.IsWhole) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S1x128x128 .f32) (harg8 : arg8.IsWhole) (arg9 : Memref sig .tc .vmem S2x4x1x1 .f32) (harg9 : arg9.IsWhole) (arg10 : Memref sig .tc .vmem S1x128x512 .f32) (harg10 : arg10.IsWhole) (arg11 : Memref sig .tc .vmem S1x128x512 .f32) (harg11 : arg11.IsWhole) (arg12 : Memref sig .tc .vmem S1x2048x128 .f32) (harg12 : arg12.IsWhole) (arg13 : Memref sig .tc .vmem S1x2048x128 .f32) (harg13 : arg13.IsWhole) (arg14 : Memref sig .tc .vmem S2x4x1x1 .f32) (harg14 : arg14.IsWhole)
    (hc1 : cond1 i) (hc2 : cond2 i)
    (q dy X0 : Vec F S1x128x512 .f32) (ka kb kc va vb vc : Vec F S1x128x128 .f32) (s X3 : Vec F S2x4x1x1 .f32) (X1 X2 : Vec F S1x2048x128 .f32) :
    ∀ (E : Set ℕ) (K : PUnit → sProp 𝕄),
      iprop(owns (c : Thread nD τ) arg2 fullShare q ∗ owns (c : Thread nD τ) arg3 fullShare ka ∗ owns (c : Thread nD τ) arg4 fullShare kb ∗ owns (c : Thread nD τ) arg5 fullShare kc ∗ owns (c : Thread nD τ) arg6 fullShare va ∗ owns (c : Thread nD τ) arg7 fullShare vb ∗ owns (c : Thread nD τ) arg8 fullShare vc ∗ owns (c : Thread nD τ) arg9 fullShare s ∗ owns (c : Thread nD τ) arg10 fullShare dy
          ∗ owns (c : Thread nD τ) arg11 fullShare X0 ∗ owns (c : Thread nD τ) arg12 fullShare X1 ∗ owns (c : Thread nD τ) arg13 fullShare X2 ∗ owns (c : Thread nD τ) arg14 fullShare X3
          ∗ (iprop(owns (c : Thread nD τ) arg2 fullShare q ∗ owns (c : Thread nD τ) arg3 fullShare ka ∗ owns (c : Thread nD τ) arg4 fullShare kb ∗ owns (c : Thread nD τ) arg5 fullShare kc ∗ owns (c : Thread nD τ) arg6 fullShare va ∗ owns (c : Thread nD τ) arg7 fullShare vb ∗ owns (c : Thread nD τ) arg8 fullShare vc ∗ owns (c : Thread nD τ) arg9 fullShare s ∗ owns (c : Thread nD τ) arg10 fullShare dy
            ∗ owns (c : Thread nD τ) arg11 fullShare (outQ i q ka kb kc va vb vc s dy X0) ∗ owns (c : Thread nD τ) arg12 fullShare (outK i q ka kb kc va vb vc s dy (k0_pay5)) ∗ owns (c : Thread nD τ) arg13 fullShare (outV i q ka kb kc s dy (k0_pay6)) ∗ owns (c : Thread nD τ) arg14 fullShare (outS i q ka kb kc va vb vc s dy (k0_pay7))) -∗ K ⟨⟩))
        ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
  intro E K
  simp only [cc0_attn_bwd_eq_skeleton]; unfold cc0_attn_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    sl_unfold_run_names
    simp only [↓ read_put, ↓ load_window, View.writes_nil, Memref.IsWhole.read_unread]
    (simp only [outQ, outK, outV, outS, putQ, addBands, addSinks, addCell, sum0, cell, scores, stab, weights, dSinkRows, dQ, dK, dV, band0, band1, group0, group1, sink0, sink1, cols128, cols512]; sl_open_pay; rfl)
  isplitl [H10]
  · iexists _; isplitr; swap; · iexact H10
    ipureintro
    sl_unfold_run_names
    simp only [↓ read_put, ↓ load_window, View.writes_nil, Memref.IsWhole.read_unread]
    (simp only [outQ, outK, outV, outS, putQ, addBands, addSinks, addCell, sum0, cell, scores, stab, weights, dSinkRows, dQ, dK, dV, band0, band1, group0, group1, sink0, sink1, cols128, cols512]; sl_open_pay; exact (read_addAt _ _ _ _ _ _ _ _ (read_addAt _ _ _ _ _ _ _ _ (read_addAt _ _ _ _ _ _ _ _ (read_addAt _ _ _ _ _ _ _ _ (read_addAt _ _ _ _ _ _ _ _ (read_addAt _ _ _ _ _ _ _ _ (View.read_writes_full _ _ _ _ _) rfl) rfl) rfl) rfl) rfl) rfl))
  isplitl [H11]
  · iexists _; isplitr; swap; · iexact H11
    ipureintro
    sl_unfold_run_names
    simp only [↓ read_put, ↓ load_window, View.writes_nil, Memref.IsWhole.read_unread]
    (simp only [outQ, outK, outV, outS, putQ, addBands, addSinks, addCell, sum0, cell, scores, stab, weights, dSinkRows, dQ, dK, dV, band0, band1, group0, group1, sink0, sink1, cols128, cols512]; sl_open_pay; exact (read_addAt _ _ _ _ _ _ _ _ (read_addAt _ _ _ _ _ _ _ _ (read_addAt _ _ _ _ _ _ _ _ (read_addAt _ _ _ _ _ _ _ _ (read_addAt _ _ _ _ _ _ _ _ (read_addAt _ _ _ _ _ _ _ _ (View.read_writes_full _ _ _ _ _) rfl) rfl) rfl) rfl) rfl) rfl))
  iexists _; isplitr; swap; · iexact H12
  ipureintro
  sl_unfold_run_names
  (simp (disch := decide) only [↓ View.readCov_skip, ↓ readCov_whole]); simp only [↓ read_put, ↓ load_window, View.writes_nil, Memref.IsWhole.read_unread]
  (rw [put_whole X3 inb_S2x4x1x1_S2x4x1x1_0_0_0_0]; simp only [outQ, outK, outV, outS, putQ, addBands, addSinks, addCell, sum0, cell, scores, stab, weights, dSinkRows, dQ, dK, dV, band0, band1, group0, group1, sink0, sink1, cols128, cols512]; sl_open_pay; rfl)

end Cert.KernelIdeal.Attn

end
-- ==== Proof.Attn.Frame.lean ====
/- The launch: the proof data of the one region, the body's obligation at every point, the run of the whole program and the two
   frames. Three of the outputs are accumulated over points: what they hold after a point is defined by recursion. -/
module

public import proofs.«01_k».proof.Proof.Attn.Run
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The first coordinate is the batch. -/
theorem coord_batch (t : Fin cfg0.N) : (grid0.coords t 0).val = t.val / 16 := by
  have ht : t.val < 32 := Nat.lt_of_lt_of_eq t.isLt N_0
  have e : (grid0.coords t 0).val = t.val / 16 % 2 := Pipeline.Grid.coords_val t 0 (by decide) rfl
  omega

/-- The second coordinate is the block of rows. -/
theorem coord_block (t : Fin cfg0.N) : (grid0.coords t 1).val = t.val % 16 := by
  have e : (grid0.coords t 1).val = t.val / 1 % 16 := Pipeline.Grid.coords_val t 1 (by decide) rfl
  omega

/-- The first conditional is taken at the first point of a batch. -/
theorem cond1_iff (t : Fin cfg0.N) : cond1 (grid0.coords t) ↔ t.val % 16 = 0 := by
  have ht : t.val < 32 := Nat.lt_of_lt_of_eq t.isLt N_0
  simp only [cond1, coord_block]
  word_cmp

/-- The second conditional is taken at the first point of all. -/
theorem cond2_iff (t : Fin cfg0.N) : cond2 (grid0.coords t) ↔ t.val = 0 := by
  have ht : t.val < 32 := Nat.lt_of_lt_of_eq t.isLt N_0
  simp only [cond2, coord_block, coord_batch]
  word_cmp

/-! ## The query gradient's block is rewritten whole -/

/-- A position lies in sixty-four columns of the block when its column does. -/
theorem in_cols (y : S1x128x512.Idx) (o : ℕ) :
    (∀ a, (![0, 0, o] : Fin 3 → ℕ) a ≤ (y a).val ∧ (y a).val < (![0, 0, o] : Fin 3 → ℕ) a + S1x128x64.size a) ↔ o ≤ (y 2).val ∧ (y 2).val < o + 64 := by
  have h0 : (y 0).val < 1 := (y 0).isLt
  have h1 : (y 1).val < 128 := (y 1).isLt
  constructor
  · intro h; exact h 2
  · intro h a
    fin_cases a
    · exact ⟨Nat.zero_le _, h0⟩
    · exact ⟨Nat.zero_le _, by show (y 1).val < 0 + 128; omega⟩
    · exact h

/-- The eight column groups cover the block, so what it held before does not matter. -/
theorem putQ_any (X X' : Vec F S1x128x512 .f32) (A B : FVec F S512x64 .f32) : putQ X A B = putQ X' A B := by
  funext y
  have h2 : (y 2).val < 512 := (y 2).isLt
  unfold putQ VecWindow.put
  simp only [in_cols]
  split_ifs <;> first | rfl | (exfalso; omega)

/-! ## What the outputs hold after a point -/

/-- The key gradient's block after point `n`. -/
def accK (c : Dev nD) : (n : ℕ) → n < cfg0.N → Vec F S1x2048x128 .f32
  | 0, h => outK (grid0.coords ⟨0, h⟩) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) k0_pay5
  | n + 1, h => outK (grid0.coords ⟨n + 1, h⟩) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (if (n + 1) % 16 = 0 then k0_pay5 else accK c n (Nat.lt_of_succ_lt h))

/-- The value gradient's block after point `n`. -/
def accV (c : Dev nD) : (n : ℕ) → n < cfg0.N → Vec F S1x2048x128 .f32
  | 0, h => outV (grid0.coords ⟨0, h⟩) (iblk m c 0 ⟨0, h⟩) (iblk m c 1 ⟨0, h⟩) (iblk m c 2 ⟨0, h⟩) (iblk m c 3 ⟨0, h⟩) (iblk m c 7 ⟨0, h⟩) (iblk m c 8 ⟨0, h⟩) k0_pay6
  | n + 1, h => outV (grid0.coords ⟨n + 1, h⟩) (iblk m c 0 ⟨n + 1, h⟩) (iblk m c 1 ⟨n + 1, h⟩) (iblk m c 2 ⟨n + 1, h⟩) (iblk m c 3 ⟨n + 1, h⟩) (iblk m c 7 ⟨n + 1, h⟩) (iblk m c 8 ⟨n + 1, h⟩) (if (n + 1) % 16 = 0 then k0_pay6 else accV c n (Nat.lt_of_succ_lt h))

/-- The sinks' gradient after point `n`. -/
def accS (c : Dev nD) : (n : ℕ) → n < cfg0.N → Vec F S2x4x1x1 .f32
  | 0, h => outS (grid0.coords ⟨0, h⟩) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) k0_pay7
  | n + 1, h => outS (grid0.coords ⟨n + 1, h⟩) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (accS c n (Nat.lt_of_succ_lt h))

/-- The query gradient's block after point `t`. -/
def accQ (c : Dev nD) (t : Fin cfg0.N) : Vec F S1x128x512 .f32 := outQ (grid0.coords t) (iblk m c 0 t) (iblk m c 1 t) (iblk m c 2 t) (iblk m c 3 t) (iblk m c 4 t) (iblk m c 5 t) (iblk m c 6 t) (iblk m c 7 t) (iblk m c 8 t) (fun _ => Scalar.ofBits .f32 0#32)

theorem accK_first (c : Dev nD) (t : Fin cfg0.N) (h : t.val % 16 = 0) : accK m c t.val t.isLt = outK (grid0.coords t) (iblk m c 0 t) (iblk m c 1 t) (iblk m c 2 t) (iblk m c 3 t) (iblk m c 4 t) (iblk m c 5 t) (iblk m c 6 t) (iblk m c 7 t) (iblk m c 8 t) k0_pay5 := by
  obtain ⟨n, hn⟩ := t
  cases n with
  | zero => rfl
  | succ n => show outK _ _ _ _ _ _ _ _ _ _ (if (n + 1) % 16 = 0 then _ else _) = _; rw [if_pos h]

theorem accK_next (c : Dev nD) (t : Fin cfg0.N) (h : t.val % 16 ≠ 0) :
    accK m c t.val t.isLt = outK (grid0.coords t) (iblk m c 0 t) (iblk m c 1 t) (iblk m c 2 t) (iblk m c 3 t) (iblk m c 4 t) (iblk m c 5 t) (iblk m c 6 t) (iblk m c 7 t) (iblk m c 8 t) (accK m c (t.val - 1) (Nat.lt_of_le_of_lt (Nat.sub_le _ _) t.isLt)) := by
  obtain ⟨n, hn⟩ := t
  cases n with
  | zero => exact absurd rfl h
  | succ n => show outK _ _ _ _ _ _ _ _ _ _ (if (n + 1) % 16 = 0 then _ else _) = _; rw [if_neg h]; rfl

theorem accV_first (c : Dev nD) (t : Fin cfg0.N) (h : t.val % 16 = 0) : accV m c t.val t.isLt = outV (grid0.coords t) (iblk m c 0 t) (iblk m c 1 t) (iblk m c 2 t) (iblk m c 3 t) (iblk m c 7 t) (iblk m c 8 t) k0_pay6 := by
  obtain ⟨n, hn⟩ := t
  cases n with
  | zero => rfl
  | succ n => show outV _ _ _ _ _ _ _ (if (n + 1) % 16 = 0 then _ else _) = _; rw [if_pos h]

theorem accV_next (c : Dev nD) (t : Fin cfg0.N) (h : t.val % 16 ≠ 0) :
    accV m c t.val t.isLt = outV (grid0.coords t) (iblk m c 0 t) (iblk m c 1 t) (iblk m c 2 t) (iblk m c 3 t) (iblk m c 7 t) (iblk m c 8 t) (accV m c (t.val - 1) (Nat.lt_of_le_of_lt (Nat.sub_le _ _) t.isLt)) := by
  obtain ⟨n, hn⟩ := t
  cases n with
  | zero => exact absurd rfl h
  | succ n => show outV _ _ _ _ _ _ _ (if (n + 1) % 16 = 0 then _ else _) = _; rw [if_neg h]; rfl

theorem accS_first (c : Dev nD) (t : Fin cfg0.N) (h : t.val = 0) : accS m c t.val t.isLt = outS (grid0.coords t) (iblk m c 0 t) (iblk m c 1 t) (iblk m c 2 t) (iblk m c 3 t) (iblk m c 4 t) (iblk m c 5 t) (iblk m c 6 t) (iblk m c 7 t) (iblk m c 8 t) k0_pay7 := by
  obtain ⟨n, hn⟩ := t
  cases n with
  | zero => rfl
  | succ n => exact absurd h (Nat.succ_ne_zero n)

theorem accS_next (c : Dev nD) (t : Fin cfg0.N) (h : t.val ≠ 0) :
    accS m c t.val t.isLt = outS (grid0.coords t) (iblk m c 0 t) (iblk m c 1 t) (iblk m c 2 t) (iblk m c 3 t) (iblk m c 4 t) (iblk m c 5 t) (iblk m c 6 t) (iblk m c 7 t) (iblk m c 8 t) (accS m c (t.val - 1) (Nat.lt_of_le_of_lt (Nat.sub_le _ _) t.isLt)) := by
  obtain ⟨n, hn⟩ := t
  cases n with
  | zero => exact absurd rfl h
  | succ n => rfl

/-! ## The proof data -/

/-- The proof data on core `c`: the arrays as the region finds them, each input's buffer at its block after a point, the outputs at
    what the recursions say; an array that several inputs read is shared among them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => accQ m c t
    | ⟨10, _⟩ => accK m c t.val t.isLt
    | ⟨11, _⟩ => accV m c t.val t.isLt
    | ⟨12, _⟩ => accS m c t.val t.isLt
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = accQ m c t := by dsimp only [dats]
theorem after0_10 (c : Dev nD) (t : Fin cfg0.N) : (dats m 0 c).after 10 t = accK m c t.val t.isLt := by dsimp only [dats]
theorem after0_11 (c : Dev nD) (t : Fin cfg0.N) : (dats m 0 c).after 11 t = accV m c t.val t.isLt := by dsimp only [dats]
theorem after0_12 (c : Dev nD) (t : Fin cfg0.N) : (dats m 0 c).after 12 t = accS m c t.val t.isLt := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d

/-- At the first point of a batch the key gradient's buffer holds anything. -/
theorem before0_10_any (c : Dev nD) (t : Fin cfg0.N) (h : t.val % 16 = 0) (d) : (dats m 0 c).before 10 t d = d :=
  (dats m 0 c).before_out_reset 10 rfl t (by
    by_cases h0 : t.val = 0
    · exact .inl h0
    · exact .inr ⟨h0, (flush0_10 _).mpr (by show (t.val - 1) % 16 = 15; omega)⟩) d

/-- Elsewhere it holds what the point before left. -/
theorem before0_10_acc (c : Dev nD) (t : Fin cfg0.N) (h : t.val % 16 ≠ 0) (d) :
    (dats m 0 c).before 10 t d = accK m c (t.val - 1) (Nat.lt_of_le_of_lt (Nat.sub_le _ _) t.isLt) :=
  ((dats m 0 c).before_out_kept 10 rfl t (by intro h0; rw [h0] at h; exact h rfl)
    (by rw [Bool.eq_false_iff]; intro hf; have := (flush0_10 _).mp hf; have e : (t.val - 1) % 16 = 15 := this; omega)
    (fun _ => rfl) (fun _ _ => rfl) d).trans (after0_10 m c _)

/-- At the first point of a batch the value gradient's buffer holds anything. -/
theorem before0_11_any (c : Dev nD) (t : Fin cfg0.N) (h : t.val % 16 = 0) (d) : (dats m 0 c).before 11 t d = d :=
  (dats m 0 c).before_out_reset 11 rfl t (by
    by_cases h0 : t.val = 0
    · exact .inl h0
    · exact .inr ⟨h0, (flush0_11 _).mpr (by show (t.val - 1) % 16 = 15; omega)⟩) d

/-- Elsewhere it holds what the point before left. -/
theorem before0_11_acc (c : Dev nD) (t : Fin cfg0.N) (h : t.val % 16 ≠ 0) (d) :
    (dats m 0 c).before 11 t d = accV m c (t.val - 1) (Nat.lt_of_le_of_lt (Nat.sub_le _ _) t.isLt) :=
  ((dats m 0 c).before_out_kept 11 rfl t (by intro h0; rw [h0] at h; exact h rfl)
    (by rw [Bool.eq_false_iff]; intro hf; have := (flush0_11 _).mp hf; have e : (t.val - 1) % 16 = 15 := this; omega)
    (fun _ => rfl) (fun _ _ => rfl) d).trans (after0_11 m c _)

/-- At the first point of all the sinks' buffer holds anything. -/
theorem before0_12_any (c : Dev nD) (t : Fin cfg0.N) (h : t.val = 0) (d) : (dats m 0 c).before 12 t d = d :=
  (dats m 0 c).before_out_reset 12 rfl t (.inl h) d

/-- Elsewhere it holds what the point before left. -/
theorem before0_12_acc (c : Dev nD) (t : Fin cfg0.N) (h : t.val ≠ 0) (d) :
    (dats m 0 c).before 12 t d = accS m c (t.val - 1) (Nat.lt_of_le_of_lt (Nat.sub_le _ _) t.isLt) :=
  ((dats m 0 c).before_out_kept 12 rfl t h
    (by
      have ht : t.val < 32 := Nat.lt_of_lt_of_eq t.isLt N_0
      rw [Bool.eq_false_iff]; intro hf; have := (flush0_12 _).mp hf; have e : (t.val - 1) % 32 = 31 := this; omega)
    (fun _ => rfl) (fun _ _ => rfl) d).trans (after0_12 m c _)

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 1600000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  by_cases h1 : t.val % 16 = 0
  · by_cases h2 : t.val = 0
    · simp only [before0_10_any m c t h1, before0_11_any m c t h1, before0_12_any m c t h2]
      rw [accK_first m c t h1, accV_first m c t h1, accS_first m c t h2]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run_first c (grid0.coords t) _ _ _ _ _ _ _ _ _ _ _ _ _ _ _ _ _ _ _ _ _ _ _ _ _ _ ((cond1_iff t).mpr h1) ((cond2_iff t).mpr h2) (iblk m c 0 t) (iblk m c 8 t) _ (iblk m c 1 t) (iblk m c 2 t) (iblk m c 3 t) (iblk m c 4 t) (iblk m c 5 t) (iblk m c 6 t) (iblk m c 7 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iintro ⟨H0, H1, H2, H3, H4, H5, H6, H7, H8, H9, H10, H11, H12⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · rw [show accQ m c t = outQ (grid0.coords t) (iblk m c 0 t) (iblk m c 1 t) (iblk m c 2 t) (iblk m c 3 t) (iblk m c 4 t) (iblk m c 5 t) (iblk m c 6 t) (iblk m c 7 t) (iblk m c 8 t) ((dats m 0 c).before 9 t d9) from putQ_any _ _ _ _]; iexact H9
      isplitl [H10]; · iexact H10
      isplitl [H11]; · iexact H11
      iexact H12
    · simp only [before0_10_any m c t h1, before0_11_any m c t h1, before0_12_acc m c t h2]
      rw [accK_first m c t h1, accV_first m c t h1, accS_next m c t h2]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run_batch c (grid0.coords t) _ _ _ _ _ _ _ _ _ _ _ _ _ _ _ _ _ _ _ _ _ _ _ _ _ _ ((cond1_iff t).mpr h1) (fun h => h2 ((cond2_iff t).mp h)) (iblk m c 0 t) (iblk m c 8 t) _ (iblk m c 1 t) (iblk m c 2 t) (iblk m c 3 t) (iblk m c 4 t) (iblk m c 5 t) (iblk m c 6 t) (iblk m c 7 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iintro ⟨H0, H1, H2, H3, H4, H5, H6, H7, H8, H9, H10, H11, H12⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · rw [show accQ m c t = outQ (grid0.coords t) (iblk m c 0 t) (iblk m c 1 t) (iblk m c 2 t) (iblk m c 3 t) (iblk m c 4 t) (iblk m c 5 t) (iblk m c 6 t) (iblk m c 7 t) (iblk m c 8 t) ((dats m 0 c).before 9 t d9) from putQ_any _ _ _ _]; iexact H9
      isplitl [H10]; · iexact H10
      isplitl [H11]; · iexact H11
      iexact H12
  · have h2 : t.val ≠ 0 := by intro h; rw [h] at h1; exact h1 rfl
    simp only [before0_10_acc m c t h1, before0_11_acc m c t h1, before0_12_acc m c t h2]
    rw [accK_next m c t h1, accV_next m c t h1, accS_next m c t h2]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run_rest c (grid0.coords t) _ _ _ _ _ _ _ _ _ _ _ _ _ _ _ _ _ _ _ _ _ _ _ _ _ _ (fun h => h1 ((cond1_iff t).mp h)) (fun h => h2 ((cond2_iff t).mp h)) (iblk m c 0 t) (iblk m c 8 t) _ (iblk m c 1 t) (iblk m c 2 t) (iblk m c 3 t) (iblk m c 4 t) (iblk m c 5 t) (iblk m c 6 t) (iblk m c 7 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · rw [show accQ m c t = outQ (grid0.coords t) (iblk m c 0 t) (iblk m c 1 t) (iblk m c 2 t) (iblk m c 3 t) (iblk m c 4 t) (iblk m c 5 t) (iblk m c 6 t) (iblk m c 7 t) (iblk m c 8 t) ((dats m 0 c).before 9 t d9) from putQ_any _ _ _ _]; iexact H9
    isplitl [H10]; · iexact H10
    isplitl [H11]; · iexact H11
    iexact H12

/-- The body table's row at point `t`'s slots is the body there. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frames -/

set_option backward.isDefEq.respectTransparency.types false in
/-- Every execution of the program ends, every window's array holding what the proof data say and every counter at zero. -/
theorem run_quiescent : θ_run defs (onTc (τ := τ) (main (F := F))) (s₀ m ρ) (fun r => Pipeline.FramePost cfgs (dats m) 0 (V m) r ∧ r.2.sem = fun _ => 0) :=
  Pipeline.θ_run_frame_shared cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl) (Q' := _) (hQ' := fun _ h => h)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame, for any floats: the arguments end unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.KernelIdeal.Attn

end
-- ==== Proof.Finite.lean ====
/- What the preconditions' tests say of a number: its size is below infinity, so it is real. -/
module

public import Idealize.ShloMosaic.Lib.Pointwise
public import Idealize.ShloMosaic.Lib.IdealHost

@[expose] public section

noncomputable section

namespace Cert.Finite

open Idealize.ShloMosaic

/-- A number whose size is below infinity is real. -/
theorem real_of_lt (x : EReal) (h : BitVec.ofBool (decide (max x (-x) < Ideal.ofBits .f32 0x7F800000#32)) = 1#1) : ∃ r : ℝ, x = r := by
  have e : Ideal.ofBits .f32 0x7F800000#32 = ⊤ := by simp [Ideal.ofBits, Ideal.ieee]
  have hlt : max x (-x) < ⊤ := by
    rw [e] at h
    by_contra hc
    rw [decide_eq_false hc] at h
    exact absurd h (by decide)
  induction x with
  | bot => exact absurd hlt (by simp)
  | coe r => exact ⟨r, rfl⟩
  | top => exact absurd hlt (by simp)

/-- Both of two bits are set where their conjunction is. -/
theorem and_both {a b : BitVec 1} (h : IntOp.andi a b = 1#1) : a = 1#1 ∧ b = 1#1 := by
  rcases BitVec.eq_zero_or_eq_one a with rfl | rfl <;> rcases BitVec.eq_zero_or_eq_one b with rfl | rfl <;> revert h <;> decide

end Cert.Finite

end
-- ==== Proof.Attn.Spec.lean ====
/- One row of the windowed attention with a sink, and its gradient, over the extended reals: a query row `q`, a band of 384 keys `K` and
   values `V`, a sink `s`, the row `dy` of the output's gradient, and a mask `M` over the band. The definitions are the chain rule
   written out; the theorems are what the two programs' texts differ by. -/
module

public import Idealize.ShloMosaic.Lib.Pointwise
public import Idealize.ShloMosaic.Lib.IdealHost

@[expose] public section

noncomputable section

namespace Cert.Row

open Idealize.ShloMosaic

/-- The word of `−∞`, as an extended real. -/
abbrev low : EReal := Ideal.ofBits FTy.f32 0xFF800000#32

/-- The word of one eighth, the scores' scale. -/
abbrev eighth : EReal := Ideal.ofBits FTy.f32 0x3E000000#32

/-- The word of one half. -/
abbrev half : EReal := Ideal.ofBits FTy.f32 0x3F000000#32

theorem low_eq : low = ⊥ := by simp [low, Ideal.ofBits, Ideal.ieee]

variable (M : Fin 384 → BitVec 1) (q : Fin 64 → EReal) (K V : Fin 384 → Fin 64 → EReal) (s : EReal) (dy : Fin 64 → EReal)

/-- The score against key `k`. -/
def sc (k : Fin 384) : EReal := Scalar.select (M k) ((∑ d, q d * K k d) * eighth) low

/-- The largest score. -/
def mx : EReal := Finset.fold max low (fun k => sc M q K k) Finset.univ

/-- The stabiliser. -/
def st : EReal := max (mx M q K) s

/-- The unnormalised weight of key `k`. -/
def p (k : Fin 384) : EReal := Ideal.exp (sc M q K k - st M q K s)

/-- The unnormalised weight of the sink. -/
def es : EReal := Ideal.exp (s - st M q K s)

/-- The denominator. -/
def den : EReal := ∑ k, p M q K s k + es M q K s

/-- The weight of key `k`. -/
def w (k : Fin 384) : EReal := p M q K s k * Ideal.div 1 (den M q K s)

/-- The gradient of key `k`'s weight. -/
def dp (k : Fin 384) : EReal := ∑ d, dy d * V k d

/-- The gradient of the denominator. -/
def t : EReal := -((∑ k, p M q K s k * dp V dy k) * Ideal.div 1 (den M q K s * den M q K s))

/-- The gradient of the sink's exponent. -/
def e : EReal := t M q K V s dy * es M q K s

/-- The gradient of the exponent of key `k`. -/
def u (k : Fin 384) : EReal := (dp V dy k * Ideal.div 1 (den M q K s) + t M q K V s dy) * p M q K s k

/-- The gradient of the stabiliser. -/
def dm : EReal := -e M q K V s dy + ∑ k, -u M q K V s dy k

/-- The largest score's share of the stabiliser's gradient. -/
def shareMax : EReal := if s < mx M q K then 1 else if mx M q K = s then half else 0

/-- The sink's share of the stabiliser's gradient. -/
def shareSink : EReal := if mx M q K < s then 1 else if s = mx M q K then half else 0

/-- The gradient of the sink. -/
def dsink : EReal := e M q K V s dy + dm M q K V s dy * shareSink M q K s

/-- Whether key `k` attains the largest score, as a number. -/
def top (k : Fin 384) : EReal := if sc M q K k = mx M q K then 1 else 0

/-- How many keys attain it. -/
def count : EReal := ∑ k, top M q K k

/-- The gradient of the scaled score of key `k`. -/
def ds (k : Fin 384) : EReal :=
  Scalar.select (M k) ((u M q K V s dy k + Ideal.div (dm M q K V s dy * shareMax M q K s) (count M q K) * top M q K k) * eighth) 0

/-! ## Only the keys inside the mask matter -/

section Masked

variable {M} {q} {K V} {s} {dy} {K' V' : Fin 384 → Fin 64 → EReal}

theorem select_off {b : BitVec 1} (h : b ≠ 1#1) (x y : EReal) : Scalar.select b x y = y := by
  rcases BitVec.eq_zero_or_eq_one b with rfl | rfl
  · rfl
  · exact absurd rfl h

theorem sc_off {k : Fin 384} (h : M k ≠ 1#1) : sc M q K k = ⊥ := by rw [sc, select_off h, low_eq]

theorem p_off {k : Fin 384} (h : M k ≠ 1#1) : p M q K s k = 0 := by
  rw [p, sc_off h, sub_eq_add_neg, EReal.bot_add, Ideal.exp_bot]

theorem w_off {k : Fin 384} (h : M k ≠ 1#1) : w M q K s k = 0 := by rw [w, p_off h, zero_mul]

theorem u_off {k : Fin 384} (h : M k ≠ 1#1) : u M q K V s dy k = 0 := by rw [u, p_off h, mul_zero]

theorem ds_off {k : Fin 384} (h : M k ≠ 1#1) : ds M q K V s dy k = 0 := by rw [ds, select_off h]

variable (hK : ∀ k, M k = 1#1 → K k = K' k) (hV : ∀ k, M k = 1#1 → V k = V' k)

include hK in
theorem sc_congr : sc M q K = sc M q K' := by
  funext k
  by_cases h : M k = 1#1
  · simp only [sc, hK k h]
  · rw [sc_off h, sc_off h]

include hK in
theorem mx_congr : mx M q K = mx M q K' := by simp only [mx, sc_congr hK]

include hK in
theorem st_congr : st M q K s = st M q K' s := by simp only [st, mx_congr hK]

include hK in
theorem p_congr : p M q K s = p M q K' s := by funext k; simp only [p, sc_congr hK, st_congr hK]

include hK in
theorem es_congr : es M q K s = es M q K' s := by simp only [es, st_congr hK]

include hK in
theorem den_congr : den M q K s = den M q K' s := by simp only [den, p_congr hK, es_congr hK]

include hK in
theorem w_congr : w M q K s = w M q K' s := by funext k; simp only [w, p_congr hK, den_congr hK]

include hK hV in
theorem t_congr : t M q K V s dy = t M q K' V' s dy := by
  have h : (fun k => p M q K s k * dp V dy k) = fun k => p M q K' s k * dp V' dy k := by
    funext k
    by_cases h : M k = 1#1
    · simp only [p_congr hK, dp, hV k h]
    · rw [p_off h, p_off h, zero_mul, zero_mul]
  simp only [t, h, den_congr hK]

include hK hV in
theorem e_congr : e M q K V s dy = e M q K' V' s dy := by simp only [e, t_congr hK hV, es_congr hK]

include hK hV in
theorem u_congr : u M q K V s dy = u M q K' V' s dy := by
  funext k
  by_cases h : M k = 1#1
  · simp only [u, p_congr hK, den_congr hK, t_congr hK hV, dp, hV k h]
  · rw [u_off h, u_off h]

include hK hV in
theorem dm_congr : dm M q K V s dy = dm M q K' V' s dy := by simp only [dm, e_congr hK hV, u_congr hK hV]

include hK hV in
theorem dsink_congr : dsink M q K V s dy = dsink M q K' V' s dy := by
  simp only [dsink, e_congr hK hV, dm_congr hK hV, shareSink, mx_congr hK]

include hK hV in
theorem ds_congr : ds M q K V s dy = ds M q K' V' s dy := by
  funext k
  simp only [ds, u_congr hK hV, dm_congr hK hV, shareMax, mx_congr hK, count, top, sc_congr hK]

end Masked

/-! ## The denominator of finite inputs is a positive real -/

/-- A sum of reals, read as extended reals. -/
theorem coe_total {n : ℕ} (g : Fin n → ℝ) : ((∑ k, g k : ℝ) : EReal) = ∑ k, (g k : EReal) := by
  classical
  have : ∀ S : Finset (Fin n), ((∑ k ∈ S, g k : ℝ) : EReal) = ∑ k ∈ S, (g k : EReal) := fun S => by
    induction S using Finset.induction_on with
    | empty => simp
    | insert a S ha ih => rw [Finset.sum_insert ha, Finset.sum_insert ha, EReal.coe_add, ih]
  exact this _

theorem exp_fin (r : ℝ) : Ideal.exp r = ((Real.exp r : ℝ) : EReal) := rfl

theorem eighth_fin : ∃ r : ℝ, eighth = r := by
  refine ⟨1/8, ?_⟩
  simp [eighth, Ideal.ofBits, Ideal.ieee]
  rw [← EReal.coe_mul]
  norm_num

theorem sum_fin {n : ℕ} (f : Fin n → EReal) (h : ∀ k, ∃ r : ℝ, f k = r) : ∃ r : ℝ, ∑ k, f k = r := by
  choose g hg using h
  exact ⟨∑ k, g k, by rw [coe_total]; exact Finset.sum_congr rfl fun k _ => hg k⟩

variable {M} {q} {K V} {s} {dy}

section Finite

variable (hq : ∀ d, ∃ r : ℝ, q d = r) (hK : ∀ k, M k = 1#1 → ∀ d, ∃ r : ℝ, K k d = r) (hs : ∃ r : ℝ, s = r)

include hq hK in
/-- A score is real, or `−∞`. -/
theorem sc_fin (k : Fin 384) : sc M q K k = ⊥ ∨ ∃ r : ℝ, sc M q K k = r := by
  by_cases h : M k = 1#1
  · right
    obtain ⟨a, ha⟩ := sum_fin (fun d => q d * K k d) fun d => by
      obtain ⟨x, hx⟩ := hq d
      obtain ⟨y, hy⟩ := hK k h d
      exact ⟨x * y, by rw [hx, hy, EReal.coe_mul]⟩
    obtain ⟨c, hc⟩ := eighth_fin
    refine ⟨a * c, ?_⟩
    rw [sc, h, EReal.coe_mul, ← ha, ← hc]; rfl
  · exact .inl (sc_off h)

theorem fold_fin {n : ℕ} (f : Fin n → EReal) (h : ∀ k, f k = ⊥ ∨ ∃ r : ℝ, f k = r) (S : Finset (Fin n)) :
    Finset.fold max ⊥ f S = ⊥ ∨ ∃ r : ℝ, Finset.fold max ⊥ f S = r := by
  classical
  induction S using Finset.induction_on with
  | empty => exact .inl rfl
  | insert a S ha ih =>
    rw [Finset.fold_insert ha]
    rcases max_choice (f a) (Finset.fold max ⊥ f S) with e | e <;> rw [e]
    · exact h a
    · exact ih

include hq hK hs in
/-- The stabiliser is real. -/
theorem st_fin : ∃ r : ℝ, st M q K s = r := by
  obtain ⟨b, hb⟩ := hs
  have h := fold_fin (fun k => sc M q K k) (sc_fin hq hK) Finset.univ
  rw [st, mx, low_eq, hb]
  rcases h with h | ⟨r, h⟩
  · exact ⟨b, by rw [h]; exact max_eq_right bot_le⟩
  · exact ⟨max r b, by rw [h]; exact (EReal.coe_strictMono.monotone.map_max).symm⟩

include hq hK hs in
/-- The denominator is a positive real. -/
theorem den_fin : ∃ r : ℝ, 0 < r ∧ den M q K s = r := by
  obtain ⟨m, hm⟩ := st_fin hq hK hs
  obtain ⟨b, hb⟩ := hs
  have hp : ∀ k, ∃ r : ℝ, 0 ≤ r ∧ p M q K s k = r := fun k => by
    rcases sc_fin hq hK k with h | ⟨r, h⟩
    · exact ⟨0, le_rfl, by rw [p, h, sub_eq_add_neg, EReal.bot_add, Ideal.exp_bot, EReal.coe_zero]⟩
    · exact ⟨Real.exp (r - m), (Real.exp_pos _).le, by rw [p, h, hm, ← EReal.coe_sub, exp_fin]⟩
  choose g hg0 hg using hp
  refine ⟨∑ k, g k + Real.exp (b - m), add_pos_of_nonneg_of_pos (Finset.sum_nonneg fun k _ => hg0 k) (Real.exp_pos _), ?_⟩
  rw [den, es, hm, EReal.coe_add, coe_total]
  congr 1
  · exact Finset.sum_congr rfl fun k _ => hg k
  · rw [hb, ← EReal.coe_sub, exp_fin]

/-- Dividing by a denominator is multiplying by its inverse. -/
theorem div_den {d : EReal} (h : ∃ r : ℝ, 0 < r ∧ d = r) (x : EReal) : Ideal.div x d = x * Ideal.div 1 d := by
  obtain ⟨r, hr, rfl⟩ := h
  have h0 : (r : EReal) ≠ 0 := by simpa using hr.ne'
  simp only [Ideal.div, h0, if_false, one_mul]

/-- A factor that is a nonnegative real comes out of a sum. -/
theorem sum_factor {n : ℕ} (f : Fin n → EReal) (c : EReal) (h0 : 0 ≤ c) (h1 : c ≠ ⊤) : ∑ k, f k * c = (∑ k, f k) * c := by
  classical
  have : ∀ S : Finset (Fin n), ∑ k ∈ S, f k * c = (∑ k ∈ S, f k) * c := fun S => by
    induction S using Finset.induction_on with
    | empty => simp
    | insert a S ha ih => rw [Finset.sum_insert ha, Finset.sum_insert ha, ih, EReal.right_distrib_of_nonneg_of_ne_top h0 h1]
  exact this _

/-- The reciprocal of a denominator's square is a nonnegative real. -/
theorem inv_sq {d : EReal} (h : ∃ r : ℝ, 0 < r ∧ d = r) : 0 ≤ Ideal.div 1 (d * d) ∧ Ideal.div 1 (d * d) ≠ ⊤ := by
  obtain ⟨r, hr, rfl⟩ := h
  have h1 : (r * r : ℝ) ≠ 0 := (mul_pos hr hr).ne'
  rw [← EReal.coe_mul, Ideal.div_coe h1, one_mul]
  exact ⟨EReal.coe_nonneg.mpr (by positivity), EReal.coe_ne_top _⟩

include hq hK hs in
/-- The denominator's gradient as the division's rule writes it: the factor inside the sum. -/
theorem t_inside : -(∑ k, dp V dy k * Ideal.div 1 (den M q K s * den M q K s) * p M q K s k) = t M q K V s dy := by
  have h := inv_sq (den_fin hq hK hs)
  rw [t, ← sum_factor _ _ h.1 h.2]
  congr 1
  refine Finset.sum_congr rfl fun k _ => ?_
  rw [mul_comm (dp V dy k), mul_assoc, mul_comm (dp V dy k), mul_comm]

end Finite

/-- A comparison's bit, widened and converted, is one or zero. -/
theorem widened_bit (c : Prop) [Decidable c] : (FloatOps.sitofp FTy.f32 (BitVec.setWidth 32 (BitVec.ofBool (decide c))) : Ideal FTy.f32) = if c then (1 : EReal) else 0 := by
  show (((BitVec.setWidth 32 (BitVec.ofBool (decide c))).toInt : ℝ) : EReal) = _
  by_cases h : c
  · simp [h]
  · simp [h]

/-- A comparison's bit, converted, is one or zero. -/
theorem plain_bit (c : Prop) [Decidable c] : (FloatOps.uitofp FTy.f32 (BitVec.ofBool (decide c)) : Ideal FTy.f32) = if c then (1 : EReal) else 0 := by
  show (((BitVec.ofBool (decide c)).toNat : ℝ) : EReal) = _
  by_cases h : c
  · simp [h]
  · simp [h]

end Cert.Row

end
-- ==== Proof.Attn.Grad.lean ====
/- The gradients of the windowed attention with a sink, as sums over rows and bands: the queries come in blocks of 128 rows, each
   block against the band of 384 keys that begins one block before it, with zeros where the band lies outside the sequence. -/
module

public import proofs.«01_k».proof.Proof.Attn.Spec

@[expose] public section

set_option maxRecDepth 16384

noncomputable section

namespace Cert.Grad

open Idealize.ShloMosaic Cert

/-- Row `i` of block `n` among all rows. -/
abbrev pos (n : Fin 16) (i : Fin 128) : Fin 2048 := ⟨128 * n.val + i.val, by omega⟩

/-- Query head `g` of key head `h`. -/
abbrev head (h : Fin 2) (g : Fin 4) : Fin 8 := ⟨4 * h.val + g.val, by omega⟩

/-- Where key `k` of block `n`'s band lies, as a word. -/
abbrev place (n : Fin 16) (k : Fin 384) : BitVec 32 :=
  IntOp.addi (IntOp.subi (IntOp.muli (BitVec.ofNat 32 n.val) 128#32) 128#32) (BitVec.ofNat 32 k.val)

/-- Whether row `i` of block `n` sees key `k` of its band: at most 128 apart, and inside the sequence. -/
def mask (n : Fin 16) (i : Fin 128) (k : Fin 384) : BitVec 1 :=
  IntOp.andi
    (IntOp.andi
      (IntOp.cmpi .sle (IntOp.absi (IntOp.subi (IntOp.addi (IntOp.muli (BitVec.ofNat 32 n.val) 128#32) (BitVec.ofNat 32 i.val)) (place n k))) 128#32)
      (IntOp.cmpi .sge (place n k) 0#32))
    (IntOp.cmpi .slt (place n k) 2048#32)

theorem and_three {a b c : BitVec 1} (h : IntOp.andi (IntOp.andi a b) c = 1#1) : b = 1#1 ∧ c = 1#1 := by
  rcases BitVec.eq_zero_or_eq_one a with rfl | rfl <;> rcases BitVec.eq_zero_or_eq_one b with rfl | rfl <;>
    rcases BitVec.eq_zero_or_eq_one c with rfl | rfl <;> revert h <;> decide

theorem place_range : ∀ (n : Fin 16) (k : Fin 384), IntOp.cmpi .sge (place n k) 0#32 = 1#1 → IntOp.cmpi .slt (place n k) 2048#32 = 1#1 →
    128 ≤ 128 * n.val + k.val ∧ 128 * n.val + k.val < 2176 := by decide +kernel

/-- A key that is seen is inside the sequence. -/
theorem mask_range {n : Fin 16} {i : Fin 128} {k : Fin 384} (h : mask n i k = 1#1) : 128 ≤ 128 * n.val + k.val ∧ 128 * n.val + k.val < 2176 :=
  place_range n k (and_three h).1 (and_three h).2

variable (Q : Fin 2 → Fin 2048 → Fin 8 → Fin 64 → EReal) (K V : Fin 2 → Fin 2048 → Fin 2 → Fin 64 → EReal) (S : Fin 8 → EReal)
  (D : Fin 2 → Fin 2048 → Fin 512 → EReal)

/-- A query row. -/
def qrow (b : Fin 2) (n : Fin 16) (h : Fin 2) (g : Fin 4) (i : Fin 128) : Fin 64 → EReal := fun d => Q b (pos n i) (head h g) d

/-- The same row of the output's gradient. -/
def drow (b : Fin 2) (n : Fin 16) (h : Fin 2) (g : Fin 4) (i : Fin 128) : Fin 64 → EReal :=
  fun d => D b (pos n i) ⟨64 * (4 * h.val + g.val) + d.val, by omega⟩

/-- Block `n`'s band of keys, or of values. -/
def band (b : Fin 2) (n : Fin 16) (h : Fin 2) : Fin 384 → Fin 64 → EReal := fun k d =>
  if hk : 128 ≤ 128 * n.val + k.val ∧ 128 * n.val + k.val < 2176 then K b ⟨128 * n.val + k.val - 128, by omega⟩ h d else 0

/-- The gradient of the score of row `i` against key `k`. -/
def DS (b : Fin 2) (n : Fin 16) (h : Fin 2) (g : Fin 4) (i : Fin 128) (k : Fin 384) : EReal :=
  Row.ds (mask n i) (qrow Q b n h g i) (band K b n h) (band V b n h) (S (head h g)) (drow D b n h g i) k

/-- The weight of key `k` in row `i`. -/
def W (b : Fin 2) (n : Fin 16) (h : Fin 2) (g : Fin 4) (i : Fin 128) (k : Fin 384) : EReal :=
  Row.w (mask n i) (qrow Q b n h g i) (band K b n h) (S (head h g)) k

/-- The sink's gradient from row `i`. -/
def DSink (b : Fin 2) (n : Fin 16) (h : Fin 2) (g : Fin 4) (i : Fin 128) : EReal :=
  Row.dsink (mask n i) (qrow Q b n h g i) (band K b n h) (band V b n h) (S (head h g)) (drow D b n h g i)

/-- The gradient of a query row. -/
def gradQ (b : Fin 2) (n : Fin 16) (h : Fin 2) (g : Fin 4) (i : Fin 128) (d : Fin 64) : EReal := ∑ k, DS Q K V S D b n h g i k * band K b n h k d

/-- The gradient of block `n`'s band of keys. -/
def bandK (b : Fin 2) (n : Fin 16) (h : Fin 2) (k : Fin 384) (d : Fin 64) : EReal := ∑ g, ∑ i, DS Q K V S D b n h g i k * qrow Q b n h g i d

/-- The gradient of block `n`'s band of values. -/
def bandV (b : Fin 2) (n : Fin 16) (h : Fin 2) (k : Fin 384) (d : Fin 64) : EReal := ∑ g, ∑ i, W Q K S b n h g i k * drow D b n h g i d

/-- Row `i` of block `B`, summed over the up to three bands it lies in. -/
def gather (X : Fin 16 → Fin 384 → EReal) (B : Fin 16) (i : Fin 128) : EReal :=
  (if h : 1 ≤ B.val then X ⟨B.val - 1, by omega⟩ ⟨256 + i.val, by omega⟩ else 0) + X B ⟨128 + i.val, by omega⟩
    + (if h : B.val + 1 < 16 then X ⟨B.val + 1, h⟩ ⟨i.val, by omega⟩ else 0)

/-- The gradient of a key row. -/
def gradK (b : Fin 2) (B : Fin 16) (i : Fin 128) (h : Fin 2) (d : Fin 64) : EReal := gather (fun n k => bandK Q K V S D b n h k d) B i

/-- The gradient of a value row. -/
def gradV (b : Fin 2) (B : Fin 16) (i : Fin 128) (h : Fin 2) (d : Fin 64) : EReal := gather (fun n k => bandV Q K S D b n h k d) B i

/-- The gradient of a sink. -/
def gradS (h : Fin 2) (g : Fin 4) : EReal := ∑ b, ∑ n, ∑ i, DSink Q K V S D b n h g i

theorem DS_off {b n h g i k} (hk : ¬ (128 ≤ 128 * n.val + k.val ∧ 128 * n.val + k.val < 2176)) : DS Q K V S D b n h g i k = 0 :=
  Row.ds_off fun e => hk (mask_range e)

theorem W_off {b n h g i k} (hk : ¬ (128 ≤ 128 * n.val + k.val ∧ 128 * n.val + k.val < 2176)) : W Q K S b n h g i k = 0 :=
  Row.w_off fun e => hk (mask_range e)

/-- Outside the sequence a band's gradient is zero. -/
theorem bandK_off {b n h k d} (hk : ¬ (128 ≤ 128 * n.val + k.val ∧ 128 * n.val + k.val < 2176)) : bandK Q K V S D b n h k d = 0 := by
  simp only [bandK, DS_off Q K V S D hk, zero_mul, Finset.sum_const_zero]

theorem bandV_off {b n h k d} (hk : ¬ (128 ≤ 128 * n.val + k.val ∧ 128 * n.val + k.val < 2176)) : bandV Q K S D b n h k d = 0 := by
  simp only [bandV, W_off Q K S hk, zero_mul, Finset.sum_const_zero]

/-- A band's contributions to one row, block after block, each placed by clipping its neighbours into the sequence: they sum to
    `gather`, if what lies outside the sequence is zero. -/
theorem gather_clipped (X : Fin 16 → Fin 384 → EReal) (hX : ∀ n k, ¬ (128 ≤ 128 * n.val + k.val ∧ 128 * n.val + k.val < 2176) → X n k = 0)
    (B : Fin 16) (i : Fin 128) :
    ∑ n : Fin 16, ((if B.val = n.val - 1 then X n ⟨i.val, by omega⟩ else 0) + (if B.val = n.val then X n ⟨128 + i.val, by omega⟩ else 0)
      + (if B.val = min (n.val + 1) 15 then X n ⟨256 + i.val, by omega⟩ else 0)) = gather X B i := by
  rw [Finset.sum_add_distrib, Finset.sum_add_distrib, gather]
  have e1 : ∑ n : Fin 16, (if B.val = n.val - 1 then X n ⟨i.val, by omega⟩ else 0)
      = if h : B.val + 1 < 16 then X ⟨B.val + 1, h⟩ ⟨i.val, by omega⟩ else 0 := by
    split_ifs with h
    · rw [Finset.sum_eq_single ⟨B.val + 1, h⟩]
      · rw [if_pos (by show B.val = B.val + 1 - 1; omega)]
      · intro n _ hn
        have hn' : n.val ≠ B.val + 1 := fun e => hn (Fin.ext e)
        split_ifs with hc
        · exact hX _ _ (by show ¬ (128 ≤ 128 * n.val + i.val ∧ _); omega)
        · rfl
      · intro hc; exact absurd (Finset.mem_univ _) hc
    · refine Finset.sum_eq_zero fun n _ => ?_
      split_ifs with hc
      · exact hX _ _ (by show ¬ (128 ≤ 128 * n.val + i.val ∧ _); omega)
      · rfl
  have e2 : ∑ n : Fin 16, (if B.val = n.val then X n ⟨128 + i.val, by omega⟩ else 0) = X B ⟨128 + i.val, by omega⟩ := by
    rw [Finset.sum_eq_single B]
    · rw [if_pos rfl]
    · intro n _ hn
      rw [if_neg fun e => hn (Fin.ext e.symm)]
    · intro hc; exact absurd (Finset.mem_univ _) hc
  have e3 : ∑ n : Fin 16, (if B.val = min (n.val + 1) 15 then X n ⟨256 + i.val, by omega⟩ else 0)
      = if h : 1 ≤ B.val then X ⟨B.val - 1, by omega⟩ ⟨256 + i.val, by omega⟩ else 0 := by
    split_ifs with h
    · rw [Finset.sum_eq_single ⟨B.val - 1, by omega⟩]
      · rw [if_pos (by show B.val = min (B.val - 1 + 1) 15; omega)]
      · intro n _ hn
        have hn' : n.val ≠ B.val - 1 := fun e => hn (Fin.ext e)
        split_ifs with hc
        · exact hX _ _ (by show ¬ (_ ∧ 128 * n.val + (256 + i.val) < 2176); omega)
        · rfl
      · intro hc; exact absurd (Finset.mem_univ _) hc
    · refine Finset.sum_eq_zero fun n _ => ?_
      rw [if_neg (by omega)]
  rw [e1, e2, e3, add_comm, add_assoc, add_comm (X B _)]

/-- A sum over `a * b` numbers, as `a` sums of `b`. -/
theorem sum_split {a b n : ℕ} (hn : a * b = n) (f : Fin n → EReal) :
    ∑ x, f x = ∑ i : Fin a, ∑ j : Fin b, f ⟨b * i.val + j.val, by
      have h1 := i.isLt; have h2 := j.isLt
      calc b * i.val + j.val < b * i.val + b := by omega
        _ = b * (i.val + 1) := by ring
        _ ≤ b * a := Nat.mul_le_mul_left _ h1
        _ = n := by rw [mul_comm, hn]⟩ := by
  subst hn
  rw [← Fintype.sum_prod_type', ← finProdFinEquiv.sum_comp]
  refine Finset.sum_congr rfl fun p _ => congrArg f (Fin.ext ?_)
  show p.2.val + b * p.1.val = b * p.1.val + p.2.val
  omega

/-! ## Every index of the results is a row of a block and a column of a head -/

theorem cover_q (j : (⟨3, ![2, 2048, 512]⟩ : Shape).Idx) : ∃ (b : Fin 2) (n : Fin 16) (h : Fin 2) (g : Fin 4) (i : Fin 128) (d : Fin 64),
    j = ix3 b (pos n i) ⟨64 * (4 * h.val + g.val) + d.val, by omega⟩ := by
  have h0 : (j 0).val < 2 := (j 0).isLt
  have h1 : (j 1).val < 2048 := (j 1).isLt
  have h2 : (j 2).val < 512 := (j 2).isLt
  refine ⟨⟨(j 0).val, h0⟩, ⟨(j 1).val / 128, by omega⟩, ⟨(j 2).val / 256, by omega⟩, ⟨(j 2).val / 64 % 4, by omega⟩, ⟨(j 1).val % 128, by omega⟩,
    ⟨(j 2).val % 64, by omega⟩, funext fun a => Fin.ext ?_⟩
  match a with
  | ⟨0, _⟩ => rfl
  | ⟨1, _⟩ => show (j 1).val = 128 * ((j 1).val / 128) + (j 1).val % 128; omega
  | ⟨2, _⟩ => show (j 2).val = 64 * (4 * ((j 2).val / 256) + (j 2).val / 64 % 4) + (j 2).val % 64; omega

theorem cover_k (j : (⟨3, ![2, 2048, 128]⟩ : Shape).Idx) : ∃ (b : Fin 2) (n : Fin 16) (i : Fin 128) (h : Fin 2) (d : Fin 64),
    j = ix3 b (pos n i) ⟨64 * h.val + d.val, by omega⟩ := by
  have h0 : (j 0).val < 2 := (j 0).isLt
  have h1 : (j 1).val < 2048 := (j 1).isLt
  have h2 : (j 2).val < 128 := (j 2).isLt
  refine ⟨⟨(j 0).val, h0⟩, ⟨(j 1).val / 128, by omega⟩, ⟨(j 1).val % 128, by omega⟩, ⟨(j 2).val / 64, by omega⟩, ⟨(j 2).val % 64, by omega⟩,
    funext fun a => Fin.ext ?_⟩
  match a with
  | ⟨0, _⟩ => rfl
  | ⟨1, _⟩ => show (j 1).val = 128 * ((j 1).val / 128) + (j 1).val % 128; omega
  | ⟨2, _⟩ => show (j 2).val = 64 * ((j 2).val / 64) + (j 2).val % 64; omega

theorem cover_s (j : (⟨4, ![2, 4, 1, 1]⟩ : Shape).Idx) : ∃ (h : Fin 2) (g : Fin 4), j = ix4 h g 0 0 := by
  have h2 : (j 2).val < 1 := (j 2).isLt
  have h3 : (j 3).val < 1 := (j 3).isLt
  refine ⟨j 0, j 1, funext fun a => Fin.ext ?_⟩
  match a with
  | ⟨0, _⟩ => rfl
  | ⟨1, _⟩ => rfl
  | ⟨2, _⟩ => show (j 2).val = 0; omega
  | ⟨3, _⟩ => show (j 3).val = 0; omega

end Cert.Grad

end
-- ==== Proof.Attn.Blocks.lean ====
/- The blocks a grid point is handed, element by element, as elements of the arguments. Point `t` is block `t % 16` of the rows of
   batch `t / 16`; the keys and values come in three blocks, the previous, the own and the next, kept inside the sequence at its ends. -/
module

public import proofs.«01_k».proof.Proof.Attn.Frame
public import Idealize.ShloMosaic.Lib.Pointwise
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic Idealize.SL.Sem Cert.KernelIdeal.Gen

variable {F : FTy → Type} [FloatOps F] (m : (ℓ : Loc nD τ sig) → Buf (Elt F) ℓ) (c : Dev nD)

/-- The block before block `n`, or block 0. -/
abbrev prev (n : ℕ) : ℕ := n - 1

/-- The block after block `n`, or block 15. -/
abbrev next (n : ℕ) : ℕ := min (n + 1) 15

/-- Every input window's block index at every point. -/
theorem places : ∀ t : Fin cfg0.N, win0_0.index t = ![t.val / 16, t.val % 16, 0] ∧ win0_1.index t = ![t.val / 16, prev (t.val % 16), 0]
    ∧ win0_2.index t = ![t.val / 16, t.val % 16, 0] ∧ win0_3.index t = ![t.val / 16, next (t.val % 16), 0]
    ∧ win0_4.index t = ![t.val / 16, prev (t.val % 16), 37] ∧ win0_5.index t = ![t.val / 16, t.val % 16, 37]
    ∧ win0_6.index t = ![t.val / 16, next (t.val % 16), 37] ∧ win0_7.index t = ![0, 0, 0, 0] ∧ win0_8.index t = ![t.val / 16, t.val % 16, 0] := by
  decide +kernel

/-- A point's batch, -/
abbrev batch (t : Fin cfg0.N) : Fin 2 := ⟨t.val / 16, by have : t.val < 32 := Nat.lt_of_lt_of_eq t.isLt N_0; omega⟩

/-- its block of rows, -/
abbrev block (t : Fin cfg0.N) : Fin 16 := ⟨t.val % 16, by omega⟩

/-- and row `r` of block `n` among all rows. -/
abbrev pos (n : ℕ) (h : n < 16) (r : Fin 128) : Fin 2048 := ⟨128 * n + r.val, by omega⟩

/-- The queries, the keys, the values, the sinks and the gradient of the output. -/
abbrev argQ : FVec F S2x2048x8x64 .f32 := m ((c : Thread nD τ).loc main_arg0)
abbrev argK : FVec F S2x2048x2x64 .f32 := m ((c : Thread nD τ).loc main_arg1)
abbrev argV : FVec F S2x2048x2x64 .f32 := m ((c : Thread nD τ).loc main_arg2)
abbrev argS : FVec F S8 .f32 := m ((c : Thread nD τ).loc main_arg3)
abbrev argD : FVec F S2x2048x512 .f32 := m ((c : Thread nD τ).loc main_arg4)

/-! ## What the region finds in the arrays made from the arguments -/

theorem V_v2 : V m c main_v2 = shapeCast S2x2048x512 (argQ m c) shapeCasts_S2x2048x8x64_S2x2048x512 := by
  unfold V
  simp only [hostOps0, hostOps0_1, hostOps0_2, List.flatten_cons, List.flatten_nil, List.append_nil, List.cons_append, List.nil_append]
  after_results_simp
  rfl

theorem V_v3 : V m c main_v3 = shapeCast S2x2048x128 (argK m c) shapeCasts_S2x2048x2x64_S2x2048x128 := by
  unfold V
  simp only [hostOps0, hostOps0_1, hostOps0_2, List.flatten_cons, List.flatten_nil, List.append_nil, List.cons_append, List.nil_append]
  after_results_simp
  rfl

theorem V_v4 : V m c main_v4 = shapeCast S2x4x1x1 (argS m c) shapeCasts_S8_S2x4x1x1 := by
  unfold V
  simp only [hostOps0, hostOps0_1, hostOps0_2, List.flatten_cons, List.flatten_nil, List.append_nil, List.cons_append, List.nil_append]
  after_results_simp
  rfl

theorem V_v1 : V m c main_v1 = pad S2x2048x4992 ![0, 0, 4736] ![0, 0, 128] ![0, 0, 0] (shapeCast S2x2048x128 (argV m c) shapeCasts_S2x2048x2x64_S2x2048x128) (sitofp .f32 (constantI S_ 32 0#32)) pads_S2x2048x128_S2x2048x4992_000_000_47361280 h_S_ := by
  unfold V
  simp only [hostOps0, hostOps0_1, hostOps0_2, List.flatten_cons, List.flatten_nil, List.append_nil, List.cons_append, List.nil_append]
  after_results_simp
  rfl

/-! ## The blocks -/

theorem block_q (t : Fin cfg0.N) (r : Fin 128) (h : Fin 8) (d : Fin 64) :
    (iblk m c 0 t : Vec F S1x128x512 .f32) (ix3 0 r ⟨64 * h.val + d.val, by omega⟩) = argQ m c (ix4 (batch t) (pos (block t) (block t).isLt r) h d) := by
  have e : (iblk m c 0 t : Vec F S1x128x512 .f32) (ix3 0 r ⟨64 * h.val + d.val, by omega⟩)
      = V m c main_v2 (ix3 (batch t) (pos (block t) (block t).isLt r) ⟨64 * h.val + d.val, by omega⟩) := by
    have hp := (places t).1
    blk_ext [iblk, hp]
  rw [e, V_v2]
  pointwise
  blk_ext

theorem block_d (t : Fin cfg0.N) (r : Fin 128) (k : Fin 512) :
    (iblk m c 8 t : Vec F S1x128x512 .f32) (ix3 0 r k) = argD m c (ix3 (batch t) (pos (block t) (block t).isLt r) k) := by
  have e : (iblk m c 8 t : Vec F S1x128x512 .f32) (ix3 0 r k) = V m c main_arg4 (ix3 (batch t) (pos (block t) (block t).isLt r) k) := by
    have hp := (places t).2.2.2.2.2.2.2.2
    blk_ext [iblk, hp]
  rw [e, V_main_arg4]

theorem block_s (t : Fin cfg0.N) (h : Fin 2) (g : Fin 4) :
    (iblk m c 7 t : Vec F S2x4x1x1 .f32) (ix4 h g 0 0) = argS m c (ix1 ⟨4 * h.val + g.val, by omega⟩) := by
  have e : (iblk m c 7 t : Vec F S2x4x1x1 .f32) (ix4 h g 0 0) = V m c main_v4 (ix4 h g 0 0) := by
    have hp := (places t).2.2.2.2.2.2.2.1
    blk_ext [iblk, hp]
  rw [e, V_v4]
  pointwise
  blk_ext

theorem block_k_prev (t : Fin cfg0.N) (r : Fin 128) (h : Fin 2) (d : Fin 64) :
    (iblk m c 1 t : Vec F S1x128x128 .f32) (ix3 0 r ⟨64 * h.val + d.val, by omega⟩) = argK m c (ix4 (batch t) (pos (prev (block t)) (by have := (block t).isLt; show t.val % 16 - 1 < 16; omega) r) h d) := by
  have e : (iblk m c 1 t : Vec F S1x128x128 .f32) (ix3 0 r ⟨64 * h.val + d.val, by omega⟩)
      = V m c main_v3 (ix3 (batch t) (pos (prev (block t)) (by have := (block t).isLt; show t.val % 16 - 1 < 16; omega) r) ⟨64 * h.val + d.val, by omega⟩) := by
    have hp := (places t).2.1
    blk_ext [iblk, hp]
  rw [e, V_v3]
  pointwise
  blk_ext

theorem block_k_own (t : Fin cfg0.N) (r : Fin 128) (h : Fin 2) (d : Fin 64) :
    (iblk m c 2 t : Vec F S1x128x128 .f32) (ix3 0 r ⟨64 * h.val + d.val, by omega⟩) = argK m c (ix4 (batch t) (pos ((block t).val) ((block t).isLt) r) h d) := by
  have e : (iblk m c 2 t : Vec F S1x128x128 .f32) (ix3 0 r ⟨64 * h.val + d.val, by omega⟩)
      = V m c main_v3 (ix3 (batch t) (pos ((block t).val) ((block t).isLt) r) ⟨64 * h.val + d.val, by omega⟩) := by
    have hp := (places t).2.2.1
    blk_ext [iblk, hp]
  rw [e, V_v3]
  pointwise
  blk_ext

theorem block_k_next (t : Fin cfg0.N) (r : Fin 128) (h : Fin 2) (d : Fin 64) :
    (iblk m c 3 t : Vec F S1x128x128 .f32) (ix3 0 r ⟨64 * h.val + d.val, by omega⟩) = argK m c (ix4 (batch t) (pos (next (block t)) (by show min (t.val % 16 + 1) 15 < 16; omega) r) h d) := by
  have e : (iblk m c 3 t : Vec F S1x128x128 .f32) (ix3 0 r ⟨64 * h.val + d.val, by omega⟩)
      = V m c main_v3 (ix3 (batch t) (pos (next (block t)) (by show min (t.val % 16 + 1) 15 < 16; omega) r) ⟨64 * h.val + d.val, by omega⟩) := by
    have hp := (places t).2.2.2.1
    blk_ext [iblk, hp]
  rw [e, V_v3]
  pointwise
  blk_ext

theorem block_v_prev (t : Fin cfg0.N) (r : Fin 128) (h : Fin 2) (d : Fin 64) :
    (iblk m c 4 t : Vec F S1x128x128 .f32) (ix3 0 r ⟨64 * h.val + d.val, by omega⟩) = argV m c (ix4 (batch t) (pos (prev (block t)) (by have := (block t).isLt; show t.val % 16 - 1 < 16; omega) r) h d) := by
  have e : (iblk m c 4 t : Vec F S1x128x128 .f32) (ix3 0 r ⟨64 * h.val + d.val, by omega⟩)
      = V m c main_v1 (ix3 (batch t) (pos (prev (block t)) (by have := (block t).isLt; show t.val % 16 - 1 < 16; omega) r) ⟨4736 + (64 * h.val + d.val), by omega⟩) := by
    have hp := (places t).2.2.2.2.1
    blk_ext [iblk, hp]
  rw [e, V_v1]
  pointwise
  exact dif_pos ⟨(batch t).isLt, by
    have hn : prev (block t) < 16 := by have := (block t).isLt; show t.val % 16 - 1 < 16; omega
    have hr := r.isLt
    refine ⟨?_, by omega⟩
    show 128 * (prev (block t)) + r.val < 2048
    omega⟩

theorem block_v_own (t : Fin cfg0.N) (r : Fin 128) (h : Fin 2) (d : Fin 64) :
    (iblk m c 5 t : Vec F S1x128x128 .f32) (ix3 0 r ⟨64 * h.val + d.val, by omega⟩) = argV m c (ix4 (batch t) (pos ((block t).val) ((block t).isLt) r) h d) := by
  have e : (iblk m c 5 t : Vec F S1x128x128 .f32) (ix3 0 r ⟨64 * h.val + d.val, by omega⟩)
      = V m c main_v1 (ix3 (batch t) (pos ((block t).val) ((block t).isLt) r) ⟨4736 + (64 * h.val + d.val), by omega⟩) := by
    have hp := (places t).2.2.2.2.2.1
    blk_ext [iblk, hp]
  rw [e, V_v1]
  pointwise
  exact dif_pos ⟨(batch t).isLt, by
    have hn : (block t).val < 16 := (block t).isLt
    have hr := r.isLt
    refine ⟨?_, by omega⟩
    show 128 * ((block t).val) + r.val < 2048
    omega⟩

theorem block_v_next (t : Fin cfg0.N) (r : Fin 128) (h : Fin 2) (d : Fin 64) :
    (iblk m c 6 t : Vec F S1x128x128 .f32) (ix3 0 r ⟨64 * h.val + d.val, by omega⟩) = argV m c (ix4 (batch t) (pos (next (block t)) (by show min (t.val % 16 + 1) 15 < 16; omega) r) h d) := by
  have e : (iblk m c 6 t : Vec F S1x128x128 .f32) (ix3 0 r ⟨64 * h.val + d.val, by omega⟩)
      = V m c main_v1 (ix3 (batch t) (pos (next (block t)) (by show min (t.val % 16 + 1) 15 < 16; omega) r) ⟨4736 + (64 * h.val + d.val), by omega⟩) := by
    have hp := (places t).2.2.2.2.2.2.1
    blk_ext [iblk, hp]
  rw [e, V_v1]
  pointwise
  exact dif_pos ⟨(batch t).isLt, by
    have hn : next (block t) < 16 := by show min (t.val % 16 + 1) 15 < 16; omega
    have hr := r.isLt
    refine ⟨?_, by omega⟩
    show 128 * (next (block t)) + r.val < 2048
    omega⟩

end Cert.KernelIdeal.Attn

end
-- ==== Proof.Attn.Layout.lean ====
/- Where the body's rows, bands and columns lie in the blocks: each vector of the body at an index, as one element of a block. -/
module

public import proofs.«01_k».proof.Proof.Attn.Run
public import Idealize.ShloMosaic.Lib.Pointwise
public import Idealize.ShloMosaic.Lib.Pipeline.ValueKit

@[expose] public section

set_option maxRecDepth 16384

noncomputable section

namespace Cert.KernelIdeal.Attn

open Idealize.ShloMosaic Idealize.SL.Sem Cert.KernelIdeal.Gen

/-! ## What is read -/

theorem cols128_at {F : FTy → Type} [FloatOps F] (x : Vec F S1x128x128 .f32) (o : ℕ) (h) (r : Fin 128) (d : Fin 64) (k : Fin 128) (hk : k.val = o + d.val) :
    cols128 x o h (ix3 0 r d) = x (ix3 0 r k) := by
  refine congrArg x (funext fun a => Fin.ext ?_)
  fin_cases a
  · rfl
  · show 0 + 1 * r.val = r.val; omega
  · show o + 1 * d.val = k.val; omega

theorem cols512_at {F : FTy → Type} [FloatOps F] (x : Vec F S1x128x512 .f32) (o : ℕ) (h) (r : Fin 128) (d : Fin 64) (k : Fin 512) (hk : k.val = o + d.val) :
    cols512 x o h (ix3 0 r d) = x (ix3 0 r k) := by
  refine congrArg x (funext fun a => Fin.ext ?_)
  fin_cases a
  · rfl
  · show 0 + 1 * r.val = r.val; omega
  · show o + 1 * d.val = k.val; omega

theorem cell_at {F : FTy → Type} [FloatOps F] (x : Vec F S2x4x1x1 .f32) (a : Fin 2) (b : Fin 4) (h) : cell x a b h (ix4 0 0 0 0) = x (ix4 a b 0 0) := by
  refine congrArg x (funext fun e => Fin.ext ?_)
  fin_cases e
  · show a.val + 1 * 0 = a.val; omega
  · show b.val + 1 * 0 = b.val; omega
  · rfl
  · rfl

/-- The rows of key head `h`'s group, -/
def group (x : Vec Ideal S1x128x512 .f32) (h : Fin 2) : FVec Ideal S512x64 .f32 := if h = 0 then group0 x else group1 x

/-- its band, -/
def band (x y z : Vec Ideal S1x128x128 .f32) (h : Fin 2) : FVec Ideal S384x64 .f32 := if h = 0 then band0 x y z else band1 x y z

/-- and its rows' sinks. -/
def sink (x : Vec Ideal S2x4x1x1 .f32) (h : Fin 2) : FVec Ideal S512x1 .f32 := if h = 0 then sink0 x else sink1 x

/-- Row `i` of query head `g` of a group. -/
abbrev rowAt (g : Fin 4) (i : Fin 128) : Fin 512 := ⟨128 * g.val + i.val, by omega⟩

/-- Column `d` of query head `g` of key head `h`. -/
abbrev colAt (h : Fin 2) (g : Fin 4) (d : Fin 64) : Fin 512 := ⟨64 * (4 * h.val + g.val) + d.val, by omega⟩

/-- Column `d` of key head `h`. -/
abbrev keyCol (h : Fin 2) (d : Fin 64) : Fin 128 := ⟨64 * h.val + d.val, by omega⟩

theorem group_at (x : Vec Ideal S1x128x512 .f32) (h : Fin 2) (g : Fin 4) (i : Fin 128) (d : Fin 64) :
    group x h (ix2 (rowAt g i) d) = x (ix3 0 i (colAt h g d)) := by
  have hi := i.isLt
  have hg := g.isLt
  fin_cases h
  · show group0 x _ = _
    unfold group0
    pointwise [k0_pay13]
    split_ifs <;>
      (refine (cols512_at _ _ _ _ _ (colAt 0 g d) (by show 64 * (4 * 0 + g.val) + d.val = _; omega)).trans (congrArg x ?_)
       blk_ext)
  · show group1 x _ = _
    unfold group1
    pointwise [k0_pay13]
    split_ifs <;>
      (refine (cols512_at _ _ _ _ _ (colAt 1 g d) (by show 64 * (4 * 1 + g.val) + d.val = _; omega)).trans (congrArg x ?_)
       blk_ext)

theorem sink_at (x : Vec Ideal S2x4x1x1 .f32) (h : Fin 2) (g : Fin 4) (i : Fin 128) : sink x h (ix2 (rowAt g i) 0) = x (ix4 h g 0 0) := by
  have hi := i.isLt
  have hg := g.isLt
  fin_cases h
  · show sink0 x _ = _
    unfold sink0
    pointwise [k0_pay17, k0_pay14, k0_pay15, k0_pay16]
    split_ifs
    · exact (cell_at x 0 0 _).trans (congrArg x (by blk_ext))
    · exact (cell_at x 0 1 _).trans (congrArg x (by blk_ext))
    · exact (cell_at x 0 2 _).trans (congrArg x (by blk_ext))
    · exact (cell_at x 0 3 _).trans (congrArg x (by blk_ext))
  · show sink1 x _ = _
    unfold sink1
    pointwise [k0_pay17, k0_pay14, k0_pay15, k0_pay16]
    split_ifs
    · exact (cell_at x 1 0 _).trans (congrArg x (by blk_ext))
    · exact (cell_at x 1 1 _).trans (congrArg x (by blk_ext))
    · exact (cell_at x 1 2 _).trans (congrArg x (by blk_ext))
    · exact (cell_at x 1 3 _).trans (congrArg x (by blk_ext))

/-- A band's element, from whichever of the three blocks it lies in. -/
theorem band_at (x y z : Vec Ideal S1x128x128 .f32) (h : Fin 2) (k : Fin 384) (d : Fin 64) :
    band x y z h (ix2 k d) = if k.val < 128 then x (ix3 0 ⟨k.val % 128, Nat.mod_lt _ (by omega)⟩ (keyCol h d))
      else if k.val < 256 then y (ix3 0 ⟨k.val % 128, Nat.mod_lt _ (by omega)⟩ (keyCol h d))
      else z (ix3 0 ⟨k.val % 128, Nat.mod_lt _ (by omega)⟩ (keyCol h d)) := by
  have hk := k.isLt
  fin_cases h
  · show band0 x y z _ = _
    unfold band0
    pointwise [k0_pay12]
    rcases Nat.lt_or_ge k.val 128 with h1 | h1
    · rw [dif_pos h1, if_pos h1]
      (refine (cols128_at _ _ _ _ _ (keyCol 0 d) (by show 64 * 0 + d.val = _; omega)).trans (congrArg _ ?_); blk_ext)
    · rcases Nat.lt_or_ge k.val 256 with h2 | h2
      · rw [dif_neg (show ¬ k.val < 128 by omega), dif_pos (show k.val - 128 < 128 by omega), if_neg (show ¬ k.val < 128 by omega), if_pos h2]
        (refine (cols128_at _ _ _ _ _ (keyCol 0 d) (by show 64 * 0 + d.val = _; omega)).trans (congrArg _ ?_); blk_ext)
      · rw [dif_neg (show ¬ k.val < 128 by omega), dif_neg (show ¬ k.val - 128 < 128 by omega), if_neg (show ¬ k.val < 128 by omega), if_neg (show ¬ k.val < 256 by omega)]
        (refine (cols128_at _ _ _ _ _ (keyCol 0 d) (by show 64 * 0 + d.val = _; omega)).trans (congrArg _ ?_); blk_ext)
  · show band1 x y z _ = _
    unfold band1
    pointwise [k0_pay12]
    rcases Nat.lt_or_ge k.val 128 with h1 | h1
    · rw [dif_pos h1, if_pos h1]
      (refine (cols128_at _ _ _ _ _ (keyCol 1 d) (by show 64 * 1 + d.val = _; omega)).trans (congrArg _ ?_); blk_ext)
    · rcases Nat.lt_or_ge k.val 256 with h2 | h2
      · rw [dif_neg (show ¬ k.val < 128 by omega), dif_pos (show k.val - 128 < 128 by omega), if_neg (show ¬ k.val < 128 by omega), if_pos h2]
        (refine (cols128_at _ _ _ _ _ (keyCol 1 d) (by show 64 * 1 + d.val = _; omega)).trans (congrArg _ ?_); blk_ext)
      · rw [dif_neg (show ¬ k.val < 128 by omega), dif_neg (show ¬ k.val - 128 < 128 by omega), if_neg (show ¬ k.val < 128 by omega), if_neg (show ¬ k.val < 256 by omega)]
        (refine (cols128_at _ _ _ _ _ (keyCol 1 d) (by show 64 * 1 + d.val = _; omega)).trans (congrArg _ ?_); blk_ext)

/-! ## What is written -/

/-- Sixty-four columns put over the query gradient's block. -/
theorem put_cols (X : Vec Ideal S1x128x512 .f32) (o : ℕ) (w : Vec Ideal S1x128x64 .f32) (r : Fin 128) (k : Fin 512) :
    VecWindow.put X ![0, 0, o] S1x128x64.size w (ix3 0 r k) = if h : o ≤ k.val ∧ k.val < o + 64 then w (ix3 0 r ⟨k.val - o, by omega⟩) else X (ix3 0 r k) := by
  have hr := r.isLt
  unfold VecWindow.put
  by_cases h : o ≤ k.val ∧ k.val < o + 64
  · rw [dif_pos (show _ from fun a => by
      fin_cases a
      · exact ⟨Nat.le_refl _, Nat.one_pos⟩
      · exact ⟨Nat.zero_le _, by show r.val < 0 + 128; omega⟩
      · exact h), dif_pos h]
    refine congrArg w (funext fun a => Fin.ext ?_)
    fin_cases a
    · rfl
    · rfl
    · rfl
  · rw [dif_neg (fun hh => h (hh 2)), dif_neg h]

/-- The query gradient's block, an element at a time. -/
theorem putQ_at (X : Vec Ideal S1x128x512 .f32) (A B : FVec Ideal S512x64 .f32) (h : Fin 2) (g : Fin 4) (r : Fin 128) (d : Fin 64) :
    putQ X A B (ix3 0 r (colAt h g d)) = (if h = 0 then A else B) (ix2 (rowAt g r) d) := by
  have hr := r.isLt
  have hd := d.isLt
  unfold putQ
  rw [put_cols, put_cols, put_cols, put_cols, put_cols, put_cols, put_cols, put_cols]
  have hg := g.isLt
  fin_cases h
  · show _ = A _
    simp only [show ((⟨0, by decide⟩ : Fin 2) : ℕ) = 0 from rfl]
    split_ifs <;> first
      | (exfalso; omega)
      | (pointwise [k0_pay50, k0_pay52, k0_pay54, k0_pay55]; blk_ext)
  · show _ = B _
    simp only [show ((⟨1, by decide⟩ : Fin 2) : ℕ) = 1 from rfl]
    split_ifs <;> first
      | (exfalso; omega)
      | (pointwise [k0_pay98, k0_pay100, k0_pay102, k0_pay103, k0_pay105]; blk_ext)

theorem addAt_at (B : ℕ) (hB : B < 16) (h' : Fin 2) (o : Fin 3 → ℕ) (ho : o = ![0, 128 * B, 64 * h'.val]) (hin) (pay : Vec Ideal S1x128x64 .f32 → Vec Ideal S1x128x64 .f32)
    (A : Fin 128 → Fin 64 → EReal) (hpay : ∀ w r d, pay w (ix3 0 r d) = w (ix3 0 r d) + A r d) (X : Vec Ideal S1x2048x128 .f32) (n : Fin 16) (r : Fin 128) (h : Fin 2) (d : Fin 64) :
    addAt o hin pay X (ix3 0 ⟨128 * n.val + r.val, by omega⟩ (keyCol h d)) = X (ix3 0 ⟨128 * n.val + r.val, by omega⟩ (keyCol h d)) + if n.val = B ∧ h = h' then A r d else 0 := by
  subst ho
  have hr := r.isLt
  have hd := d.isLt
  have hh := h.isLt
  have hh' := h'.isLt
  unfold addAt VecWindow.put
  by_cases hc : n.val = B ∧ h = h'
  · obtain ⟨h1, rfl⟩ := hc
    rw [dif_pos (show _ from fun a => by
      fin_cases a
      · exact ⟨Nat.le_refl _, Nat.one_pos⟩
      · exact ⟨by show 128 * B ≤ 128 * n.val + r.val; omega, by show 128 * n.val + r.val < 128 * B + 128; omega⟩
      · exact ⟨by show 64 * h.val ≤ 64 * h.val + d.val; omega, by show 64 * h.val + d.val < 64 * h.val + 64; omega⟩), if_pos ⟨h1, rfl⟩]
    refine (congrArg (pay _) (show _ = ix3 0 r d from funext fun a => Fin.ext (by
      fin_cases a
      · rfl
      · show 128 * n.val + r.val - 128 * B = r.val; omega
      · show 64 * h.val + d.val - 64 * h.val = d.val; omega))).trans ((hpay _ _ _).trans ?_)
    refine congrArg (· + A r d) (congrArg X (funext fun a => Fin.ext ?_))
    fin_cases a
    · rfl
    · show 128 * B + 1 * r.val = 128 * n.val + r.val; omega
    · show 64 * h.val + 1 * d.val = 64 * h.val + d.val; omega
  · rw [dif_neg, if_neg hc, add_zero]
    intro hall
    have a1 : 128 * B ≤ 128 * n.val + r.val ∧ 128 * n.val + r.val < 128 * B + 128 := hall 1
    have a2 : 64 * h'.val ≤ 64 * h.val + d.val ∧ 64 * h.val + d.val < 64 * h'.val + 64 := hall 2
    exact hc ⟨by omega, Fin.ext (by omega)⟩

/-- The accumulated gradient of the keys, or of the values, after a point, an element at a time. -/
theorem addBands_at (i : grid0.Coords) (n0 : Fin 16) (e0 : k0_off1 i 4294967295#32 = ![0, 128 * (n0.val - 1), 0]) (e1 : k0_off1 i 0#32 = ![0, 128 * n0.val, 0])
    (e2 : k0_off1 i 1#32 = ![0, 128 * min (n0.val + 1) 15, 0]) (f0 : k0_off2 i 4294967295#32 = ![0, 128 * (n0.val - 1), 64])
    (f1 : k0_off2 i 0#32 = ![0, 128 * n0.val, 64]) (f2 : k0_off2 i 1#32 = ![0, 128 * min (n0.val + 1) 15, 64])
    (A B : FVec Ideal S384x64 .f32) (X : Vec Ideal S1x2048x128 .f32) (n : Fin 16) (r : Fin 128) (h : Fin 2) (d : Fin 64) :
    addBands i A B X (ix3 0 ⟨128 * n.val + r.val, by omega⟩ (keyCol h d)) = X (ix3 0 ⟨128 * n.val + r.val, by omega⟩ (keyCol h d))
      + ((if n.val = n0.val - 1 then (if h = 0 then A else B) (ix2 ⟨r.val, by omega⟩ d) else 0)
        + (if n.val = n0.val then (if h = 0 then A else B) (ix2 ⟨128 + r.val, by omega⟩ d) else 0)
        + (if n.val = min (n0.val + 1) 15 then (if h = 0 then A else B) (ix2 ⟨256 + r.val, by omega⟩ d) else 0)) := by
  have hn := n0.isLt
  unfold addBands
  refine ((addAt_at _ (by omega) 1 _ f2 _ _ (fun r d => B (ix2 ⟨256 + r.val, by omega⟩ d)) (fun w r d => by pointwise [k0_pay61]) _ n r h d).trans
    (congrArg (· + _) ((addAt_at _ (by omega) 1 _ f1 _ _ (fun r d => B (ix2 ⟨128 + r.val, by omega⟩ d)) (fun w r d => by pointwise [k0_pay59]) _ n r h d).trans
    (congrArg (· + _) ((addAt_at _ (by omega) 1 _ f0 _ _ (fun r d => B (ix2 ⟨r.val, by omega⟩ d)) (fun w r d => by pointwise [k0_pay57]) _ n r h d).trans
    (congrArg (· + _) ((addAt_at _ (by omega) 0 _ e2 _ _ (fun r d => A (ix2 ⟨256 + r.val, by omega⟩ d)) (fun w r d => by pointwise [k0_pay61]) _ n r h d).trans
    (congrArg (· + _) ((addAt_at _ (by omega) 0 _ e1 _ _ (fun r d => A (ix2 ⟨128 + r.val, by omega⟩ d)) (fun w r d => by pointwise [k0_pay59]) _ n r h d).trans
    (congrArg (· + _) (addAt_at _ (by omega) 0 _ e0 _ _ (fun r d => A (ix2 ⟨r.val, by omega⟩ d)) (fun w r d => by pointwise [k0_pay57]) _ n r h d))))))))))).trans ?_
  fin_cases h
  · simp [add_assoc]
  · simp [add_assoc]

/-- One cell of the sinks' accumulated gradient. -/
theorem addCell_at (X : Vec Ideal S2x4x1x1 .f32) (a b : ℕ) (h) (pay : Vec Ideal S1x1x1x1 .f32 → Vec Ideal S1x1x1x1 .f32) (z : EReal)
    (hpay : ∀ v, pay v (ix4 0 0 0 0) = v (ix4 0 0 0 0) + z) (Y : Vec Ideal S2x4x1x1 .f32) (h' : Fin 2) (g : Fin 4) :
    addCell X a b h pay Y (ix4 h' g 0 0) = if h'.val = a ∧ g.val = b then X (ix4 h' g 0 0) + z else Y (ix4 h' g 0 0) := by
  unfold addCell VecWindow.put
  by_cases hc : h'.val = a ∧ g.val = b
  · obtain ⟨rfl, rfl⟩ := hc
    rw [dif_pos (show _ from fun e => by
      fin_cases e
      · exact ⟨Nat.le_refl _, Nat.lt_succ_self _⟩
      · exact ⟨Nat.le_refl _, Nat.lt_succ_self _⟩
      · exact ⟨Nat.le_refl _, Nat.one_pos⟩
      · exact ⟨Nat.le_refl _, Nat.one_pos⟩), if_pos ⟨rfl, rfl⟩]
    refine (congrArg (pay _) (show _ = ix4 0 0 0 0 from funext fun e => Fin.ext (by
      fin_cases e
      · show h'.val - h'.val = 0; omega
      · show g.val - g.val = 0; omega
      · rfl
      · rfl))).trans ((hpay _).trans ?_)
    rw [cell_at]
  · rw [dif_neg, if_neg hc]
    intro hall
    have a1 : a ≤ h'.val ∧ h'.val < a + 1 := hall 0
    have a2 : b ≤ g.val ∧ g.val < b + 1 := hall 1
    exact hc ⟨by omega, by omega⟩

/-- The sinks' accumulated gradient after a point. -/
theorem addSinks_at (A B : FVec Ideal S512x1 .f32) (X : Vec Ideal S2x4x1x1 .f32) (h : Fin 2) (g : Fin 4) :
    addSinks A B X (ix4 h g 0 0) = X (ix4 h g 0 0) + ∑ i : Fin 128, (if h = 0 then A else B) (ix2 (rowAt g i) 0) := by
  unfold addSinks
  rw [addCell_at X 1 3 _ _ (∑ i : Fin 128, B (ix2 (rowAt 3 i) 0)) (fun v => by pointwise [k0_pay56]; rfl),
    addCell_at X 1 2 _ _ (∑ i : Fin 128, B (ix2 (rowAt 2 i) 0)) (fun v => by pointwise [k0_pay53]; rfl),
    addCell_at X 1 1 _ _ (∑ i : Fin 128, B (ix2 (rowAt 1 i) 0)) (fun v => by pointwise [k0_pay51]; rfl),
    addCell_at X 1 0 _ _ (∑ i : Fin 128, B (ix2 (rowAt 0 i) 0)) (fun v => by pointwise [sum0, k0_pay99]; exact congrArg (v (ix4 0 0 0 0) + ·) (Finset.sum_congr rfl fun i _ => congrArg _ (congrArg (fun z => ix2 z 0) (Fin.ext (by show i.val = 128 * 0 + i.val; omega))))),
    addCell_at X 0 3 _ _ (∑ i : Fin 128, A (ix2 (rowAt 3 i) 0)) (fun v => by pointwise [k0_pay56]; rfl),
    addCell_at X 0 2 _ _ (∑ i : Fin 128, A (ix2 (rowAt 2 i) 0)) (fun v => by pointwise [k0_pay53]; rfl),
    addCell_at X 0 1 _ _ (∑ i : Fin 128, A (ix2 (rowAt 1 i) 0)) (fun v => by pointwise [k0_pay51]; rfl),
    addCell_at X 0 0 _ _ (∑ i : Fin 128, A (ix2 (rowAt 0 i) 0)) (fun v => by pointwise [sum0, k0_pay99]; exact congrArg (v (ix4 0 0 0 0) + ·) (Finset.sum_congr rfl fun i _ => congrArg _ (congrArg (fun z => ix2 z 0) (Fin.ext (by show i.val = 128 * 0 + i.val; omega)))))]
  fin_cases h <;> fin_cases g <;> simp

end Cert.KernelIdeal.Attn

end
-- ==== Proof.Attn.KernelRow.lean ====
/- One head of the kernel's body, read a row at a time: each of its vectors holds, in row `r`, what Proof/Attn/Spec.lean defines of that
   row's query, sink, output gradient and mask. -/
module

public import proofs.«01_k».proof.Proof.Attn.Body
public import proofs.«01_k».proof.Proof.Attn.Spec

@[expose] public section

set_option maxRecDepth 16384

noncomputable section

namespace Cert.KernelIdeal.Attn

open Idealize.ShloMosaic Idealize.SL.Sem Cert.KernelIdeal.Gen

/-- Row `r` of a matrix. -/
abbrev row {a b : ℕ} {α : Type} (x : (⟨2, ![a, b]⟩ : Shape).Idx → α) (r : Fin a) : Fin b → α := fun k => x (ix2 r k)

/-- The rows of a matrix. -/
abbrev rows {a b : ℕ} {α : Type} (x : (⟨2, ![a, b]⟩ : Shape).Idx → α) : Fin a → Fin b → α := fun r k => x (ix2 r k)

variable (M : IVec S512x384 1) (K V : FVec Ideal S384x64 .f32) (Q : FVec Ideal S512x64 .f32) (S : FVec Ideal S512x1 .f32) (D : FVec Ideal S512x64 .f32)

theorem scores_at (r : Fin 512) (k : Fin 384) : scores M K Q (ix2 r k) = Row.sc (row M r) (row Q r) (rows K) k := by
  pointwise [scores, k0_pay19, Row.sc]

theorem pay19_at (r : Fin 512) (k : Fin 384) : k0_pay19 M K Q (ix2 r k) = Row.sc (row M r) (row Q r) (rows K) k := scores_at M K Q r k

theorem pay20_at (r : Fin 512) : k0_pay20 M K Q (ix1 r) = Row.mx (row M r) (row Q r) (rows K) := by
  pointwise [k0_pay20]
  simp only [pay19_at, Row.mx]

theorem rowMax_at (r : Fin 512) : rowMax M K Q (ix2 r 0) = Row.mx (row M r) (row Q r) (rows K) := by
  pointwise [rowMax, k0_pay23]
  exact pay20_at M K Q r

theorem pay21_at (r : Fin 512) (k : Fin 384) : k0_pay21 M K Q (ix2 r k) = Row.top (row M r) (row Q r) (rows K) k := by
  pointwise [k0_pay21]
  rw [Row.widened_bit, pay19_at, pay20_at]; rfl

theorem pay22_at (r : Fin 512) : k0_pay22 M K Q (ix1 r) = Row.count (row M r) (row Q r) (rows K) := by
  pointwise [k0_pay22]
  simp only [pay21_at, Row.count]

theorem stab_at (r : Fin 512) : stab M K Q S (ix2 r 0) = Row.st (row M r) (row Q r) (rows K) (S (ix2 r 0)) := by
  pointwise [stab]
  rw [rowMax_at]; rfl

theorem shareMax_at (r : Fin 512) : shareMax M K Q S (ix2 r 0) = Row.shareMax (row M r) (row Q r) (rows K) (S (ix2 r 0)) := by
  pointwise [shareMax, k0_pay29, k0_pay27, k0_pay28]
  rw [rowMax_at]; rfl

theorem shareSink_at (r : Fin 512) : shareSink M K Q S (ix2 r 0) = Row.shareSink (row M r) (row Q r) (rows K) (S (ix2 r 0)) := by
  pointwise [shareSink, k0_pay30]
  rw [rowMax_at]; rfl

theorem weights_at (r : Fin 512) (k : Fin 384) : weights M K Q S (ix2 r k) = Row.p (row M r) (row Q r) (rows K) (S (ix2 r 0)) k := by
  pointwise [weights, k0_pay31]
  rw [scores_at, stab_at]; rfl

theorem pay31_at (r : Fin 512) (k : Fin 384) :
    k0_pay31 (scores M K Q) (stab M K Q S) (ix2 r k) = Row.p (row M r) (row Q r) (rows K) (S (ix2 r 0)) k := weights_at M K Q S r k

theorem pay32_at (r : Fin 512) : k0_pay32 S (stab M K Q S) (ix2 r 0) = Row.es (row M r) (row Q r) (rows K) (S (ix2 r 0)) := by
  pointwise [k0_pay32]
  rw [stab_at]; rfl

theorem pay33_at (r : Fin 512) : k0_pay33 S (scores M K Q) (stab M K Q S) (ix2 r 0) = Row.den (row M r) (row Q r) (rows K) (S (ix2 r 0)) := by
  pointwise [k0_pay33]
  simp only [pay31_at, pay32_at, Row.den]

theorem pay34_at (r : Fin 512) :
    k0_pay34 S (scores M K Q) (stab M K Q S) (ix2 r 0) = Ideal.div 1 (Row.den (row M r) (row Q r) (rows K) (S (ix2 r 0))) := by
  pointwise [k0_pay34]
  rw [pay33_at]

theorem pay35_at (r : Fin 512) (k : Fin 384) : k0_pay35 V D (ix2 r k) = Row.dp (rows V) (row D r) k := by
  pointwise [k0_pay35, Row.dp]

theorem pay37_at (r : Fin 512) (k : Fin 384) : k0_pay37 V S D (scores M K Q) (stab M K Q S) (ix2 r k)
    = Row.dp (rows V) (row D r) k * Ideal.div 1 (Row.den (row M r) (row Q r) (rows K) (S (ix2 r 0))) := by
  pointwise [k0_pay37]
  rw [pay34_at, pay35_at]

theorem pay38_at (r : Fin 512) : k0_pay38 V S D (scores M K Q) (stab M K Q S) (ix2 r 0)
    = Row.t (row M r) (row Q r) (rows K) (rows V) (S (ix2 r 0)) (row D r) := by
  pointwise [k0_pay38]
  simp only [pay31_at, pay33_at, pay35_at, zero_sub, Row.t]

theorem pay39_at (r : Fin 512) : k0_pay39 V S D (scores M K Q) (stab M K Q S) (ix2 r 0)
    = Row.e (row M r) (row Q r) (rows K) (rows V) (S (ix2 r 0)) (row D r) := by
  pointwise [k0_pay39]
  rw [pay38_at, pay32_at]; rfl

theorem pay40_at (r : Fin 512) : k0_pay40 V S D (scores M K Q) (stab M K Q S) (ix2 r 0)
    = -Row.e (row M r) (row Q r) (rows K) (rows V) (S (ix2 r 0)) (row D r) := by
  pointwise [k0_pay40]
  rw [pay39_at, zero_sub]

theorem pay41_at (r : Fin 512) (k : Fin 384) : k0_pay41 V S D (scores M K Q) (stab M K Q S) (ix2 r k)
    = Row.t (row M r) (row Q r) (rows K) (rows V) (S (ix2 r 0)) (row D r) := by
  pointwise [k0_pay41]
  rw [Fin.sum_univ_one]
  exact pay38_at M K V Q S D r

theorem pay42_at (r : Fin 512) (k : Fin 384) : k0_pay42 (weights M K Q S) (k0_pay37 V S D (scores M K Q) (stab M K Q S))
      (k0_pay41 V S D (scores M K Q) (stab M K Q S)) (ix2 r k)
    = Row.u (row M r) (row Q r) (rows K) (rows V) (S (ix2 r 0)) (row D r) k := by
  pointwise [k0_pay42]
  rw [weights_at, pay37_at, pay41_at]; rfl

theorem pay43_at (r : Fin 512) : k0_pay43 (weights M K Q S) (k0_pay37 V S D (scores M K Q) (stab M K Q S))
      (k0_pay40 V S D (scores M K Q) (stab M K Q S)) (k0_pay41 V S D (scores M K Q) (stab M K Q S)) (ix2 r 0)
    = Row.dm (row M r) (row Q r) (rows K) (rows V) (S (ix2 r 0)) (row D r) := by
  pointwise [k0_pay43]
  simp only [pay42_at, pay40_at, zero_sub, Row.dm]

/-- The sink's gradient, a row at a time. -/
theorem dSinkRows_at (r : Fin 512) : dSinkRows M K V Q S D (ix2 r 0) = Row.dsink (row M r) (row Q r) (rows K) (rows V) (S (ix2 r 0)) (row D r) := by
  pointwise [dSinkRows, k0_pay44]
  rw [pay39_at, pay43_at, shareSink_at]; rfl

theorem pay45_at (r : Fin 512) (k : Fin 384) : k0_pay45 M (k0_pay21 M K Q) (k0_pay22 M K Q) (shareMax M K Q S) (weights M K Q S)
      (k0_pay37 V S D (scores M K Q) (stab M K Q S)) (k0_pay40 V S D (scores M K Q) (stab M K Q S)) (k0_pay41 V S D (scores M K Q) (stab M K Q S)) (ix2 r k)
    = Row.ds (row M r) (row Q r) (rows K) (rows V) (S (ix2 r 0)) (row D r) k := by
  pointwise [k0_pay45]
  rw [Fin.sum_univ_one, pay42_at, pay22_at, pay21_at]
  erw [pay43_at, shareMax_at]; rfl

/-- The query gradient: the scores' gradient against the keys. -/
theorem dQ_at (r : Fin 512) (d : Fin 64) : dQ M K V Q S D (ix2 r d)
    = ∑ k, Row.ds (row M r) (row Q r) (rows K) (rows V) (S (ix2 r 0)) (row D r) k * K (ix2 k d) := by
  pointwise [dQ, k0_pay46]
  simp only [pay45_at]

/-- The key gradient: the scores' gradient against the queries. -/
theorem dK_at (k : Fin 384) (d : Fin 64) : dK M K V Q S D (ix2 k d)
    = ∑ r, Row.ds (row M r) (row Q r) (rows K) (rows V) (S (ix2 r 0)) (row D r) k * Q (ix2 r d) := by
  pointwise [dK, k0_pay47]
  simp only [pay45_at]

/-- The value gradient: the weights against the output's gradient. -/
theorem dV_at (k : Fin 384) (d : Fin 64) : dV M K Q S D (ix2 k d)
    = ∑ r, Row.w (row M r) (row Q r) (rows K) (S (ix2 r 0)) k * D (ix2 r d) := by
  pointwise [dV, k0_pay36]
  simp only [pay31_at, pay34_at, Row.w]

end Cert.KernelIdeal.Attn

end
-- ==== Proof.Attn.Points.lean ====
/- What one grid point contributes: its vectors, row by row, are the rows and bands of Proof/Attn/Grad.lean for the point's batch and
   block, so its gradients are the gradients defined there. -/
module

public import proofs.«01_k».proof.Proof.Attn.Grad
public import proofs.«01_k».proof.Proof.Attn.Blocks
public import proofs.«01_k».proof.Proof.Attn.Layout
public import proofs.«01_k».proof.Proof.Attn.KernelRow

@[expose] public section

set_option maxRecDepth 16384

noncomputable section

namespace Cert.KernelIdeal.Attn

open Idealize.ShloMosaic Idealize.ShloMosaic.TcCoe Idealize.SL.Sem Cert.KernelIdeal.Gen

variable (m : (ℓ : Loc nD τ sig) → Buf (Elt Ideal) ℓ) (c : Dev nD)

/-- The arguments as functions of their coordinates: queries, keys, values, sinks and the output's gradient. -/
def fQ (b : Fin 2) (p : Fin 2048) (h : Fin 8) (d : Fin 64) : EReal := argQ m c (ix4 b p h d)
def fK (b : Fin 2) (p : Fin 2048) (h : Fin 2) (d : Fin 64) : EReal := argK m c (ix4 b p h d)
def fV (b : Fin 2) (p : Fin 2048) (h : Fin 2) (d : Fin 64) : EReal := argV m c (ix4 b p h d)
def fS (h : Fin 8) : EReal := argS m c (ix1 h)
def fD (b : Fin 2) (p : Fin 2048) (k : Fin 512) : EReal := argD m c (ix3 b p k)

/-! ## The mask -/

theorem block_start : ∀ n : Fin 16, IntOp.muli (IntOp.subi (BitVec.ofNat 32 n.val) 1#32) 128#32 = IntOp.subi (IntOp.muli (BitVec.ofNat 32 n.val) 128#32) 128#32 := by
  decide +kernel

theorem low_bits : ∀ (g : Fin 4) (i : Fin 128), IntOp.andi (BitVec.ofNat 32 (128 * g.val + i.val)) 127#32 = BitVec.ofNat 32 i.val := by
  decide +kernel

theorem mask_at (t : Fin cfg0.N) (g : Fin 4) (i : Fin 128) (k : Fin 384) : k0_pay4 (grid0.coords t) (ix2 (rowAt g i) k) = Grad.mask (block t) i k := by
  have hb : Scalar.muli (Scalar.subi (BitVec.ofNat 32 (block t).val) 1#32) 128#32 = IntOp.subi (IntOp.muli (BitVec.ofNat 32 (block t).val) 128#32) 128#32 := block_start (block t)
  have hl := low_bits g i
  have hc : (grid0.coords t 1).val = (block t).val := coord_block t
  pointwise [k0_pay4]
  rw [hc, hb, hl]
  rfl

/-! ## The rows -/

theorem group_q (t : Fin cfg0.N) (h : Fin 2) (g : Fin 4) (i : Fin 128) : row (group (iblk m c 0 t) h) (rowAt g i) = Grad.qrow (fQ m c) (batch t) (block t) h g i := by
  funext d
  exact (group_at _ h g i d).trans (block_q m c t i (Grad.head h g) d)

theorem group_d (t : Fin cfg0.N) (h : Fin 2) (g : Fin 4) (i : Fin 128) : row (group (iblk m c 8 t) h) (rowAt g i) = Grad.drow (fD m c) (batch t) (block t) h g i := by
  funext d
  exact (group_at _ h g i d).trans (block_d m c t i _)

theorem sink_s (t : Fin cfg0.N) (h : Fin 2) (g : Fin 4) (i : Fin 128) : sink (iblk m c 7 t) h (ix2 (rowAt g i) 0) = fS m c (Grad.head h g) :=
  (sink_at _ h g i).trans (block_s m c t h g)

theorem band_k (t : Fin cfg0.N) (h : Fin 2) (k : Fin 384) (d : Fin 64) (hk : 128 ≤ 128 * (block t).val + k.val ∧ 128 * (block t).val + k.val < 2176) :
    band (iblk m c 1 t) (iblk m c 2 t) (iblk m c 3 t) h (ix2 k d) = Grad.band (fK m c) (batch t) (block t) h k d := by
  have h3 := k.isLt
  have h4 : t.val % 16 < 16 := (block t).isLt
  rw [band_at, Grad.band, dif_pos hk]
  have hk1 : 128 ≤ 128 * (t.val % 16) + k.val := hk.1
  have hk2 : 128 * (t.val % 16) + k.val < 2176 := hk.2
  split_ifs with h1 h2
  · refine (block_k_prev m c t _ h d).trans (congrArg (fun p => argK m c (ix4 (batch t) p h d)) (Fin.ext ?_))
    show 128 * (t.val % 16 - 1) + k.val % 128 = 128 * (t.val % 16) + k.val - 128; omega
  · refine (block_k_own m c t _ h d).trans (congrArg (fun p => argK m c (ix4 (batch t) p h d)) (Fin.ext ?_))
    show 128 * (t.val % 16) + k.val % 128 = 128 * (t.val % 16) + k.val - 128; omega
  · refine (block_k_next m c t _ h d).trans (congrArg (fun p => argK m c (ix4 (batch t) p h d)) (Fin.ext ?_))
    show 128 * (min (t.val % 16 + 1) 15) + k.val % 128 = 128 * (t.val % 16) + k.val - 128; omega

theorem band_v (t : Fin cfg0.N) (h : Fin 2) (k : Fin 384) (d : Fin 64) (hk : 128 ≤ 128 * (block t).val + k.val ∧ 128 * (block t).val + k.val < 2176) :
    band (iblk m c 4 t) (iblk m c 5 t) (iblk m c 6 t) h (ix2 k d) = Grad.band (fV m c) (batch t) (block t) h k d := by
  have h3 := k.isLt
  have h4 : t.val % 16 < 16 := (block t).isLt
  rw [band_at, Grad.band, dif_pos hk]
  have hk1 : 128 ≤ 128 * (t.val % 16) + k.val := hk.1
  have hk2 : 128 * (t.val % 16) + k.val < 2176 := hk.2
  split_ifs with h1 h2
  · refine (block_v_prev m c t _ h d).trans (congrArg (fun p => argV m c (ix4 (batch t) p h d)) (Fin.ext ?_))
    show 128 * (t.val % 16 - 1) + k.val % 128 = 128 * (t.val % 16) + k.val - 128; omega
  · refine (block_v_own m c t _ h d).trans (congrArg (fun p => argV m c (ix4 (batch t) p h d)) (Fin.ext ?_))
    show 128 * (t.val % 16) + k.val % 128 = 128 * (t.val % 16) + k.val - 128; omega
  · refine (block_v_next m c t _ h d).trans (congrArg (fun p => argV m c (ix4 (batch t) p h d)) (Fin.ext ?_))
    show 128 * (min (t.val % 16 + 1) 15) + k.val % 128 = 128 * (t.val % 16) + k.val - 128; omega

theorem mask_row (t : Fin cfg0.N) (g : Fin 4) (i : Fin 128) : row (k0_pay4 (grid0.coords t)) (rowAt g i) = Grad.mask (block t) i :=
  funext fun k => mask_at t g i k

/-- Wherever a row's mask is on, the key band is the sequence's, -/
theorem keys_on (t : Fin cfg0.N) (h : Fin 2) (i : Fin 128) (k : Fin 384) (hk : Grad.mask (block t) i k = 1#1) :
    rows (band (iblk m c 1 t) (iblk m c 2 t) (iblk m c 3 t) h) k = Grad.band (fK m c) (batch t) (block t) h k :=
  funext fun d => band_k m c t h k d (Grad.mask_range hk)

/-- and so is the value band. -/
theorem values_on (t : Fin cfg0.N) (h : Fin 2) (i : Fin 128) (k : Fin 384) (hk : Grad.mask (block t) i k = 1#1) :
    rows (band (iblk m c 4 t) (iblk m c 5 t) (iblk m c 6 t) h) k = Grad.band (fV m c) (batch t) (block t) h k :=
  funext fun d => band_v m c t h k d (Grad.mask_range hk)

/-! ## The point's gradients -/

/-- The scores' gradient at row `i` of query head `g`. -/
theorem ds_point (t : Fin cfg0.N) (h : Fin 2) (g : Fin 4) (i : Fin 128) (k : Fin 384) :
    Row.ds (row (k0_pay4 (grid0.coords t)) (rowAt g i)) (row (group (iblk m c 0 t) h) (rowAt g i)) (rows (band (iblk m c 1 t) (iblk m c 2 t) (iblk m c 3 t) h))
      (rows (band (iblk m c 4 t) (iblk m c 5 t) (iblk m c 6 t) h)) (sink (iblk m c 7 t) h (ix2 (rowAt g i) 0)) (row (group (iblk m c 8 t) h) (rowAt g i)) k
    = Grad.DS (fQ m c) (fK m c) (fV m c) (fS m c) (fD m c) (batch t) (block t) h g i k := by
  rw [mask_row, group_q, group_d, sink_s]
  exact congrFun (Row.ds_congr (keys_on m c t h i) (values_on m c t h i)) k

theorem w_point (t : Fin cfg0.N) (h : Fin 2) (g : Fin 4) (i : Fin 128) (k : Fin 384) :
    Row.w (row (k0_pay4 (grid0.coords t)) (rowAt g i)) (row (group (iblk m c 0 t) h) (rowAt g i)) (rows (band (iblk m c 1 t) (iblk m c 2 t) (iblk m c 3 t) h))
      (sink (iblk m c 7 t) h (ix2 (rowAt g i) 0)) k
    = Grad.W (fQ m c) (fK m c) (fS m c) (batch t) (block t) h g i k := by
  rw [mask_row, group_q, sink_s]
  exact congrFun (Row.w_congr (keys_on m c t h i)) k

theorem dsink_point (t : Fin cfg0.N) (h : Fin 2) (g : Fin 4) (i : Fin 128) :
    Row.dsink (row (k0_pay4 (grid0.coords t)) (rowAt g i)) (row (group (iblk m c 0 t) h) (rowAt g i)) (rows (band (iblk m c 1 t) (iblk m c 2 t) (iblk m c 3 t) h))
      (rows (band (iblk m c 4 t) (iblk m c 5 t) (iblk m c 6 t) h)) (sink (iblk m c 7 t) h (ix2 (rowAt g i) 0)) (row (group (iblk m c 8 t) h) (rowAt g i))
    = Grad.DSink (fQ m c) (fK m c) (fV m c) (fS m c) (fD m c) (batch t) (block t) h g i := by
  rw [mask_row, group_q, group_d, sink_s]
  exact Row.dsink_congr (keys_on m c t h i) (values_on m c t h i)

/-- Head `h`'s gradients of a point. -/
def headQ (t : Fin cfg0.N) (h : Fin 2) : FVec Ideal S512x64 .f32 :=
  dQ (k0_pay4 (grid0.coords t)) (band (iblk m c 1 t) (iblk m c 2 t) (iblk m c 3 t) h) (band (iblk m c 4 t) (iblk m c 5 t) (iblk m c 6 t) h)
    (group (iblk m c 0 t) h) (sink (iblk m c 7 t) h) (group (iblk m c 8 t) h)
def headK (t : Fin cfg0.N) (h : Fin 2) : FVec Ideal S384x64 .f32 :=
  dK (k0_pay4 (grid0.coords t)) (band (iblk m c 1 t) (iblk m c 2 t) (iblk m c 3 t) h) (band (iblk m c 4 t) (iblk m c 5 t) (iblk m c 6 t) h)
    (group (iblk m c 0 t) h) (sink (iblk m c 7 t) h) (group (iblk m c 8 t) h)
def headV (t : Fin cfg0.N) (h : Fin 2) : FVec Ideal S384x64 .f32 :=
  dV (k0_pay4 (grid0.coords t)) (band (iblk m c 1 t) (iblk m c 2 t) (iblk m c 3 t) h)
    (group (iblk m c 0 t) h) (sink (iblk m c 7 t) h) (group (iblk m c 8 t) h)
def headS (t : Fin cfg0.N) (h : Fin 2) : FVec Ideal S512x1 .f32 :=
  dSinkRows (k0_pay4 (grid0.coords t)) (band (iblk m c 1 t) (iblk m c 2 t) (iblk m c 3 t) h) (band (iblk m c 4 t) (iblk m c 5 t) (iblk m c 6 t) h)
    (group (iblk m c 0 t) h) (sink (iblk m c 7 t) h) (group (iblk m c 8 t) h)

theorem headQ_at (t : Fin cfg0.N) (h : Fin 2) (g : Fin 4) (i : Fin 128) (d : Fin 64) :
    headQ m c t h (ix2 (rowAt g i) d) = Grad.gradQ (fQ m c) (fK m c) (fV m c) (fS m c) (fD m c) (batch t) (block t) h g i d := by
  refine (dQ_at _ _ _ _ _ _ _ _).trans ?_
  rw [Grad.gradQ]
  refine Finset.sum_congr rfl fun k _ => ?_
  rw [ds_point]
  by_cases hk : 128 ≤ 128 * (block t).val + k.val ∧ 128 * (block t).val + k.val < 2176
  · rw [band_k m c t h k d hk]
  · rw [Grad.DS_off _ _ _ _ _ hk, zero_mul, zero_mul]

theorem headK_at (t : Fin cfg0.N) (h : Fin 2) (k : Fin 384) (d : Fin 64) :
    headK m c t h (ix2 k d) = Grad.bandK (fQ m c) (fK m c) (fV m c) (fS m c) (fD m c) (batch t) (block t) h k d := by
  refine (dK_at _ _ _ _ _ _ _ _).trans ((Grad.sum_split (a := 4) (b := 128) (by norm_num) _).trans ?_)
  rw [Grad.bandK]
  refine Finset.sum_congr rfl fun g _ => Finset.sum_congr rfl fun i _ => ?_
  exact congrArg₂ (· * ·) (ds_point m c t h g i k) (congrFun (group_q m c t h g i) d)

theorem headV_at (t : Fin cfg0.N) (h : Fin 2) (k : Fin 384) (d : Fin 64) :
    headV m c t h (ix2 k d) = Grad.bandV (fQ m c) (fK m c) (fS m c) (fD m c) (batch t) (block t) h k d := by
  refine (dV_at _ _ _ _ _ _ _).trans ((Grad.sum_split (a := 4) (b := 128) (by norm_num) _).trans ?_)
  rw [Grad.bandV]
  refine Finset.sum_congr rfl fun g _ => Finset.sum_congr rfl fun i _ => ?_
  exact congrArg₂ (· * ·) (w_point m c t h g i k) (congrFun (group_d m c t h g i) d)

theorem headS_at (t : Fin cfg0.N) (h : Fin 2) (g : Fin 4) (i : Fin 128) :
    headS m c t h (ix2 (rowAt g i) 0) = Grad.DSink (fQ m c) (fK m c) (fV m c) (fS m c) (fD m c) (batch t) (block t) h g i :=
  (dSinkRows_at _ _ _ _ _ _ _).trans (dsink_point m c t h g i)

/-! ## What a point writes -/

/-- The query gradient's block. -/
theorem accQ_at (t : Fin cfg0.N) (h : Fin 2) (g : Fin 4) (i : Fin 128) (d : Fin 64) :
    accQ m c t (ix3 0 i (colAt h g d)) = Grad.gradQ (fQ m c) (fK m c) (fV m c) (fS m c) (fD m c) (batch t) (block t) h g i d := by
  refine (putQ_at _ (headQ m c t 0) (headQ m c t 1) h g i d).trans ((?_ : _ = headQ m c t h (ix2 (rowAt g i) d)).trans (headQ_at m c t h g i d))
  match h with
  | 0 => rfl
  | 1 => rfl

/-- Where the two heads' blocks of the accumulated gradients begin. -/
theorem offsets : ∀ t : Fin cfg0.N, k0_off1 (grid0.coords t) 4294967295#32 = ![0, 128 * (t.val % 16 - 1), 0] ∧ k0_off1 (grid0.coords t) 0#32 = ![0, 128 * (t.val % 16), 0]
    ∧ k0_off1 (grid0.coords t) 1#32 = ![0, 128 * min (t.val % 16 + 1) 15, 0] ∧ k0_off2 (grid0.coords t) 4294967295#32 = ![0, 128 * (t.val % 16 - 1), 64]
    ∧ k0_off2 (grid0.coords t) 0#32 = ![0, 128 * (t.val % 16), 64] ∧ k0_off2 (grid0.coords t) 1#32 = ![0, 128 * min (t.val % 16 + 1) 15, 64] := by
  decide +kernel

/-- What block `n`'s band `Y` adds to row `i` of block `B`: its blocks are added at the block before, the own and the block after, kept inside the sequence. -/
def added (Y : Fin 384 → EReal) (n : Fin 16) (B : Fin 16) (i : Fin 128) : EReal :=
  (if B.val = n.val - 1 then Y ⟨i.val, by omega⟩ else 0) + (if B.val = n.val then Y ⟨128 + i.val, by omega⟩ else 0)
    + (if B.val = min (n.val + 1) 15 then Y ⟨256 + i.val, by omega⟩ else 0)

theorem addBands_point (t : Fin cfg0.N) (A : Fin 2 → FVec Ideal S384x64 .f32) (X : Vec Ideal S1x2048x128 .f32) (B : Fin 16) (i : Fin 128) (h : Fin 2) (d : Fin 64) :
    addBands (grid0.coords t) (A 0) (A 1) X (ix3 0 (Grad.pos B i) (keyCol h d)) = X (ix3 0 (Grad.pos B i) (keyCol h d)) + added (fun k => A h (ix2 k d)) (block t) B i := by
  obtain ⟨e0, e1, e2, f0, f1, f2⟩ := offsets t
  refine (addBands_at (grid0.coords t) (block t) e0 e1 e2 f0 f1 f2 (A 0) (A 1) X B i h d).trans ?_
  have hh : (if h = 0 then A 0 else A 1) = A h := by
    match h with
    | 0 => rfl
    | 1 => rfl
  rw [hh]; rfl

theorem outK_at (t : Fin cfg0.N) (X : Vec Ideal S1x2048x128 .f32) (B : Fin 16) (i : Fin 128) (h : Fin 2) (d : Fin 64) :
    outK (grid0.coords t) (iblk m c 0 t) (iblk m c 1 t) (iblk m c 2 t) (iblk m c 3 t) (iblk m c 4 t) (iblk m c 5 t) (iblk m c 6 t) (iblk m c 7 t) (iblk m c 8 t) X (ix3 0 (Grad.pos B i) (keyCol h d))
      = X (ix3 0 (Grad.pos B i) (keyCol h d))
        + added (fun k => Grad.bandK (fQ m c) (fK m c) (fV m c) (fS m c) (fD m c) (batch t) (block t) h k d) (block t) B i := by
  refine (addBands_point t (headK m c t) X B i h d).trans ?_
  simp only [headK_at]

theorem outV_at (t : Fin cfg0.N) (X : Vec Ideal S1x2048x128 .f32) (B : Fin 16) (i : Fin 128) (h : Fin 2) (d : Fin 64) :
    outV (grid0.coords t) (iblk m c 0 t) (iblk m c 1 t) (iblk m c 2 t) (iblk m c 3 t) (iblk m c 7 t) (iblk m c 8 t) X (ix3 0 (Grad.pos B i) (keyCol h d))
      = X (ix3 0 (Grad.pos B i) (keyCol h d))
        + added (fun k => Grad.bandV (fQ m c) (fK m c) (fS m c) (fD m c) (batch t) (block t) h k d) (block t) B i := by
  refine (addBands_point t (headV m c t) X B i h d).trans ?_
  simp only [headV_at]

theorem outS_at (t : Fin cfg0.N) (X : Vec Ideal S2x4x1x1 .f32) (h : Fin 2) (g : Fin 4) :
    outS (grid0.coords t) (iblk m c 0 t) (iblk m c 1 t) (iblk m c 2 t) (iblk m c 3 t) (iblk m c 4 t) (iblk m c 5 t) (iblk m c 6 t) (iblk m c 7 t) (iblk m c 8 t) X (ix4 h g 0 0)
      = X (ix4 h g 0 0) + ∑ i, Grad.DSink (fQ m c) (fK m c) (fV m c) (fS m c) (fD m c) (batch t) (block t) h g i := by
  refine (addSinks_at (headS m c t 0) (headS m c t 1) X h g).trans (congrArg (X (ix4 h g 0 0) + ·) (Finset.sum_congr rfl fun i _ => ?_))
  refine Eq.trans ?_ (headS_at m c t h g i)
  match h with
  | 0 => rfl
  | 1 => rfl

end Cert.KernelIdeal.Attn

end
-- ==== Proof.Attn.Accum.lean ====
/- The accumulated gradients after a point, as sums over the points before it, and the four output arrays at the end. -/
module

public import proofs.«01_k».proof.Proof.Attn.Points

@[expose] public section

set_option maxRecDepth 16384

noncomputable section

namespace Cert.KernelIdeal.Attn

open Idealize.ShloMosaic Idealize.ShloMosaic.TcCoe Idealize.SL.Sem Cert.KernelIdeal.Gen

variable (m : (ℓ : Loc nD τ sig) → Buf (Elt Ideal) ℓ) (c : Dev nD)

/-! ## The accumulated gradients -/

/-- Block `n`'s contribution to row `i` of block `B` of the key gradient, -/
def addK (b : Fin 2) (n B : Fin 16) (i : Fin 128) (h : Fin 2) (d : Fin 64) : EReal :=
  added (fun k => Grad.bandK (fQ m c) (fK m c) (fV m c) (fS m c) (fD m c) b n h k d) n B i

/-- of the value gradient, -/
def addV (b : Fin 2) (n B : Fin 16) (i : Fin 128) (h : Fin 2) (d : Fin 64) : EReal :=
  added (fun k => Grad.bandV (fQ m c) (fK m c) (fS m c) (fD m c) b n h k d) n B i

/-- and to a sink's. -/
def addS (b : Fin 2) (n : Fin 16) (h : Fin 2) (g : Fin 4) : EReal :=
  ∑ i, Grad.DSink (fQ m c) (fK m c) (fV m c) (fS m c) (fD m c) b n h g i

theorem zeroK (B : Fin 16) (i : Fin 128) (h : Fin 2) (d : Fin 64) : k0_pay5 (F := Ideal) (ix3 0 (Grad.pos B i) (keyCol h d)) = 0 := by
  pointwise [k0_pay5]

theorem zeroV (B : Fin 16) (i : Fin 128) (h : Fin 2) (d : Fin 64) : k0_pay6 (F := Ideal) (ix3 0 (Grad.pos B i) (keyCol h d)) = 0 := by
  pointwise [k0_pay6]

theorem zeroS (h : Fin 2) (g : Fin 4) : k0_pay7 (F := Ideal) (ix4 h g 0 0) = 0 := by
  pointwise [k0_pay7]

/-- A sum over the blocks up to the present one. -/
def upTo (f : Fin 16 → EReal) (n : ℕ) : EReal := ∑ k ∈ Finset.range (n + 1), if h : k < 16 then f ⟨k, h⟩ else 0

theorem upTo_zero (f : Fin 16 → EReal) : upTo f 0 = f 0 := by
  rw [upTo, Finset.sum_range_one, dif_pos (by omega)]; rfl

theorem upTo_succ (f : Fin 16 → EReal) (n : ℕ) (h : n + 1 < 16) : upTo f (n + 1) = upTo f n + f ⟨n + 1, h⟩ := by
  rw [upTo, Finset.sum_range_succ, dif_pos h]; rfl

theorem upTo_all (f : Fin 16 → EReal) : upTo f 15 = ∑ n, f n := by
  rw [upTo, Finset.sum_range]
  exact Finset.sum_congr rfl fun k _ => dif_pos k.isLt

theorem accK_at (b : Fin 2) (n : ℕ) (hn : n < 16) (ht : 16 * b.val + n < cfg0.N) (B : Fin 16) (i : Fin 128) (h : Fin 2) (d : Fin 64) :
    accK m c (16 * b.val + n) ht (ix3 0 (Grad.pos B i) (keyCol h d)) = upTo (fun k => addK m c b k B i h d) n := by
  have hb (t : Fin cfg0.N) (e : t.val = 16 * b.val + n) : batch t = b ∧ block t = ⟨n, hn⟩ :=
    ⟨Fin.ext (by show t.val / 16 = b.val; omega), Fin.ext (by show t.val % 16 = n; omega)⟩
  induction n with
  | zero =>
    obtain ⟨e1, e2⟩ := hb ⟨_, ht⟩ rfl
    refine (congrFun (accK_first m c ⟨_, ht⟩ (by show (16 * b.val + 0) % 16 = 0; omega)) _).trans ((outK_at m c _ _ B i h d).trans ?_)
    rw [e1, e2, zeroK, zero_add, upTo_zero]; rfl
  | succ n ih =>
    obtain ⟨e1, e2⟩ := hb ⟨_, ht⟩ rfl
    refine (congrFun (accK_next m c ⟨_, ht⟩ (by show (16 * b.val + (n + 1)) % 16 ≠ 0; omega)) _).trans ((outK_at m c _ _ B i h d).trans ?_)
    rw [e1, e2, upTo_succ _ n hn]
    refine congrArg (· + _) (ih (by omega) (by omega) fun t e => ⟨Fin.ext (by show t.val / 16 = b.val; omega), Fin.ext (by show t.val % 16 = n; omega)⟩)

theorem accV_at (b : Fin 2) (n : ℕ) (hn : n < 16) (ht : 16 * b.val + n < cfg0.N) (B : Fin 16) (i : Fin 128) (h : Fin 2) (d : Fin 64) :
    accV m c (16 * b.val + n) ht (ix3 0 (Grad.pos B i) (keyCol h d)) = upTo (fun k => addV m c b k B i h d) n := by
  have hb (t : Fin cfg0.N) (e : t.val = 16 * b.val + n) : batch t = b ∧ block t = ⟨n, hn⟩ :=
    ⟨Fin.ext (by show t.val / 16 = b.val; omega), Fin.ext (by show t.val % 16 = n; omega)⟩
  induction n with
  | zero =>
    obtain ⟨e1, e2⟩ := hb ⟨_, ht⟩ rfl
    refine (congrFun (accV_first m c ⟨_, ht⟩ (by show (16 * b.val + 0) % 16 = 0; omega)) _).trans ((outV_at m c _ _ B i h d).trans ?_)
    rw [e1, e2, zeroV, zero_add, upTo_zero]; rfl
  | succ n ih =>
    obtain ⟨e1, e2⟩ := hb ⟨_, ht⟩ rfl
    refine (congrFun (accV_next m c ⟨_, ht⟩ (by show (16 * b.val + (n + 1)) % 16 ≠ 0; omega)) _).trans ((outV_at m c _ _ B i h d).trans ?_)
    rw [e1, e2, upTo_succ _ n hn]
    refine congrArg (· + _) (ih (by omega) (by omega) fun t e => ⟨Fin.ext (by show t.val / 16 = b.val; omega), Fin.ext (by show t.val % 16 = n; omega)⟩)

/-- The sinks' gradient after point `n`: every point's contribution so far. -/
theorem accS_at (n : ℕ) (ht : n < cfg0.N) (h : Fin 2) (g : Fin 4) :
    accS m c n ht (ix4 h g 0 0) = ∑ k ∈ Finset.range (n + 1), if hk : k < 32 then addS m c ⟨k / 16, by omega⟩ ⟨k % 16, by omega⟩ h g else 0 := by
  induction n with
  | zero =>
    refine (congrFun (accS_first m c ⟨_, ht⟩ rfl) _).trans ((outS_at m c _ _ h g).trans ?_)
    rw [zeroS, zero_add, Finset.sum_range_one, dif_pos (by omega)]; rfl
  | succ n ih =>
    refine (congrFun (accS_next m c ⟨_, ht⟩ (Nat.succ_ne_zero n)) _).trans ((outS_at m c _ _ h g).trans ?_)
    have hn : n + 1 < 32 := Nat.lt_of_lt_of_eq ht N_0
    rw [Finset.sum_range_succ, dif_pos hn]
    exact congrArg (· + _) (ih (Nat.lt_of_succ_lt ht))

/-! ## The output arrays -/

/-- The query gradient as an array. -/
def arrQ : FVec Ideal S2x2048x512 .f32 := fun j =>
  Grad.gradQ (fQ m c) (fK m c) (fV m c) (fS m c) (fD m c) (j 0) ⟨(j 1).val / 128, by have : (j 1).val < 2048 := (j 1).isLt; omega⟩
    ⟨(j 2).val / 256, by have : (j 2).val < 512 := (j 2).isLt; omega⟩ ⟨(j 2).val / 64 % 4, by omega⟩ ⟨(j 1).val % 128, by omega⟩ ⟨(j 2).val % 64, by omega⟩

theorem arrQ_at (b : Fin 2) (n : Fin 16) (h : Fin 2) (g : Fin 4) (i : Fin 128) (d : Fin 64) :
    arrQ m c (ix3 b (Grad.pos n i) (colAt h g d)) = Grad.gradQ (fQ m c) (fK m c) (fV m c) (fS m c) (fD m c) b n h g i d := by
  have e1 : (128 * n.val + i.val) / 128 = n.val := by omega
  have e2 : (64 * (4 * h.val + g.val) + d.val) / 256 = h.val := by omega
  have e3 : (64 * (4 * h.val + g.val) + d.val) / 64 % 4 = g.val := by omega
  have e4 : (128 * n.val + i.val) % 128 = i.val := by omega
  have e5 : (64 * (4 * h.val + g.val) + d.val) % 64 = d.val := by omega
  show Grad.gradQ _ _ _ _ _ b ⟨(128 * n.val + i.val) / 128, _⟩ ⟨(64 * (4 * h.val + g.val) + d.val) / 256, _⟩
    ⟨(64 * (4 * h.val + g.val) + d.val) / 64 % 4, _⟩ ⟨(128 * n.val + i.val) % 128, _⟩ ⟨(64 * (4 * h.val + g.val) + d.val) % 64, _⟩ = _
  simp only [e1, e2, e3, e4, e5]

/-- The key gradient as an array, -/
def arrK : FVec Ideal S2x2048x128 .f32 := fun j =>
  Grad.gradK (fQ m c) (fK m c) (fV m c) (fS m c) (fD m c) (j 0) ⟨(j 1).val / 128, by have : (j 1).val < 2048 := (j 1).isLt; omega⟩
    ⟨(j 1).val % 128, by omega⟩ ⟨(j 2).val / 64, by have : (j 2).val < 128 := (j 2).isLt; omega⟩ ⟨(j 2).val % 64, by omega⟩

/-- the value gradient, -/
def arrV : FVec Ideal S2x2048x128 .f32 := fun j =>
  Grad.gradV (fQ m c) (fK m c) (fS m c) (fD m c) (j 0) ⟨(j 1).val / 128, by have : (j 1).val < 2048 := (j 1).isLt; omega⟩
    ⟨(j 1).val % 128, by omega⟩ ⟨(j 2).val / 64, by have : (j 2).val < 128 := (j 2).isLt; omega⟩ ⟨(j 2).val % 64, by omega⟩

/-- and the sinks'. -/
def arrS : FVec Ideal S2x4x1x1 .f32 := fun j => Grad.gradS (fQ m c) (fK m c) (fV m c) (fS m c) (fD m c) (j 0) (j 1)

theorem arrK_at (b : Fin 2) (n : Fin 16) (i : Fin 128) (h : Fin 2) (d : Fin 64) :
    arrK m c (ix3 b (Grad.pos n i) (keyCol h d)) = Grad.gradK (fQ m c) (fK m c) (fV m c) (fS m c) (fD m c) b n i h d := by
  have e1 : (128 * n.val + i.val) / 128 = n.val := by omega
  have e2 : (128 * n.val + i.val) % 128 = i.val := by omega
  have e3 : (64 * h.val + d.val) / 64 = h.val := by omega
  have e4 : (64 * h.val + d.val) % 64 = d.val := by omega
  show Grad.gradK _ _ _ _ _ b ⟨(128 * n.val + i.val) / 128, _⟩ ⟨(128 * n.val + i.val) % 128, _⟩ ⟨(64 * h.val + d.val) / 64, _⟩ ⟨(64 * h.val + d.val) % 64, _⟩ = _
  simp only [e1, e2, e3, e4]

theorem arrV_at (b : Fin 2) (n : Fin 16) (i : Fin 128) (h : Fin 2) (d : Fin 64) :
    arrV m c (ix3 b (Grad.pos n i) (keyCol h d)) = Grad.gradV (fQ m c) (fK m c) (fS m c) (fD m c) b n i h d := by
  have e1 : (128 * n.val + i.val) / 128 = n.val := by omega
  have e2 : (128 * n.val + i.val) % 128 = i.val := by omega
  have e3 : (64 * h.val + d.val) / 64 = h.val := by omega
  have e4 : (64 * h.val + d.val) % 64 = d.val := by omega
  show Grad.gradV _ _ _ _ b ⟨(128 * n.val + i.val) / 128, _⟩ ⟨(128 * n.val + i.val) % 128, _⟩ ⟨(64 * h.val + d.val) / 64, _⟩ ⟨(64 * h.val + d.val) % 64, _⟩ = _
  simp only [e1, e2, e3, e4]

theorem lastK (t : Fin cfg0.N) (ht : t.val % 16 = 15) (B : Fin 16) (i : Fin 128) (h : Fin 2) (d : Fin 64) :
    accK m c t.val t.isLt (ix3 0 (Grad.pos B i) (keyCol h d)) = Grad.gradK (fQ m c) (fK m c) (fV m c) (fS m c) (fD m c) (batch t) B i h d := by
  have e : t.val = 16 * (batch t).val + 15 := by show t.val = 16 * (t.val / 16) + 15; omega
  have key := accK_at m c (batch t) 15 (by omega) (by rw [← e]; exact t.isLt) B i h d
  simp only [← e] at key
  rw [key, upTo_all, Grad.gradK]
  exact Grad.gather_clipped (fun n k => Grad.bandK (fQ m c) (fK m c) (fV m c) (fS m c) (fD m c) (batch t) n h k d)
    (fun n k hk => Grad.bandK_off _ _ _ _ _ hk) B i

theorem lastV (t : Fin cfg0.N) (ht : t.val % 16 = 15) (B : Fin 16) (i : Fin 128) (h : Fin 2) (d : Fin 64) :
    accV m c t.val t.isLt (ix3 0 (Grad.pos B i) (keyCol h d)) = Grad.gradV (fQ m c) (fK m c) (fS m c) (fD m c) (batch t) B i h d := by
  have e : t.val = 16 * (batch t).val + 15 := by show t.val = 16 * (t.val / 16) + 15; omega
  have key := accV_at m c (batch t) 15 (by omega) (by rw [← e]; exact t.isLt) B i h d
  simp only [← e] at key
  rw [key, upTo_all, Grad.gradV]
  exact Grad.gather_clipped (fun n k => Grad.bandV (fQ m c) (fK m c) (fS m c) (fD m c) (batch t) n h k d)
    (fun n k hk => Grad.bandV_off _ _ _ _ hk) B i

theorem lastS (t : Fin cfg0.N) (ht : t.val = 31) (h : Fin 2) (g : Fin 4) :
    accS m c t.val t.isLt (ix4 h g 0 0) = Grad.gradS (fQ m c) (fK m c) (fV m c) (fS m c) (fD m c) h g := by
  rw [accS_at, ht, Finset.sum_range, Grad.gradS]
  refine (Grad.sum_split (a := 2) (b := 16) (n := 32) (by norm_num) _).trans ?_
  refine Finset.sum_congr rfl fun b _ => Finset.sum_congr rfl fun n _ => ?_
  have e1 : (16 * b.val + n.val) / 16 = b.val := by omega
  have e2 : (16 * b.val + n.val) % 16 = n.val := by omega
  rw [dif_pos (show 16 * b.val + n.val < 32 by omega)]
  simp only [e1, e2, addS]

/-- Every output window's block index at every point. -/
theorem out_places : ∀ t : Fin cfg0.N, win0_9.index t = ![t.val / 16, t.val % 16, 0] ∧ win0_10.index t = ![t.val / 16, 0, 0] ∧ win0_11.index t = ![t.val / 16, 0, 0] := by
  decide +kernel

theorem block_index_q (y : S1x128x512.Idx) : ∃ (h : Fin 2) (g : Fin 4) (i : Fin 128) (d : Fin 64), y = ix3 0 i (colAt h g d) := by
  have h0 : (y 0).val < 1 := (y 0).isLt
  have h1 : (y 1).val < 128 := (y 1).isLt
  have h2 : (y 2).val < 512 := (y 2).isLt
  refine ⟨⟨(y 2).val / 256, by omega⟩, ⟨(y 2).val / 64 % 4, by omega⟩, ⟨(y 1).val, h1⟩, ⟨(y 2).val % 64, by omega⟩, funext fun a => Fin.ext ?_⟩
  match a with
  | ⟨0, _⟩ => show (y 0).val = 0; omega
  | ⟨1, _⟩ => rfl
  | ⟨2, _⟩ => show (y 2).val = 64 * (4 * ((y 2).val / 256) + (y 2).val / 64 % 4) + (y 2).val % 64; omega

theorem block_index_k (y : S1x2048x128.Idx) : ∃ (n : Fin 16) (i : Fin 128) (h : Fin 2) (d : Fin 64), y = ix3 0 (Grad.pos n i) (keyCol h d) := by
  have h0 : (y 0).val < 1 := (y 0).isLt
  have h1 : (y 1).val < 2048 := (y 1).isLt
  have h2 : (y 2).val < 128 := (y 2).isLt
  refine ⟨⟨(y 1).val / 128, by omega⟩, ⟨(y 1).val % 128, by omega⟩, ⟨(y 2).val / 64, by omega⟩, ⟨(y 2).val % 64, by omega⟩, funext fun a => Fin.ext ?_⟩
  match a with
  | ⟨0, _⟩ => show (y 0).val = 0; omega
  | ⟨1, _⟩ => show (y 1).val = 128 * ((y 1).val / 128) + (y 1).val % 128; omega
  | ⟨2, _⟩ => show (y 2).val = 64 * ((y 2).val / 64) + (y 2).val % 64; omega

theorem final_q : (dats m 0 c).arrAt 9 (cfgs 0).N = arrQ m c := by
  refine (dats m 0 c).arrAt_eq_of_covers 9 _ (by decide +kernel) fun t hf y => ?_
  blk_simp
  rw [after0_9]
  obtain ⟨h, g, i, d, e⟩ := block_index_q y
  subst e
  refine (accQ_at m c t h g i d).trans ((arrQ_at m c (batch t) (block t) h g i d).symm.trans (congrArg (arrQ m c) ?_))
  have hp := (out_places t).1
  blk_ext [hp]

theorem final_k : (dats m 0 c).arrAt 10 (cfgs 0).N = arrK m c := by
  refine (dats m 0 c).arrAt_eq_of_covers 10 _ (by decide +kernel) fun t hf y => ?_
  blk_simp
  rw [after0_10]
  obtain ⟨n, i, h, d, e⟩ := block_index_k y
  subst e
  refine (lastK m c t ((flush0_10 t).mp hf) n i h d).trans ((arrK_at m c (batch t) n i h d).symm.trans (congrArg (arrK m c) ?_))
  have hp := (out_places t).2.1
  blk_ext [hp]

theorem final_v : (dats m 0 c).arrAt 11 (cfgs 0).N = arrV m c := by
  refine (dats m 0 c).arrAt_eq_of_covers 11 _ (by decide +kernel) fun t hf y => ?_
  blk_simp
  rw [after0_11]
  obtain ⟨n, i, h, d, e⟩ := block_index_k y
  subst e
  refine (lastV m c t ((flush0_11 t).mp hf) n i h d).trans ((arrV_at m c (batch t) n i h d).symm.trans (congrArg (arrV m c) ?_))
  have hp := (out_places t).2.2
  blk_ext [hp]

theorem arrS_at (h : Fin 2) (g : Fin 4) : arrS m c (ix4 h g 0 0) = Grad.gradS (fQ m c) (fK m c) (fV m c) (fS m c) (fD m c) h g := rfl

theorem out_places_s : ∀ t : Fin cfg0.N, win0_12.index t = ![0, 0, 0, 0] := by decide +kernel

/-- The sinks' gradient is written at the last point. -/
theorem flush_last (t : Fin cfg0.N) (hf : (cfg0.win 12).flush t = true) : t.val = 31 := by
  have ht : t.val < 32 := Nat.lt_of_lt_of_eq t.isLt N_0
  have := (flush0_12 t).mp hf
  omega

theorem final_s : (dats m 0 c).arrAt 12 (cfgs 0).N = arrS m c := by
  refine (dats m 0 c).arrAt_eq_of_covers 12 _ (by decide +kernel) fun t hf y => ?_
  blk_simp
  rw [after0_12]
  obtain ⟨h, g, e⟩ := Grad.cover_s y
  subst e
  refine (lastS m c t (flush_last t hf) h g).trans ((arrS_at m c h g).symm.trans (congrArg (arrS m c) ?_))
  have hp := out_places_s t
  blk_ext [hp]

end Cert.KernelIdeal.Attn

end
-- ==== Proof.Attn.Reference.lean ====
/- The reference's named arrays at an index: each is what Proof/Attn/Spec.lean defines of the row it belongs to. -/
module

public import proofs.«01_k».proof.Proof.Gen.ReferenceIdeal.Run
public import proofs.«01_k».proof.Proof.Attn.Grad
public import Idealize.ShloMosaic.Lib.Pointwise
public import Idealize.ShloMosaic.Lib.Pipeline.ValueKit
public import Idealize.ShloMosaic.Lib.Tactic.CleanTypes

@[expose] public section

set_option maxRecDepth 16384

noncomputable section

namespace Cert.ReferenceIdeal.Attn

open Idealize.ShloMosaic Idealize.SL.Sem Cert.ReferenceIdeal Cert.ReferenceIdeal.Gen Cert.ReferenceIdeal.Value Idealize.ShloMosaic.StableHlo

/-! ## Sums along the last of six axes, and over the batches, the blocks and the rows -/

theorem last_fiber {n : ℕ} (h : (⟨6, ![2, 16, 2, 4, 128, n]⟩ : Shape).ReducesTo [5] S2x16x2x4x128) (a : Fin 2) (b : Fin 16) (c : Fin 2) (d : Fin 4) (e : Fin 128)
    (i : (⟨6, ![2, 16, 2, 4, 128, n]⟩ : Shape).Idx) : h.drop i = ix5 a b c d e ↔ ∃ k : Fin n, ix6 a b c d e k = i := by
  constructor
  · intro hd
    refine ⟨i 5, ?_⟩
    funext x; apply Fin.ext
    match x with
    | ⟨0, _⟩ => exact (congrArg Fin.val (congrFun hd 0)).symm
    | ⟨1, _⟩ => exact (congrArg Fin.val (congrFun hd 1)).symm
    | ⟨2, _⟩ => exact (congrArg Fin.val (congrFun hd 2)).symm
    | ⟨3, _⟩ => exact (congrArg Fin.val (congrFun hd 3)).symm
    | ⟨4, _⟩ => exact (congrArg Fin.val (congrFun hd 4)).symm
    | ⟨5, _⟩ => rfl
  · rintro ⟨k, rfl⟩
    funext x; apply Fin.ext
    match x with
    | ⟨0, _⟩ => rfl
    | ⟨1, _⟩ => rfl
    | ⟨2, _⟩ => rfl
    | ⟨3, _⟩ => rfl
    | ⟨4, _⟩ => rfl

/-- A sum along the last axis. -/
theorem last_sum {n : ℕ} (h : (⟨6, ![2, 16, 2, 4, 128, n]⟩ : Shape).ReducesTo [5] S2x16x2x4x128) (v : (⟨6, ![2, 16, 2, 4, 128, n]⟩ : Shape).Idx → EReal) (z : EReal)
    (a : Fin 2) (b : Fin 16) (c : Fin 2) (d : Fin 4) (e : Fin 128) :
    Ideal.hostReduceAdd h v z (ix5 a b c d e) = z + ∑ k, v (ix6 a b c d e k) :=
  congrArg (z + ·) (Finset.sum_filter_eq_sum_of_fiber _ (fun k : Fin n => (ix6 a b c d e k : (⟨6, ![2, 16, 2, 4, 128, n]⟩ : Shape).Idx))
    (fun _ _ hk => congrFun hk 5) (last_fiber h a b c d e) v)

/-- The largest along the last axis. -/
theorem last_max {n : ℕ} (h : (⟨6, ![2, 16, 2, 4, 128, n]⟩ : Shape).ReducesTo [5] S2x16x2x4x128) (v : (⟨6, ![2, 16, 2, 4, 128, n]⟩ : Shape).Idx → EReal) (z : EReal)
    (a : Fin 2) (b : Fin 16) (c : Fin 2) (d : Fin 4) (e : Fin 128) :
    Finset.fold max z v (Finset.univ.filter fun i => h.drop i = ix5 a b c d e) = Finset.fold max z (fun k => v (ix6 a b c d e k)) Finset.univ :=
  Finset.fold_filter_eq_fold_of_fiber max _ (fun k : Fin n => (ix6 a b c d e k : (⟨6, ![2, 16, 2, 4, 128, n]⟩ : Shape).Idx))
    (fun _ _ hk => congrFun hk 5) (last_fiber h a b c d e) z v

theorem rows_fiber (h : S2x16x2x4x128x1.ReducesTo [0, 1, 4] S2x4x1) (c : Fin 2) (d : Fin 4) (z : Fin 1)
    (i : S2x16x2x4x128x1.Idx) : h.drop i = ix3 c d z ↔ ∃ p : Fin 2 × Fin 16 × Fin 128, ix6 p.1 p.2.1 c d p.2.2 z = i := by
  constructor
  · intro hd
    refine ⟨(i 0, i 1, i 4), ?_⟩
    funext x; apply Fin.ext
    match x with
    | ⟨0, _⟩ => rfl
    | ⟨1, _⟩ => rfl
    | ⟨2, _⟩ => exact (congrArg Fin.val (congrFun hd 0)).symm
    | ⟨3, _⟩ => exact (congrArg Fin.val (congrFun hd 1)).symm
    | ⟨4, _⟩ => rfl
    | ⟨5, _⟩ => exact (congrArg Fin.val (congrFun hd 2)).symm
  · rintro ⟨p, rfl⟩
    funext x; apply Fin.ext
    match x with
    | ⟨0, _⟩ => rfl
    | ⟨1, _⟩ => rfl
    | ⟨2, _⟩ => rfl

/-- A sum over the batches, the blocks and the rows. -/
theorem rows_sum (h : S2x16x2x4x128x1.ReducesTo [0, 1, 4] S2x4x1) (v : S2x16x2x4x128x1.Idx → EReal) (c : Fin 2) (d : Fin 4) (y : Fin 1) :
    Ideal.hostReduceAdd h v 0 (ix3 c d y) = ∑ b, ∑ n, ∑ i, v (ix6 b n c d i y) := by
  refine (zero_add _).trans ((Finset.sum_filter_eq_sum_of_fiber _ (fun p : Fin 2 × Fin 16 × Fin 128 => (ix6 p.1 p.2.1 c d p.2.2 y : S2x16x2x4x128x1.Idx))
    (fun p q hk => Prod.ext (congrFun hk 0) (Prod.ext (congrFun hk 1) (congrFun hk 4))) (rows_fiber h c d y) v).trans ?_)
  rw [Fintype.sum_prod_type]
  exact Finset.sum_congr rfl fun b _ => Fintype.sum_prod_type _

/-! ## The arguments -/

variable (V0 : Valuation τ sig (Elt Ideal))

def q (b : Fin 2) (p : Fin 2048) (h : Fin 8) (d : Fin 64) : EReal := (V0 (Proc.devRef .tc main_arg0) : FVec Ideal S2x2048x8x64 .f32) (ix4 b p h d)
def k (b : Fin 2) (p : Fin 2048) (h : Fin 2) (d : Fin 64) : EReal := (V0 (Proc.devRef .tc main_arg1) : FVec Ideal S2x2048x2x64 .f32) (ix4 b p h d)
def v (b : Fin 2) (p : Fin 2048) (h : Fin 2) (d : Fin 64) : EReal := (V0 (Proc.devRef .tc main_arg2) : FVec Ideal S2x2048x2x64 .f32) (ix4 b p h d)
def s (h : Fin 8) : EReal := (V0 (Proc.devRef .tc main_arg3) : FVec Ideal S8 .f32) (ix1 h)
def dy (b : Fin 2) (p : Fin 2048) (d : Fin 512) : EReal := (V0 (Proc.devRef .tc main_arg4) : FVec Ideal S2x2048x512 .f32) (ix3 b p d)

variable (b : Fin 2) (n : Fin 16) (h : Fin 2) (g : Fin 4) (i : Fin 128)

theorem q_at (d : Fin 64) : res_main_v1 V0 (ix6 b n h g i d) = Grad.qrow (q V0) b n h g i d := by
  unfold res_main_v1
  clean_types
  pointwise [Grad.qrow, q]
  blk_ext

theorem dy_at (d : Fin 64) : res_main_v104 V0 (ix6 b n h d g i) = Grad.drow (dy V0) b n h g i d := by
  unfold res_main_v104
  clean_types
  pointwise [Grad.drow, dy]
  blk_ext

theorem s_at : res_main_v58 V0 (ix6 0 0 h g 0 0) = s V0 (Grad.head h g) := by
  unfold res_main_v58
  clean_types
  pointwise [s]
  blk_ext

theorem mask_at (j : Fin 384) : res_main_v57_1 V0 (ix6 b n h g i j) = Grad.mask n i j := by
  unfold res_main_v57_1 res_main_v41
  clean_types
  pointwise [Grad.mask]

/-! ## The bands -/

theorem padK_at (B : Fin 18) (d : Fin 64) : res_main_v6 V0 (ix5 b B i h d)
    = if hk : 128 ≤ 128 * B.val + i.val ∧ 128 * B.val + i.val < 2176 then k V0 b ⟨128 * B.val + i.val - 128, by omega⟩ h d else 0 := by
  unfold res_main_v6 res_main_v2
  clean_types
  pointwise [k]
  by_cases hk : 128 ≤ 128 * B.val + i.val ∧ 128 * B.val + i.val < 2176
  · rw [dif_neg (by omega), dif_pos (by omega), dif_pos hk]
    blk_ext
  · rw [dif_neg hk]
    split_ifs <;> first | rfl | (exfalso; omega)

theorem padV_at (B : Fin 18) (d : Fin 64) : res_main_v10 V0 (ix5 b B i h d)
    = if hk : 128 ≤ 128 * B.val + i.val ∧ 128 * B.val + i.val < 2176 then v V0 b ⟨128 * B.val + i.val - 128, by omega⟩ h d else 0 := by
  unfold res_main_v10 res_main_v2
  clean_types
  pointwise [v]
  by_cases hk : 128 ≤ 128 * B.val + i.val ∧ 128 * B.val + i.val < 2176
  · rw [dif_neg (by omega), dif_pos (by omega), dif_pos hk]
    blk_ext
  · rw [dif_neg hk]
    split_ifs <;> first | rfl | (exfalso; omega)

theorem three_at (x : FVec Ideal S2x18x128x2x64 .f32) (j : Fin 384) (d : Fin 64) :
    concatenate S2x16x384x2x64 2 [⟨S2x16x128x2x64, extractStridedSlice S2x16x128x2x64 ![0, 0, 0, 0, 0] x slices_S2x18x128x2x64_S2x16x128x2x64_0_0_0_0_0⟩,
      ⟨S2x16x128x2x64, extractStridedSlice S2x16x128x2x64 ![0, 1, 0, 0, 0] x slices_S2x18x128x2x64_S2x16x128x2x64_0_1_0_0_0⟩,
      ⟨S2x16x128x2x64, extractStridedSlice S2x16x128x2x64 ![0, 2, 0, 0, 0] x slices_S2x18x128x2x64_S2x16x128x2x64_0_2_0_0_0⟩]
      concatenates_S2x16x128x2x64_S2x16x128x2x64_S2x16x128x2x64_S2x16x384x2x64_d2 (ix5 b n j h d)
    = x (ix5 b ⟨n.val + j.val / 128, by omega⟩ ⟨j.val % 128, by omega⟩ h d) := by
  pointwise
  split_ifs <;> blk_ext

theorem bandK_at (j : Fin 384) (d : Fin 64) : res_main_v14 V0 (ix5 b n j h d) = Grad.band (k V0) b n h j d := by
  refine (three_at b n h (res_main_v6 V0) j d).trans ((padK_at V0 b h _ _ d).trans ?_)
  unfold Grad.band
  split_ifs <;> first | (exfalso; simp only [] at *; omega) | rfl | (congr 2; simp only []; omega)

theorem bandV_at (j : Fin 384) (d : Fin 64) : res_main_v18 V0 (ix5 b n j h d) = Grad.band (v V0) b n h j d := by
  refine (three_at b n h (res_main_v10 V0) j d).trans ((padV_at V0 b h _ _ d).trans ?_)
  unfold Grad.band
  split_ifs <;> first | (exfalso; simp only [] at *; omega) | rfl | (congr 2; simp only []; omega)

/-! ## The rows -/

/-- The scores. -/
theorem score_at (j : Fin 384) : res_main_v57_0 V0 (ix6 b n h g i j) = Row.sc (Grad.mask n i) (Grad.qrow (q V0) b n h g i) (Grad.band (k V0) b n h) j := by
  unfold res_main_v57_0
  clean_types
  pointwise
  simp only [mask_at, q_at, bandK_at]
  rfl

/-- Their largest. -/
theorem max_at : res_main_v59 V0 (ix5 b n h g i) = Row.mx (Grad.mask n i) (Grad.qrow (q V0) b n h g i) (Grad.band (k V0) b n h) := by
  unfold res_main_v59
  clean_types
  pointwise
  rw [last_max]
  simp only [score_at, Row.mx]

/-- Where it is attained. -/
theorem top_at (j : Fin 384) : res_main_v63 V0 (ix6 b n h g i j) = Row.top (Grad.mask n i) (Grad.qrow (q V0) b n h g i) (Grad.band (k V0) b n h) j := by
  unfold res_main_v63
  clean_types
  pointwise
  rw [Row.plain_bit, score_at, max_at]
  rfl

theorem maxColumn_at : res_main_v65 V0 (ix6 b n h g i 0) = Row.mx (Grad.mask n i) (Grad.qrow (q V0) b n h g i) (Grad.band (k V0) b n h) := by
  unfold res_main_v65
  clean_types
  pointwise
  exact max_at V0 b n h g i

theorem larger_at (x : FVec Ideal S2x16x2x4x128x1 .f32) (y : FVec Ideal S1x1x2x4x1x1 .f32) :
    maximumf x (broadcastInDim S2x16x2x4x128x1 ![0, 1, 2, 3, 4, 5] bcast_S1x1x2x4x1x1_S2x16x2x4x128x1_0_1_2_3_4_5 y) (ix6 b n h g i 0)
      = max (x (ix6 b n h g i 0)) (y (ix6 0 0 h g 0 0)) := by
  pointwise

/-- The stabiliser. -/
theorem st_at : res_main_v67 V0 (ix6 b n h g i 0) = Row.st (Grad.mask n i) (Grad.qrow (q V0) b n h g i) (Grad.band (k V0) b n h) (s V0 (Grad.head h g)) := by
  refine (larger_at b n h g i (res_main_v65 V0) (res_main_v58 V0)).trans ?_
  rw [maxColumn_at, s_at]
  rfl

/-- The unnormalised weights. -/
theorem p_at (j : Fin 384) : res_main_v88 V0 (ix6 b n h g i j) = Row.p (Grad.mask n i) (Grad.qrow (q V0) b n h g i) (Grad.band (k V0) b n h) (s V0 (Grad.head h g)) j := by
  unfold res_main_v88
  clean_types
  pointwise
  rw [score_at, st_at]
  rfl

theorem es_at : res_main_v93 V0 (ix6 b n h g i 0) = Row.es (Grad.mask n i) (Grad.qrow (q V0) b n h g i) (Grad.band (k V0) b n h) (s V0 (Grad.head h g)) := by
  unfold res_main_v93
  clean_types
  pointwise
  rw [s_at, st_at]
  rfl

/-- The denominator. -/
theorem den_at : res_main_v94 V0 (ix6 b n h g i 0) = Row.den (Grad.mask n i) (Grad.qrow (q V0) b n h g i) (Grad.band (k V0) b n h) (s V0 (Grad.head h g)) := by
  unfold res_main_v94
  clean_types
  pointwise
  rw [last_sum, es_at, zero_add]
  simp only [p_at]
  rfl

/-- The gradients of the weights. -/
theorem dp_at (j : Fin 384) : res_main_v105 V0 (ix6 b n h g i j) = Row.dp (Grad.band (v V0) b n h) (Grad.drow (dy V0) b n h g i) j := by
  unfold res_main_v105
  clean_types
  pointwise
  simp only [dy_at, bandV_at]
  rfl

/-! ## Where the arguments are finite -/

variable (hq : ∀ b p h d, ∃ r : ℝ, q V0 b p h d = r) (hk : ∀ b p h d, ∃ r : ℝ, k V0 b p h d = r) (hs : ∀ h, ∃ r : ℝ, s V0 h = r)

include hq in
theorem q_fin (d : Fin 64) : ∃ r : ℝ, (Grad.qrow (q V0) b n h g i) d = r := hq _ _ _ _

include hk in
theorem k_fin (j : Fin 384) (_ : (Grad.mask n i) j = 1#1) (d : Fin 64) : ∃ r : ℝ, (Grad.band (k V0) b n h) j d = r := by
  unfold Grad.band
  split_ifs
  · exact hk _ _ _ _
  · exact ⟨0, rfl⟩

include hq hk hs in
theorem den_pos : ∃ r : ℝ, 0 < r ∧ Row.den (Grad.mask n i) (Grad.qrow (q V0) b n h g i) (Grad.band (k V0) b n h) (s V0 (Grad.head h g)) = r :=
  Row.den_fin (q_fin V0 b n h g i hq) (k_fin V0 b n h i hk) (hs _)

include hq hk hs in
/-- The weights. -/
theorem w_at (j : Fin 384) : res_main_v96 V0 (ix6 b n h g i j) = Row.w (Grad.mask n i) (Grad.qrow (q V0) b n h g i) (Grad.band (k V0) b n h) (s V0 (Grad.head h g)) j := by
  unfold res_main_v96
  clean_types
  pointwise
  rw [p_at, den_at, Row.div_den (den_pos V0 b n h g i hq hk hs)]
  rfl

include hq hk hs in
/-- The denominator's gradient. -/
theorem t_at : res_main_v113 V0 (ix6 b n h g i 0) = Row.t (Grad.mask n i) (Grad.qrow (q V0) b n h g i) (Grad.band (k V0) b n h) (Grad.band (v V0) b n h) (s V0 (Grad.head h g)) (Grad.drow (dy V0) b n h g i) := by
  unfold res_main_v113
  clean_types
  pointwise
  rw [last_sum, zero_add]
  pointwise
  simp only [dp_at, den_at, p_at]
  exact Row.t_inside (q_fin V0 b n h g i hq) (k_fin V0 b n h i hk) (hs _)

include hq hk hs in
theorem e_at : res_main_v116 V0 (ix6 b n h g i 0) = Row.e (Grad.mask n i) (Grad.qrow (q V0) b n h g i) (Grad.band (k V0) b n h) (Grad.band (v V0) b n h) (s V0 (Grad.head h g)) (Grad.drow (dy V0) b n h g i) := by
  unfold res_main_v116
  clean_types
  pointwise
  rw [t_at V0 b n h g i hq hk hs, es_at]
  rfl

include hq hk hs in
theorem u_at (j : Fin 384) : res_main_v123 V0 (ix6 b n h g i j) = Row.u (Grad.mask n i) (Grad.qrow (q V0) b n h g i) (Grad.band (k V0) b n h) (Grad.band (v V0) b n h) (s V0 (Grad.head h g)) (Grad.drow (dy V0) b n h g i) j := by
  unfold res_main_v123
  clean_types
  pointwise
  rw [last_sum, Fin.sum_univ_one, dp_at, den_at, p_at, t_at V0 b n h g i hq hk hs, zero_add, Row.div_den (den_pos V0 b n h g i hq hk hs)]
  rfl

include hq hk hs in
theorem dm_at : res_main_v127 V0 (ix6 b n h g i 0) = Row.dm (Grad.mask n i) (Grad.qrow (q V0) b n h g i) (Grad.band (k V0) b n h) (Grad.band (v V0) b n h) (s V0 (Grad.head h g)) (Grad.drow (dy V0) b n h g i) := by
  unfold res_main_v127
  clean_types
  pointwise
  rw [last_sum, zero_add, e_at V0 b n h g i hq hk hs]
  pointwise
  simp only [u_at V0 b n h g i hq hk hs]
  rfl

theorem share_of (x y : FVec Ideal S2x16x2x4x128x1 .f32) (z : FVec Ideal S1x1x2x4x1x1 .f32) :
    (mulf x (select (cmpf .ogt y (broadcastInDim S2x16x2x4x128x1 ![0, 1, 2, 3, 4, 5] bcast_S1x1x2x4x1x1_S2x16x2x4x128x1_0_1_2_3_4_5 z)) (broadcastInDim S2x16x2x4x128x1 ![] bcast_S_S2x16x2x4x128x1 (constant S_ .f32 0x3F800000#32)) (select (cmpf .oeq y (broadcastInDim S2x16x2x4x128x1 ![0, 1, 2, 3, 4, 5] bcast_S1x1x2x4x1x1_S2x16x2x4x128x1_0_1_2_3_4_5 z)) (broadcastInDim S2x16x2x4x128x1 ![] bcast_S_S2x16x2x4x128x1 (constant S_ .f32 0x3F000000#32)) (broadcastInDim S2x16x2x4x128x1 ![] bcast_S_S2x16x2x4x128x1 (constant S_ .f32 0x00000000#32))))) (ix6 b n h g i 0)
      = x (ix6 b n h g i 0) * (if z (ix6 0 0 h g 0 0) < y (ix6 b n h g i 0) then 1 else if y (ix6 b n h g i 0) = z (ix6 0 0 h g 0 0) then Row.half else 0) := by
  pointwise

theorem ds_of (M : IVec S2x16x2x4x128x384 1) (u top : FVec Ideal S2x16x2x4x128x384 .f32) (x y : FVec Ideal S2x16x2x4x128x1 .f32) (z : FVec Ideal S1x1x2x4x1x1 .f32)
    (j : Fin 384) :
    (mulf (select M (addf u (mulf (broadcastInDim S2x16x2x4x128x384 ![0, 1, 2, 3, 4] bcast_S2x16x2x4x128_S2x16x2x4x128x384_0_1_2_3_4 (Host.divf (Host.reduceAdd (mulf x (select (cmpf .ogt y (broadcastInDim S2x16x2x4x128x1 ![0, 1, 2, 3, 4, 5] bcast_S1x1x2x4x1x1_S2x16x2x4x128x1_0_1_2_3_4_5 z)) (broadcastInDim S2x16x2x4x128x1 ![] bcast_S_S2x16x2x4x128x1 (constant S_ .f32 0x3F800000#32)) (select (cmpf .oeq y (broadcastInDim S2x16x2x4x128x1 ![0, 1, 2, 3, 4, 5] bcast_S1x1x2x4x1x1_S2x16x2x4x128x1_0_1_2_3_4_5 z)) (broadcastInDim S2x16x2x4x128x1 ![] bcast_S_S2x16x2x4x128x1 (constant S_ .f32 0x3F000000#32)) (broadcastInDim S2x16x2x4x128x1 ![] bcast_S_S2x16x2x4x128x1 (constant S_ .f32 0x00000000#32))))) (constant S_ .f32 0x00000000#32) reducesTo_S2x16x2x4x128x1_S2x16x2x4x128_d5 h_S_) (Host.reduceAdd top (constant S_ .f32 0x00000000#32) reducesTo_S2x16x2x4x128x384_S2x16x2x4x128_d5 h_S_))) top)) (broadcastInDim S2x16x2x4x128x384 ![] bcast_S_S2x16x2x4x128x384 (constant S_ .f32 0x00000000#32))) (broadcastInDim S2x16x2x4x128x384 ![] bcast_S_S2x16x2x4x128x384 (constant S_ .f32 0x3E000000#32))) (ix6 b n h g i j)
      = Scalar.select (M (ix6 b n h g i j)) ((u (ix6 b n h g i j)
        + Ideal.div (x (ix6 b n h g i 0) * (if z (ix6 0 0 h g 0 0) < y (ix6 b n h g i 0) then 1 else if y (ix6 b n h g i 0) = z (ix6 0 0 h g 0 0) then Row.half else 0))
          (∑ l, top (ix6 b n h g i l)) * top (ix6 b n h g i j)) * Row.eighth) 0 := by
  pointwise
  rw [last_sum, last_sum, Fin.sum_univ_one, share_of, zero_add, zero_add]

include hq hk hs in
/-- The gradients of the scores. -/
theorem ds_at (j : Fin 384) : res_main_v141 V0 (ix6 b n h g i j) = Grad.DS (q V0) (k V0) (v V0) (s V0) (dy V0) b n h g i j := by
  refine (ds_of b n h g i (res_main_v57_1 V0) (res_main_v123 V0) (res_main_v63 V0) (res_main_v127 V0) (res_main_v65 V0) (res_main_v58 V0) j).trans ?_
  rw [dm_at V0 b n h g i hq hk hs, maxColumn_at, s_at, mask_at, u_at V0 b n h g i hq hk hs]
  simp only [top_at]
  rfl

/-! ## The bands' gradients -/

include hq hk hs in
theorem gradBandV_at (j : Fin 384) (d : Fin 64) : res_main_v107 V0 (ix5 b n j h d) = Grad.bandV (q V0) (k V0) (s V0) (dy V0) b n h j d := by
  unfold res_main_v107
  clean_types
  pointwise
  simp only [dy_at, w_at V0 _ _ _ _ _ hq hk hs]
  exact Finset.sum_congr rfl fun g _ => Finset.sum_congr rfl fun i _ => mul_comm _ _

include hq hk hs in
theorem gradBandK_at (j : Fin 384) (d : Fin 64) : res_main_v143 V0 (ix5 b n j h d) = Grad.bandK (q V0) (k V0) (v V0) (s V0) (dy V0) b n h j d := by
  unfold res_main_v143
  clean_types
  pointwise
  simp only [q_at, ds_at V0 _ _ _ _ _ hq hk hs]
  rfl

theorem gather_at (X : Fin 16 → Fin 384 → EReal) (B : Fin 16) :
    (((if c : 2 ≤ (128 + (128 * B.val + i.val)) / 128 ∧ (128 + (128 * B.val + i.val)) / 128 - 2 < 16 then
          X ⟨(128 + (128 * B.val + i.val)) / 128 - 2, c.2⟩ ⟨256 + i.val, by omega⟩ else 0)
        + if c : 1 ≤ (128 + (128 * B.val + i.val)) / 128 ∧ (128 + (128 * B.val + i.val)) / 128 - 1 < 16 then
          X ⟨(128 + (128 * B.val + i.val)) / 128 - 1, c.2⟩ ⟨128 + i.val, by omega⟩ else 0)
      + if c : (128 + (128 * B.val + i.val)) / 128 < 16 then X ⟨(128 + (128 * B.val + i.val)) / 128, c⟩ ⟨i.val, by omega⟩ else 0)
    = Grad.gather X B i := by
  unfold Grad.gather
  refine congrArg₂ (· + ·) (congrArg₂ (· + ·) ?_ ?_) ?_
  · by_cases c : 1 ≤ B.val
    · rw [dif_pos (by omega), dif_pos c]
      exact congrArg (fun z => X z _) (Fin.ext (by show (128 + (128 * B.val + i.val)) / 128 - 2 = B.val - 1; omega))
    · rw [dif_neg (by omega), dif_neg c]
  · rw [dif_pos (by omega)]
    exact congrArg (fun z => X z _) (Fin.ext (by show (128 + (128 * B.val + i.val)) / 128 - 1 = B.val; omega))
  · by_cases c : B.val + 1 < 16
    · rw [dif_pos (by omega), dif_pos c]
      exact congrArg (fun z => X z _) (Fin.ext (by show (128 + (128 * B.val + i.val)) / 128 = B.val + 1; omega))
    · rw [dif_neg (by omega), dif_neg c]

include hq hk hs in
theorem sumV_at (B : Fin 16) (d : Fin 64) : res_main_v161 V0 (ix4 b ⟨128 + (128 * B.val + i.val), by omega⟩ h d)
    = Grad.gradV (q V0) (k V0) (s V0) (dy V0) b B i h d := by
  unfold res_main_v161
  clean_types
  pointwise
  simp only [gradBandV_at V0 _ _ _ hq hk hs]
  exact gather_at i (fun n j => Grad.bandV (q V0) (k V0) (s V0) (dy V0) b n h j d) B

include hq hk hs in
theorem sumK_at (B : Fin 16) (d : Fin 64) : res_main_v165 V0 (ix4 b ⟨128 + (128 * B.val + i.val), by omega⟩ h d)
    = Grad.gradK (q V0) (k V0) (v V0) (s V0) (dy V0) b B i h d := by
  unfold res_main_v165
  clean_types
  pointwise
  simp only [gradBandK_at V0 _ _ _ hq hk hs]
  exact gather_at i (fun n j => Grad.bandK (q V0) (k V0) (v V0) (s V0) (dy V0) b n h j d) B

/-! ## The results -/

/-- The query gradient's result, of the scores' gradients and the bands of keys. -/
def joinQ (x : FVec Ideal S2x16x2x4x128x384 .f32) (y : FVec Ideal S2x16x384x2x64 .f32) : FVec Ideal S2x2048x512 .f32 :=
  shapeCast S2x2048x512 (shapeCast S2x2048x8x64 (transpose S2x16x128x2x4x64 [0, 1, 4, 2, 3, 5] (Host.dotGeneral dot_S2x16x2x4x128x384_S2x16x384x2x64_S2x16x2x4x128x64_5_2_34_4_012_013 none x y) transposes_S2x16x2x4x128x64_S2x16x128x2x4x64_0_1_4_2_3_5) shapeCasts_S2x16x128x2x4x64_S2x2048x8x64) shapeCasts_S2x2048x8x64_S2x2048x512

/-- The key or value gradient's result, of the padded sums. -/
def joinK (x : FVec Ideal S2x2304x2x64 .f32) : FVec Ideal S2x2048x128 .f32 :=
  shapeCast S2x2048x128 (extractStridedSlice S2x2048x2x64 ![0, 128, 0, 0] x slices_S2x2304x2x64_S2x2048x2x64_0_128_0_0) shapeCasts_S2x2048x2x64_S2x2048x128

/-- The sink gradient's result. -/
def joinS (w x y : FVec Ideal S2x16x2x4x128x1 .f32) (z : FVec Ideal S1x1x2x4x1x1 .f32) : FVec Ideal S2x4x1x1 .f32 :=
  shapeCast S2x4x1x1 (shapeCast S8 (addf (shapeCast S1x1x2x4x1x1 (Host.reduceAdd w (constant S_ .f32 0x00000000#32) reducesTo_S2x16x2x4x128x1_S2x4x1_d0_1_4 h_S_) shapeCasts_S2x4x1_S1x1x2x4x1x1) (shapeCast S1x1x2x4x1x1 (Host.reduceAdd (mulf x (select (cmpf .ogt (broadcastInDim S2x16x2x4x128x1 ![0, 1, 2, 3, 4, 5] bcast_S1x1x2x4x1x1_S2x16x2x4x128x1_0_1_2_3_4_5 z) y) (broadcastInDim S2x16x2x4x128x1 ![] bcast_S_S2x16x2x4x128x1 (constant S_ .f32 0x3F800000#32)) (select (cmpf .oeq (broadcastInDim S2x16x2x4x128x1 ![0, 1, 2, 3, 4, 5] bcast_S1x1x2x4x1x1_S2x16x2x4x128x1_0_1_2_3_4_5 z) y) (broadcastInDim S2x16x2x4x128x1 ![] bcast_S_S2x16x2x4x128x1 (constant S_ .f32 0x3F000000#32)) (broadcastInDim S2x16x2x4x128x1 ![] bcast_S_S2x16x2x4x128x1 (constant S_ .f32 0x00000000#32))))) (constant S_ .f32 0x00000000#32) reducesTo_S2x16x2x4x128x1_S2x4x1_d0_1_4 h_S_) shapeCasts_S2x4x1_S1x1x2x4x1x1)) shapeCasts_S1x1x2x4x1x1_S8) shapeCasts_S8_S2x4x1x1

theorem resultQ_of (x : FVec Ideal S2x16x2x4x128x384 .f32) (y : FVec Ideal S2x16x384x2x64 .f32) (d : Fin 64) :
    joinQ x y (ix3 b (Grad.pos n i) ⟨64 * (4 * h.val + g.val) + d.val, by omega⟩)
      = ∑ j, x (ix6 b n h g i j) * y (ix5 b n j h d) := by
  pointwise [joinQ]
  exact Finset.sum_congr rfl fun j _ => congrArg₂ (· * ·) (by blk_ext) (by blk_ext)

theorem resultK_of (x : FVec Ideal S2x2304x2x64 .f32) (d : Fin 64) :
    joinK x (ix3 b (Grad.pos n i) ⟨64 * h.val + d.val, by omega⟩) = x (ix4 b ⟨128 + (128 * n.val + i.val), by omega⟩ h d) := by
  pointwise [joinK]
  blk_ext

theorem resultS_of (w x y : FVec Ideal S2x16x2x4x128x1 .f32) (z : FVec Ideal S1x1x2x4x1x1 .f32) :
    joinS w x y z (ix4 h g 0 0)
      = ∑ b, ∑ n, ∑ i, w (ix6 b n h g i 0) + ∑ b, ∑ n, ∑ i, x (ix6 b n h g i 0)
        * (if y (ix6 b n h g i 0) < z (ix6 0 0 h g 0 0) then 1 else if z (ix6 0 0 h g 0 0) = y (ix6 b n h g i 0) then Row.half else 0) := by
  pointwise [joinS]
  rw [rows_sum, rows_sum]
  pointwise

include hq hk hs in
/-- The gradient of the queries. -/
theorem resultQ (d : Fin 64) : joinQ (res_main_v141 V0) (res_main_v14 V0) (ix3 b (Grad.pos n i) ⟨64 * (4 * h.val + g.val) + d.val, by omega⟩)
    = Grad.gradQ (q V0) (k V0) (v V0) (s V0) (dy V0) b n h g i d := by
  refine (resultQ_of b n h g i (res_main_v141 V0) (res_main_v14 V0) d).trans ?_
  simp only [ds_at V0 _ _ _ _ _ hq hk hs, bandK_at]
  rfl

include hq hk hs in
/-- The gradient of the keys. -/
theorem resultK (d : Fin 64) : joinK (res_main_v165 V0) (ix3 b (Grad.pos n i) ⟨64 * h.val + d.val, by omega⟩)
    = Grad.gradK (q V0) (k V0) (v V0) (s V0) (dy V0) b n i h d :=
  (resultK_of b n h i (res_main_v165 V0) d).trans (sumK_at V0 b h i hq hk hs n d)

include hq hk hs in
/-- The gradient of the values. -/
theorem resultV (d : Fin 64) : joinK (res_main_v161 V0) (ix3 b (Grad.pos n i) ⟨64 * h.val + d.val, by omega⟩)
    = Grad.gradV (q V0) (k V0) (s V0) (dy V0) b n i h d :=
  (resultK_of b n h i (res_main_v161 V0) d).trans (sumV_at V0 b h i hq hk hs n d)

include hq hk hs in
/-- The gradient of the sinks. -/
theorem resultS : joinS (res_main_v116 V0) (res_main_v127 V0) (res_main_v65 V0) (res_main_v58 V0) (ix4 h g 0 0)
    = Grad.gradS (q V0) (k V0) (v V0) (s V0) (dy V0) h g := by
  refine (resultS_of h g (res_main_v116 V0) (res_main_v127 V0) (res_main_v65 V0) (res_main_v58 V0)).trans ?_
  simp only [e_at V0 _ _ _ _ _ hq hk hs, dm_at V0 _ _ _ _ _ hq hk hs, maxColumn_at, s_at, ← Finset.sum_add_distrib]
  rfl

end Cert.ReferenceIdeal.Attn

end
-- ==== Proof.Attn.Final.lean ====
/- The equality of the two programs' results: under the precondition both compute the gradients of Proof/Attn/Grad.lean. -/
module

public import proofs.«01_k».proof.Defs
public import proofs.«01_k».proof.Proof.Finite
public import proofs.«01_k».proof.Proof.Attn.Accum
public import proofs.«01_k».proof.Proof.Attn.Reference
public import Idealize.ShloMosaic.Lib.Claim

@[expose] public section

set_option maxRecDepth 16384

noncomputable section

/-! ## The precondition -/

namespace Cert.Pre_finite_scores

open Idealize.ShloMosaic Cert

/-- The side conditions of the precondition's operations. -/
theorem facts : Facts where
  bcast_S_S2x2048x8x64 := by decide
  shapeCasts_S2x2048x8x64_S2x2048x2x4x64 := by decide
  bcast_S_S2x2048x2x64 := by decide
  shapeCasts_S2x2048x2x64_S2x2048x2x1x64 := by decide
  bcast_S_S8 := by decide
  shapeCasts_S8_S1x1x2x4x1 := by decide
  bcast_S2x2048x2x1x64_S2x2048x2x4x64_0_1_2_3_4 := by decide
  bcast_S1x1x2x4x1_S2x2048x2x4x64_0_1_2_3_4 := by decide

variable [Facts]

/-- What the precondition says at one place of its array. -/
theorem fn_at (q : FVec Ideal S2x2048x8x64 .f32) (k v : FVec Ideal S2x2048x2x64 .f32) (s : FVec Ideal S8 .f32) (dy : FVec Ideal S2x2048x512 .f32)
    (hpre : fn q k v s dy = fun _ => 1#1) (b : Fin 2) (p : Fin 2048) (h : Fin 2) (g : Fin 4) (d : Fin 64) :
    (∃ r : ℝ, q (ix4 b p (Grad.head h g) d) = r) ∧ (∃ r : ℝ, k (ix4 b p h d) = r) ∧ ∃ r : ℝ, s (ix1 (Grad.head h g)) = r := by
  have e := congrFun hpre (ix5 b p h g d)
  unfold fn at e
  pointwise at e
  obtain ⟨e1, e3⟩ := Finite.and_both e
  obtain ⟨e1, e2⟩ := Finite.and_both e1
  have eh : Grad.head h g = ⟨h.val * 4 + g.val, by omega⟩ := Fin.ext (by show 4 * h.val + g.val = h.val * 4 + g.val; omega)
  rw [eh]
  exact ⟨Finite.real_of_lt _ e1, Finite.real_of_lt _ e2, Finite.real_of_lt _ e3⟩

end Cert.Pre_finite_scores

/-! ## The equality -/

namespace Cert.Proof.Attn

open Idealize.ShloMosaic Idealize.ShloMosaic.TcCoe Idealize.ShloMosaic.StableHlo Idealize.SL.Sem Cert

variable (m : (ℓ : Loc KernelIdeal.nD KernelIdeal.τ KernelIdeal.sig) → Buf (Elt Ideal) ℓ) (m' : (ℓ : Loc ReferenceIdeal.nD ReferenceIdeal.τ ReferenceIdeal.sig) → Buf (Elt Ideal) ℓ)
  (c : Dev KernelIdeal.nD)

/-- The two memories hold the same arguments on core `c`. -/
def Agree : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)

variable {m m' c} (ha : Agree m m' c)

include ha

theorem same_q : ReferenceIdeal.Attn.q (launchContents m' c) = KernelIdeal.Attn.fQ m c := by
  funext b p h d; exact congrFun ha.1 (ix4 b p h d)
theorem same_k : ReferenceIdeal.Attn.k (launchContents m' c) = KernelIdeal.Attn.fK m c := by
  funext b p h d; exact congrFun ha.2.1 (ix4 b p h d)
theorem same_v : ReferenceIdeal.Attn.v (launchContents m' c) = KernelIdeal.Attn.fV m c := by
  funext b p h d; exact congrFun ha.2.2.1 (ix4 b p h d)
theorem same_s : ReferenceIdeal.Attn.s (launchContents m' c) = KernelIdeal.Attn.fS m c := by
  funext h; exact congrFun ha.2.2.2.1 (ix1 h)
theorem same_d : ReferenceIdeal.Attn.dy (launchContents m' c) = KernelIdeal.Attn.fD m c := by
  funext b p k; exact congrFun ha.2.2.2.2 (ix3 b p k)

omit ha in
/-- The queries, the keys and the sinks are real. -/
theorem finite_args (hpre : @Pre_KernelIdeal_finite_scores Pre_finite_scores.facts m) :
    (∀ b p h d, ∃ r : ℝ, KernelIdeal.Attn.fQ m c b p h d = r) ∧ (∀ b p h d, ∃ r : ℝ, KernelIdeal.Attn.fK m c b p h d = r) ∧ ∀ h, ∃ r : ℝ, KernelIdeal.Attn.fS m c h = r := by
  have key := @Pre_finite_scores.fn_at Pre_finite_scores.facts _ _ _ _ _ (hpre c)
  have split (h : Fin 8) : h = Grad.head ⟨h.val / 4, by omega⟩ ⟨h.val % 4, by omega⟩ := Fin.ext (by show h.val = 4 * (h.val / 4) + h.val % 4; omega)
  refine ⟨fun b p h d => ?_, fun b p h d => (key b p h 0 d).2.1, fun h => ?_⟩
  · rw [split h]; exact (key b p _ _ d).1
  · rw [split h]; exact (key 0 0 _ _ 0).2.2

variable (hpre : @Pre_KernelIdeal_finite_scores Pre_finite_scores.facts m)

include hpre

theorem real_q : ∀ b p h d, ∃ r : ℝ, ReferenceIdeal.Attn.q (launchContents m' c) b p h d = r := by rw [same_q ha]; exact (finite_args hpre).1
theorem real_k : ∀ b p h d, ∃ r : ℝ, ReferenceIdeal.Attn.k (launchContents m' c) b p h d = r := by rw [same_k ha]; exact (finite_args hpre).2.1
theorem real_s : ∀ h, ∃ r : ℝ, ReferenceIdeal.Attn.s (launchContents m' c) h = r := by rw [same_s ha]; exact (finite_args hpre).2.2

/-- The query gradients are equal, -/
theorem equal_q : ReferenceIdeal.Attn.joinQ (ReferenceIdeal.Value.res_main_v141 (launchContents m' c)) (ReferenceIdeal.Value.res_main_v14 (launchContents m' c))
    = KernelIdeal.Attn.arrQ m c := by
  funext j
  obtain ⟨b, n, h, g, i, d, rfl⟩ := Grad.cover_q j
  refine (ReferenceIdeal.Attn.resultQ _ b n h g i (real_q ha hpre) (real_k ha hpre) (real_s ha hpre) d).trans ?_
  rw [same_q ha, same_k ha, same_v ha, same_s ha, same_d ha]
  exact (KernelIdeal.Attn.arrQ_at m c b n h g i d).symm

/-- the key gradients, -/
theorem equal_k : ReferenceIdeal.Attn.joinK (ReferenceIdeal.Value.res_main_v165 (launchContents m' c)) = KernelIdeal.Attn.arrK m c := by
  funext j
  obtain ⟨b, n, i, h, d, rfl⟩ := Grad.cover_k j
  refine (ReferenceIdeal.Attn.resultK _ b n h i (real_q ha hpre) (real_k ha hpre) (real_s ha hpre) d).trans ?_
  rw [same_q ha, same_k ha, same_v ha, same_s ha, same_d ha]
  exact (KernelIdeal.Attn.arrK_at m c b n i h d).symm

/-- the value gradients, -/
theorem equal_v : ReferenceIdeal.Attn.joinK (ReferenceIdeal.Value.res_main_v161 (launchContents m' c)) = KernelIdeal.Attn.arrV m c := by
  funext j
  obtain ⟨b, n, i, h, d, rfl⟩ := Grad.cover_k j
  refine (ReferenceIdeal.Attn.resultV _ b n h i (real_q ha hpre) (real_k ha hpre) (real_s ha hpre) d).trans ?_
  rw [same_q ha, same_k ha, same_s ha, same_d ha]
  exact (KernelIdeal.Attn.arrV_at m c b n i h d).symm

/-- and the sinks'. -/
theorem equal_s : ReferenceIdeal.Attn.joinS (ReferenceIdeal.Value.res_main_v116 (launchContents m' c)) (ReferenceIdeal.Value.res_main_v127 (launchContents m' c))
      (ReferenceIdeal.Value.res_main_v65 (launchContents m' c)) (ReferenceIdeal.Value.res_main_v58 (launchContents m' c)) = KernelIdeal.Attn.arrS m c := by
  funext j
  obtain ⟨h, g, rfl⟩ := Grad.cover_s j
  refine (ReferenceIdeal.Attn.resultS _ h g (real_q ha hpre) (real_k ha hpre) (real_s ha hpre)).trans ?_
  rw [same_q ha, same_k ha, same_v ha, same_s ha, same_d ha]
  exact (KernelIdeal.Attn.arrS_at m c h g).symm

omit ha hpre

theorem equal : @Cert.algebraic_KernelIdeal_ReferenceIdeal_pre_finite_scores Cert.KernelIdeal.Gen.facts Cert.ReferenceIdeal.Gen.facts Cert.Pre_finite_scores.facts := by
  pair_intro
  · run_from Cert.KernelIdeal.Attn.run_main m g
    · exact KernelIdeal.Gen.V_main_arg0 m c
    · exact KernelIdeal.Gen.V_main_arg1 m c
    · exact KernelIdeal.Gen.V_main_arg2 m c
    · exact KernelIdeal.Gen.V_main_arg3 m c
  · run_from Cert.ReferenceIdeal.Value.run m' g'
    · exact (equal_q (hagree c) hpre).trans (KernelIdeal.Attn.final_q m c).symm
    · exact (equal_k (hagree c) hpre).trans (KernelIdeal.Attn.final_k m c).symm
    · exact (equal_v (hagree c) hpre).trans (KernelIdeal.Attn.final_v m c).symm
    · exact (equal_s (hagree c) hpre).trans (KernelIdeal.Attn.final_s m c).symm

end Cert.Proof.Attn

end
-- ==== Proof.Mix.InWeight.lean ====
/- The gradient of the input projection's weights: the four blocks of tokens accumulate to the reference's sum over all tokens. -/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.Mix

open Cert.Kernel5Ideal Cert.Kernel5Ideal.Gen

variable (m : (ℓ : Loc nD τ sig) → Buf (Elt Ideal) ℓ)

/-- The reference's term over the kernel's arguments: `h` transposed, times `dproj`. -/
abbrev REF (H : FVec Ideal S4096x1024 .bf16) (D : FVec Ideal S4096x4992 .bf16) : FVec Ideal S1024x4992 .bf16 :=
  truncf .bf16 (transpose Cert.Reference5Ideal.S1024x4992 [1, 0]
    (Host.dotGeneral Cert.Reference5Ideal.dot_S4096x4992_S4096x1024_S4992x1024_0_0_1_1_n_n none
      (extf .f32 D Cert.Reference5Ideal.Gen.bitsLt_bf16_f32) (extf .f32 H Cert.Reference5Ideal.Gen.bitsLt_bf16_f32))
    Cert.Reference5Ideal.Gen.transposes_S4992x1024_S1024x4992_1_0) Cert.Reference5Ideal.Gen.bitsLt_bf16_f32

/-- Where each window's block sits at each grid point. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The accumulator starts at zero, -/
theorem zero_at (j) : k0_pay1 (F := Ideal) j = 0 := by pointwise [k0_pay1]

/-- takes in one block of tokens at each point, -/
theorem step_at (acc : FVec Ideal S1024x1664 .f32) (h : FVec Ideal S1024x1024 .bf16) (d : FVec Ideal S1024x1664 .bf16) (j : S1024x1664.Idx) :
    k0_pay2 acc h d j = acc j + ∑ k : Fin 1024, h (ix2 k (j 0)) * d (ix2 k (j 1)) := by
  pointwise [k0_pay2]

/-- and is written out as it stands. -/
theorem last_at (acc : FVec Ideal S1024x1664 .f32) (j : S1024x1664.Idx) : (k0_pay3 (F := Ideal) acc j : EReal) = acc j := by
  pointwise [k0_pay3]

/-- The reference's term at an index. -/
theorem ref_at (H : FVec Ideal S4096x1024 .bf16) (D : FVec Ideal S4096x4992 .bf16) (j : S1024x4992.Idx) :
    (REF H D j : EReal) = ∑ k : Fin 4096, H (ix2 k (j 0)) * D (ix2 k (j 1)) := by
  pointwise [REF]
  exact Finset.sum_congr rfl fun k _ => mul_comm _ _

/-- The result array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  have h3 : t.val % 4 = 3 := (flush0_2 t).mp hf
  have h0 : ¬ t.val % 4 = 0 := by omega
  have e := Pipeline.eq_sum_fin_of_reset_step_apply_of_flush (fun n h => (outsAt0 m c n h).2) 4 (fun _ => 0) (fun p j => ∑ k : Fin 1024, (show FVec Ideal S1024x1024 .bf16 from iblk m c 0 p) (ix2 k (j 0)) * (show FVec Ideal S1024x1664 .bf16 from iblk m c 1 p) (ix2 k (j 1)))
    (fun t h j => by rw [outsAt0_A m c t h (by omega)]; frame_out; rw [step_at, zero_at])
    (fun t h j => by
      by_cases h1 : t.val % 4 = 3
      · rw [outsAt0_C m c t h h1]; frame_out; rw [step_at, read_unread_whole]
      · rw [outsAt0_B m c t h h1]; frame_out; rw [step_at, read_unread_whole])
    t h3 y
  rw [zero_add] at e
  rw [after0_2]
  have e1 : (outsAt0 m c t.val t.isLt).1 = k0_pay3 (outsAt0 m c t.val t.isLt).2 := by
    rw [outsAt0_C m c t h0 h3]; frame_out
  rw [e1, last_at, e, ref_at]
  refine Fin.sum_mul_add_congr fun s k hl => ?_
  blk_point [iblk, V, idx t, idx ⟨_, Pipeline.run_point_lt_of_flush t h3 s⟩]

end Cert.Kernel5Ideal.Mix

namespace Cert.Proof.Mix

/-- Kernel and reference compute equal gradients of the input projection's weights. -/
theorem equal_in_weight : @Cert.algebraic_Kernel5Ideal_Reference5Ideal Cert.Kernel5Ideal.Gen.facts Cert.Reference5Ideal.Gen.facts := by
  intro m g m' g' _ ha
  refine ⟨fun c => Cert.Kernel5Ideal.Mix.REF (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), ?_, ?_⟩
  · exact (θ_run _ _ _).mono (fun r h c => ⟨(h c).1.trans (Cert.Kernel5Ideal.Mix.final m c), (h c).2⟩) (Cert.Kernel5Ideal.Value.run_blocks m g)
  · refine (θ_run _ _ _).mono (fun r h c => ⟨(h c).1.trans ?_, (h c).2⟩) (Cert.Reference5Ideal.Value.run m' g')
    rw [(ha c).1, (ha c).2]

end Cert.Proof.Mix

end
-- ==== Proof.Mix.InInput.lean ====
/- The gradient of the input projection's input: the three blocks of columns accumulate to the reference's sum over all columns. -/
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.Mix

open Cert.Kernel6Ideal Cert.Kernel6Ideal.Gen

variable (m : (ℓ : Loc nD τ sig) → Buf (Elt Ideal) ℓ)

/-- The reference's term over the kernel's arguments: `dproj` times `w_in` transposed. -/
abbrev REF (D : FVec Ideal S4096x4992 .bf16) (W : FVec Ideal S1024x4992 .bf16) : FVec Ideal S4096x1024 .f32 :=
  Host.dotGeneral Cert.Reference6Ideal.dot_S4096x4992_S1024x4992_S4096x1024_1_1_0_0_n_n none
    (extf .f32 D Cert.Reference6Ideal.Gen.bitsLt_bf16_f32) (extf .f32 W Cert.Reference6Ideal.Gen.bitsLt_bf16_f32)

/-- Where each window's block sits at each grid point. -/
theorem idx : ∀ t : Fin cfg0.N, win0_0.index t = ![t.val / 3, t.val % 3] ∧ win0_1.index t = ![0, t.val % 3] ∧ win0_2.index t = ![t.val / 3, 0] :=
  (by decide +kernel : ∀ t : Fin grid0.N, _)

/-- The accumulator starts at zero, -/
theorem zero_at (j) : k0_pay1 (F := Ideal) j = 0 := by pointwise [k0_pay1]

/-- and takes in one block of columns at each point. -/
theorem step_at (acc : FVec Ideal S1024x1024 .f32) (d : FVec Ideal S1024x1664 .bf16) (w : FVec Ideal S1024x1664 .bf16) (j : S1024x1024.Idx) :
    k0_pay2 acc d w j = acc j + ∑ k : Fin 1664, d (ix2 (j 0) k) * w (ix2 (j 1) k) := by
  pointwise [k0_pay2]

/-- The reference's term at an index. -/
theorem ref_at (D : FVec Ideal S4096x4992 .bf16) (W : FVec Ideal S1024x4992 .bf16) (j : S4096x1024.Idx) :
    (REF D W j : EReal) = ∑ k : Fin 4992, D (ix2 (j 0) k) * W (ix2 (j 1) k) := by
  pointwise [REF]

/-- The result array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  have h2 : t.val % 3 = 2 := (flush0_2 t).mp hf
  have h0 : ¬ t.val % 3 = 0 := by omega
  have e := Pipeline.eq_sum_fin_of_reset_step_apply_of_flush (fun n h => (outsAt0 m c n h).2) 3 (fun _ => 0) (fun p j => ∑ k : Fin 1664, (show FVec Ideal S1024x1664 .bf16 from iblk m c 0 p) (ix2 (j 0) k) * (show FVec Ideal S1024x1664 .bf16 from iblk m c 1 p) (ix2 (j 1) k))
    (fun t h j => by rw [outsAt0_A m c t h (by omega)]; frame_out; rw [step_at, zero_at])
    (fun t h j => by
      by_cases h1 : t.val % 3 = 2
      · rw [outsAt0_C m c t h h1]; frame_out; rw [step_at, read_unread_whole]
      · rw [outsAt0_B m c t h h1]; frame_out; rw [step_at, read_unread_whole])
    t h2 y
  rw [zero_add] at e
  rw [after0_2]
  have e1 : (outsAt0 m c t.val t.isLt).1 = (outsAt0 m c t.val t.isLt).2 := by
    rw [outsAt0_C m c t h0 h2]; frame_out
  rw [e1, e, ref_at]
  refine Fin.sum_mul_add_congr fun s k hl => ?_
  blk_point [iblk, V, idx t, idx ⟨_, Pipeline.run_point_lt_of_flush t h2 s⟩]

end Cert.Kernel6Ideal.Mix

namespace Cert.Proof.Mix

/-- Kernel and reference compute equal gradients of the input projection's input. -/
theorem equal_in_input : @Cert.algebraic_Kernel6Ideal_Reference6Ideal Cert.Kernel6Ideal.Gen.facts Cert.Reference6Ideal.Gen.facts := by
  intro m g m' g' _ ha
  refine ⟨fun c => Cert.Kernel6Ideal.Mix.REF (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), ?_, ?_⟩
  · exact (θ_run _ _ _).mono (fun r h c => ⟨(h c).1.trans (Cert.Kernel6Ideal.Mix.final m c), (h c).2⟩) (Cert.Kernel6Ideal.Value.run_blocks m g)
  · refine (θ_run _ _ _).mono (fun r h c => ⟨(h c).1.trans ?_, (h c).2⟩) (Cert.Reference6Ideal.Value.run m' g')
    rw [(ha c).1, (ha c).2]

end Cert.Proof.Mix

end
-- ==== Proof.Ffn.Down.lean ====
/- The feed-forward layer's output: each block of the kernel's result is the residual plus half of the same sum as the reference's. -/
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel7Ideal.Ffn

open Cert.Kernel7Ideal Cert.Kernel7Ideal.Gen

variable (m : (ℓ : Loc nD τ sig) → Buf (Elt Ideal) ℓ)

/-- The reference's term over the kernel's arguments: the residual plus half of `act` times the down weights. -/
abbrev REF (A : FVec Ideal S4096x3072 .bf16) (W : FVec Ideal S3072x1024 .bf16) (X : FVec Ideal S4096x1024 .f32) : FVec Ideal S4096x1024 .f32 :=
  addf X (mulf (broadcastInDim Cert.Reference7Ideal.S4096x1024 ![] Cert.Reference7Ideal.Gen.bcast_S_S4096x1024 (constant Cert.Reference7Ideal.S_ .f32 0x3F000000#32))
    (Host.dotGeneral Cert.Reference7Ideal.dot_S4096x3072_S3072x1024_S4096x1024_1_0_0_1_n_n none
      (extf .f32 A Cert.Reference7Ideal.Gen.bitsLt_bf16_f32) (extf .f32 W Cert.Reference7Ideal.Gen.bitsLt_bf16_f32)))

/-- Where each window's block sits at each grid point. -/
theorem idx : ∀ t : Fin cfg0.N, win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, _)

/-- What the body stores at block index `y` of point `t` is the reference's term at the array index `y` sits at. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  pointwise [k0_pay1, REF]
  rw [mul_comm]
  blk_point [iblk, V, idx t]

/-- The result array after the run. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Kernel7Ideal.Ffn

namespace Cert.Proof.Ffn

/-- Kernel and reference compute equal outputs of the feed-forward layer. -/
theorem equal_down : @Cert.algebraic_Kernel7Ideal_Reference7Ideal Cert.Kernel7Ideal.Gen.facts Cert.Reference7Ideal.Gen.facts := by
  intro m g m' g' _ ha
  refine ⟨fun c => Cert.Kernel7Ideal.Ffn.REF (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)), ?_, ?_⟩
  · exact (θ_run _ _ _).mono (fun r h c => ⟨(h c).1.trans (Cert.Kernel7Ideal.Ffn.final m c), (h c).2⟩) (Cert.Kernel7Ideal.Value.run_blocks m g)
  · refine (θ_run _ _ _).mono (fun r h c => ⟨(h c).1.trans ?_, (h c).2⟩) (Cert.Reference7Ideal.Value.run m' g')
    rw [(ha c).1, (ha c).2.1, (ha c).2.2]

end Cert.Proof.Ffn

end
-- ==== Proof.Mix.OutInput.lean ====
/- The gradient of the output projection's input: each block of the kernel's result is the same sum as the reference's. -/
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.Mix

open Cert.Kernel8Ideal Cert.Kernel8Ideal.Gen

variable (m : (ℓ : Loc nD τ sig) → Buf (Elt Ideal) ℓ)

/-- The reference's term over the kernel's arguments: `dx` times `w_out` transposed. -/
abbrev REF (D : FVec Ideal S4096x1024 .f32) (W : FVec Ideal S1024x1024 .bf16) : FVec Ideal S4096x1024 .f32 :=
  Host.dotGeneral Cert.Reference8Ideal.dot_S4096x1024_S1024x1024_S4096x1024_1_1_0_0_n_n none D (extf .f32 W Cert.Reference8Ideal.Gen.bitsLt_bf16_f32)

/-- Where each window's block sits at each grid point. -/
theorem idx : ∀ t : Fin cfg0.N, win0_0.index t = ![t.val, 0] ∧ win0_1.index t = ![0, 0] ∧ win0_2.index t = ![t.val, 0] :=
  (by decide +kernel : ∀ t : Fin grid0.N, _)

/-- What the body stores at block index `y` of point `t` is the reference's term at the array index `y` sits at. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel8Ideal.Mix

namespace Cert.Proof.Mix

/-- Kernel and reference compute equal gradients of the output projection's input. -/
theorem equal_out_input : @Cert.algebraic_Kernel8Ideal_Reference8Ideal Cert.Kernel8Ideal.Gen.facts Cert.Reference8Ideal.Gen.facts := by
  intro m g m' g' _ ha
  refine ⟨fun c => Cert.Kernel8Ideal.Mix.REF (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), ?_, ?_⟩
  · exact (θ_run _ _ _).mono (fun r h c => ⟨(h c).1.trans (Cert.Kernel8Ideal.Mix.final m c), (h c).2⟩) (Cert.Kernel8Ideal.Value.run_blocks m g)
  · refine (θ_run _ _ _).mono (fun r h c => ⟨(h c).1.trans ?_, (h c).2⟩) (Cert.Reference8Ideal.Value.run m' g')
    rw [(ha c).1, (ha c).2]

end Cert.Proof.Mix

end
-- ==== Proof.Mix.OutWeight.lean ====
/- The gradient of the output projection's weights: the four blocks of tokens accumulate to the reference's sum over all tokens. -/
module

public import proofs.«01_k».proof.Defs
public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel9Ideal.Mix

open Cert.Kernel9Ideal Cert.Kernel9Ideal.Gen

variable (m : (ℓ : Loc nD τ sig) → Buf (Elt Ideal) ℓ)

/-- The reference's term over the kernel's arguments: `merged` transposed, times `dx`. -/
abbrev REF (H : FVec Ideal S4096x1024 .bf16) (D : FVec Ideal S4096x1024 .f32) : FVec Ideal S1024x1024 .bf16 :=
  truncf .bf16 (transpose Cert.Reference9Ideal.S1024x1024 [1, 0]
    (Host.dotGeneral Cert.Reference9Ideal.dot_S4096x1024_S4096x1024_S1024x1024_0_0_1_1_n_n none
      D (extf .f32 H Cert.Reference9Ideal.Gen.bitsLt_bf16_f32))
    Cert.Reference9Ideal.Gen.transposes_S1024x1024_S1024x1024_1_0) Cert.Reference9Ideal.Gen.bitsLt_bf16_f32

/-- Where each window's block sits at each grid point. -/
theorem idx : ∀ t : Fin cfg0.N, win0_0.index t = ![t.val % 4, 0] ∧ win0_1.index t = ![t.val % 4, 0] ∧ win0_2.index t = ![0, 0] :=
  (by decide +kernel : ∀ t : Fin grid0.N, _)

/-- The accumulator starts at zero, -/
theorem zero_at (j) : k0_pay1 (F := Ideal) j = 0 := by pointwise [k0_pay1]

/-- takes in one block of tokens at each point, -/
theorem step_at (acc : FVec Ideal S1024x1024 .f32) (h : FVec Ideal S1024x1024 .bf16) (d : FVec Ideal S1024x1024 .f32) (j : S1024x1024.Idx) :
    k0_pay2 acc h d j = acc j + ∑ k : Fin 1024, h (ix2 k (j 0)) * d (ix2 k (j 1)) := by
  pointwise [k0_pay2]

/-- and is written out as it stands. -/
theorem last_at (acc : FVec Ideal S1024x1024 .f32) (j : S1024x1024.Idx) : (k0_pay3 (F := Ideal) acc j : EReal) = acc j := by
  pointwise [k0_pay3]

/-- The reference's term at an index. -/
theorem ref_at (H : FVec Ideal S4096x1024 .bf16) (D : FVec Ideal S4096x1024 .f32) (j : S1024x1024.Idx) :
    (REF H D j : EReal) = ∑ k : Fin 4096, H (ix2 k (j 0)) * D (ix2 k (j 1)) := by
  pointwise [REF]
  exact Finset.sum_congr rfl fun k _ => mul_comm _ _

/-- The result array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  have h3 : t.val % 4 = 3 := (flush0_2 t).mp hf
  have h0 : ¬ t.val % 4 = 0 := by omega
  have e := Pipeline.eq_sum_fin_of_reset_step_apply_of_flush (fun n h => (outsAt0 m c n h).2) 4 (fun _ => 0) (fun p j => ∑ k : Fin 1024, (show FVec Ideal S1024x1024 .bf16 from iblk m c 0 p) (ix2 k (j 0)) * (show FVec Ideal S1024x1024 .f32 from iblk m c 1 p) (ix2 k (j 1)))
    (fun t h j => by rw [outsAt0_A m c t h (by omega)]; frame_out; rw [step_at, zero_at])
    (fun t h j => by
      by_cases h1 : t.val % 4 = 3
      · rw [outsAt0_C m c t h h1]; frame_out; rw [step_at, read_unread_whole]
      · rw [outsAt0_B m c t h h1]; frame_out; rw [step_at, read_unread_whole])
    t h3 y
  rw [zero_add] at e
  rw [after0_2]
  have e1 : (outsAt0 m c t.val t.isLt).1 = k0_pay3 (outsAt0 m c t.val t.isLt).2 := by
    rw [outsAt0_C m c t h0 h3]; frame_out
  rw [e1, last_at, e, ref_at]
  refine Fin.sum_mul_add_congr fun s k hl => ?_
  blk_point [iblk, V, idx t, idx ⟨_, Pipeline.run_point_lt_of_flush t h3 s⟩]

end Cert.Kernel9Ideal.Mix

namespace Cert.Proof.Mix

/-- Kernel and reference compute equal gradients of the output projection's weights. -/
theorem equal_out_weight : @Cert.algebraic_Kernel9Ideal_Reference9Ideal Cert.Kernel9Ideal.Gen.facts Cert.Reference9Ideal.Gen.facts := by
  intro m g m' g' _ ha
  refine ⟨fun c => Cert.Kernel9Ideal.Mix.REF (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)), ?_, ?_⟩
  · exact (θ_run _ _ _).mono (fun r h c => ⟨(h c).1.trans (Cert.Kernel9Ideal.Mix.final m c), (h c).2⟩) (Cert.Kernel9Ideal.Value.run_blocks m g)
  · refine (θ_run _ _ _).mono (fun r h c => ⟨(h c).1.trans ?_, (h c).2⟩) (Cert.Reference9Ideal.Value.run m' g')
    rw [(ha c).1, (ha c).2]

end Cert.Proof.Mix

end
-- ==== Proof.Mix.BranchInput.lean ====
/- The gradient of a branch projection's input: each block of the kernel's result is the same sum as the reference's. -/
module

public import proofs.«01_k».proof.Defs
public import proofs.«01_k».proof.Proof.Gen.Kernel10Ideal.Value
public import proofs.«01_k».proof.Proof.Gen.Reference10Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel10Ideal.Mix

open Cert.Kernel10Ideal Cert.Kernel10Ideal.Gen

variable (m : (ℓ : Loc nD τ sig) → Buf (Elt Ideal) ℓ)

/-- The reference's term over the kernel's arguments: `dz` times `w_branch` transposed. -/
abbrev REF (D : FVec Ideal S4096x1024 .bf16) (W : FVec Ideal S512x1024 .bf16) : FVec Ideal S4096x512 .f32 :=
  Host.dotGeneral Cert.Reference10Ideal.dot_S4096x1024_S512x1024_S4096x512_1_1_0_0_n_n none (extf .f32 D Cert.Reference10Ideal.Gen.bitsLt_bf16_f32) (extf .f32 W Cert.Reference10Ideal.Gen.bitsLt_bf16_f32)

/-- Where each window's block sits at each grid point. -/
theorem idx : ∀ t : Fin cfg0.N, win0_0.index t = ![t.val, 0] ∧ win0_1.index t = ![0, 0] ∧ win0_2.index t = ![t.val, 0] :=
  (by decide +kernel : ∀ t : Fin grid0.N, _)

/-- What the body stores at block index `y` of point `t` is the reference's term at the array index `y` sits at. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel10Ideal.Mix

namespace Cert.Proof.Mix

/-- Kernel and reference compute equal gradients of a branch projection's input. -/
theorem equal_branch_input : @Cert.algebraic_Kernel10Ideal_Reference10Ideal Cert.Kernel10Ideal.Gen.facts Cert.Reference10Ideal.Gen.facts := by
  intro m g m' g' _ ha
  refine ⟨fun c => Cert.Kernel10Ideal.Mix.REF (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)), ?_, ?_⟩
  · exact (θ_run _ _ _).mono (fun r h c => ⟨(h c).1.trans (Cert.Kernel10Ideal.Mix.final m c), (h c).2⟩) (Cert.Kernel10Ideal.Value.run_blocks m g)
  · refine (θ_run _ _ _).mono (fun r h c => ⟨(h c).1.trans ?_, (h c).2⟩) (Cert.Reference10Ideal.Value.run m' g')
    rw [(ha c).1, (ha c).2]

end Cert.Proof.Mix

end
-- ==== Proof.Mix.BranchWeight.lean ====
/- The gradient of a branch projection's weights: the four blocks of tokens accumulate to the reference's sum over all tokens. -/
module

public import proofs.«01_k».proof.Defs
public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel11Ideal.Mix

open Cert.Kernel11Ideal Cert.Kernel11Ideal.Gen

variable (m : (ℓ : Loc nD τ sig) → Buf (Elt Ideal) ℓ)

/-- The reference's term over the kernel's arguments: `y` transposed, times `dz`. -/
abbrev REF (H : FVec Ideal S4096x512 .bf16) (D : FVec Ideal S4096x1024 .bf16) : FVec Ideal S512x1024 .bf16 :=
  truncf .bf16 (transpose Cert.Reference11Ideal.S512x1024 [1, 0]
    (Host.dotGeneral Cert.Reference11Ideal.dot_S4096x1024_S4096x512_S1024x512_0_0_1_1_n_n none
      (extf .f32 D Cert.Reference11Ideal.Gen.bitsLt_bf16_f32) (extf .f32 H Cert.Reference11Ideal.Gen.bitsLt_bf16_f32))
    Cert.Reference11Ideal.Gen.transposes_S1024x512_S512x1024_1_0) Cert.Reference11Ideal.Gen.bitsLt_bf16_f32

/-- Where each window's block sits at each grid point. -/
theorem idx : ∀ t : Fin cfg0.N, win0_0.index t = ![t.val % 4, 0] ∧ win0_1.index t = ![t.val % 4, 0] ∧ win0_2.index t = ![0, 0] :=
  (by decide +kernel : ∀ t : Fin grid0.N, _)

/-- The accumulator starts at zero, -/
theorem zero_at (j) : k0_pay1 (F := Ideal) j = 0 := by pointwise [k0_pay1]

/-- takes in one block of tokens at each point, -/
theorem step_at (acc : FVec Ideal S512x1024 .f32) (h : FVec Ideal S1024x512 .bf16) (d : FVec Ideal S1024x1024 .bf16) (j : S512x1024.Idx) :
    k0_pay2 acc h d j = acc j + ∑ k : Fin 1024, h (ix2 k (j 0)) * d (ix2 k (j 1)) := by
  pointwise [k0_pay2]

/-- and is written out as it stands. -/
theorem last_at (acc : FVec Ideal S512x1024 .f32) (j : S512x1024.Idx) : (k0_pay3 (F := Ideal) acc j : EReal) = acc j := by
  pointwise [k0_pay3]

/-- The reference's term at an index. -/
theorem ref_at (H : FVec Ideal S4096x512 .bf16) (D : FVec Ideal S4096x1024 .bf16) (j : S512x1024.Idx) :
    (REF H D j : EReal) = ∑ k : Fin 4096, H (ix2 k (j 0)) * D (ix2 k (j 1)) := by
  pointwise [REF]
  exact Finset.sum_congr rfl fun k _ => mul_comm _ _

/-- The result array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  have h3 : t.val % 4 = 3 := (flush0_2 t).mp hf
  have h0 : ¬ t.val % 4 = 0 := by omega
  have e := Pipeline.eq_sum_fin_of_reset_step_apply_of_flush (fun n h => (outsAt0 m c n h).2) 4 (fun _ => 0) (fun p j => ∑ k : Fin 1024, (show FVec Ideal S1024x512 .bf16 from iblk m c 0 p) (ix2 k (j 0)) * (show FVec Ideal S1024x1024 .bf16 from iblk m c 1 p) (ix2 k (j 1)))
    (fun t h j => by rw [outsAt0_A m c t h (by omega)]; frame_out; rw [step_at, zero_at])
    (fun t h j => by
      by_cases h1 : t.val % 4 = 3
      · rw [outsAt0_C m c t h h1]; frame_out; rw [step_at, read_unread_whole]
      · rw [outsAt0_B m c t h h1]; frame_out; rw [step_at, read_unread_whole])
    t h3 y
  rw [zero_add] at e
  rw [after0_2]
  have e1 : (outsAt0 m c t.val t.isLt).1 = k0_pay3 (outsAt0 m c t.val t.isLt).2 := by
    rw [outsAt0_C m c t h0 h3]; frame_out
  rw [e1, last_at, e, ref_at]
  refine Fin.sum_mul_add_congr fun s k hl => ?_
  blk_point [iblk, V, idx t, idx ⟨_, Pipeline.run_point_lt_of_flush t h3 s⟩]

end Cert.Kernel11Ideal.Mix

namespace Cert.Proof.Mix

/-- Kernel and reference compute equal gradients of a branch projection's weights. -/
theorem equal_branch_weight : @Cert.algebraic_Kernel11Ideal_Reference11Ideal Cert.Kernel11Ideal.Gen.facts Cert.Reference11Ideal.Gen.facts := by
  intro m g m' g' _ ha
  refine ⟨fun c => Cert.Kernel11Ideal.Mix.REF (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)), ?_, ?_⟩
  · exact (θ_run _ _ _).mono (fun r h c => ⟨(h c).1.trans (Cert.Kernel11Ideal.Mix.final m c), (h c).2⟩) (Cert.Kernel11Ideal.Value.run_blocks m g)
  · refine (θ_run _ _ _).mono (fun r h c => ⟨(h c).1.trans ?_, (h c).2⟩) (Cert.Reference11Ideal.Value.run m' g')
    rw [(ha c).1, (ha c).2]

end Cert.Proof.Mix

end
-- ==== Proof.Mix.Out.lean ====
/- The output projection: each block of the kernel's result is the residual plus the same sum as the reference's. -/
module

public import proofs.«01_k».proof.Defs
public import proofs.«01_k».proof.Proof.Gen.Kernel12Ideal.Value
public import proofs.«01_k».proof.Proof.Gen.Reference12Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel12Ideal.Mix

open Cert.Kernel12Ideal Cert.Kernel12Ideal.Gen

variable (m : (ℓ : Loc nD τ sig) → Buf (Elt Ideal) ℓ)

/-- The reference's term over the kernel's arguments: the residual plus `merged` times `w_out`. -/
abbrev REF (A : FVec Ideal S4096x1024 .bf16) (W : FVec Ideal S1024x1024 .bf16) (X : FVec Ideal S4096x1024 .f32) : FVec Ideal S4096x1024 .f32 :=
  addf X (Host.dotGeneral Cert.Reference12Ideal.dot_S4096x1024_S1024x1024_S4096x1024_1_0_0_1_n_n none (extf .f32 A Cert.Reference12Ideal.Gen.bitsLt_bf16_f32) (extf .f32 W Cert.Reference12Ideal.Gen.bitsLt_bf16_f32))

/-- Where each window's block sits at each grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- What the body stores at block index `y` of point `t` is the reference's term at the array index `y` sits at. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  pointwise [k0_pay1, REF]
  blk_point [iblk, V, idx t]

/-- The result array after the run. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Kernel12Ideal.Mix

namespace Cert.Proof.Mix

/-- Kernel and reference compute equal outputs of the output projection. -/
theorem equal_out : @Cert.algebraic_Kernel12Ideal_Reference12Ideal Cert.Kernel12Ideal.Gen.facts Cert.Reference12Ideal.Gen.facts := by
  intro m g m' g' _ ha
  refine ⟨fun c => Cert.Kernel12Ideal.Mix.REF (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)), ?_, ?_⟩
  · exact (θ_run _ _ _).mono (fun r h c => ⟨(h c).1.trans (Cert.Kernel12Ideal.Mix.final m c), (h c).2⟩) (Cert.Kernel12Ideal.Value.run_blocks m g)
  · refine (θ_run _ _ _).mono (fun r h c => ⟨(h c).1.trans ?_, (h c).2⟩) (Cert.Reference12Ideal.Value.run m' g')
    rw [(ha c).1, (ha c).2.1, (ha c).2.2]

end Cert.Proof.Mix

end
-- ==== Proof.Mix.Branch.lean ====
/- A branch projection: each block of the kernel's result is the same sum as the reference's. -/
module

public import proofs.«01_k».proof.Defs
public import proofs.«01_k».proof.Proof.Gen.Kernel13Ideal.Value
public import proofs.«01_k».proof.Proof.Gen.Reference13Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel13Ideal.Mix

open Cert.Kernel13Ideal Cert.Kernel13Ideal.Gen

variable (m : (ℓ : Loc nD τ sig) → Buf (Elt Ideal) ℓ)

/-- The reference's term over the kernel's arguments: `y` times `w_branch`. -/
abbrev REF (A : FVec Ideal S4096x512 .bf16) (W : FVec Ideal S512x1024 .bf16) : FVec Ideal S4096x1024 .f32 :=
  Host.dotGeneral Cert.Reference13Ideal.dot_S4096x512_S512x1024_S4096x1024_1_0_0_1_n_n none (extf .f32 A Cert.Reference13Ideal.Gen.bitsLt_bf16_f32) (extf .f32 W Cert.Reference13Ideal.Gen.bitsLt_bf16_f32)

/-- Where each window's block sits at each grid point. -/
theorem idx : ∀ t : Fin cfg0.N, win0_0.index t = ![t.val, 0] ∧ win0_1.index t = ![0, 0] ∧ win0_2.index t = ![t.val, 0] :=
  (by decide +kernel : ∀ t : Fin grid0.N, _)

/-- What the body stores at block index `y` of point `t` is the reference's term at the array index `y` sits at. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel13Ideal.Mix

namespace Cert.Proof.Mix

/-- Kernel and reference compute equal branch projections. -/
theorem equal_branch : @Cert.algebraic_Kernel13Ideal_Reference13Ideal Cert.Kernel13Ideal.Gen.facts Cert.Reference13Ideal.Gen.facts := by
  intro m g m' g' _ ha
  refine ⟨fun c => Cert.Kernel13Ideal.Mix.REF (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)), ?_, ?_⟩
  · exact (θ_run _ _ _).mono (fun r h c => ⟨(h c).1.trans (Cert.Kernel13Ideal.Mix.final m c), (h c).2⟩) (Cert.Kernel13Ideal.Value.run_blocks m g)
  · refine (θ_run _ _ _).mono (fun r h c => ⟨(h c).1.trans ?_, (h c).2⟩) (Cert.Reference13Ideal.Value.run m' g')
    rw [(ha c).1, (ha c).2]

end Cert.Proof.Mix

end
-- ==== Proof.Whole.lean ====
/- Loads and stores of whole buffers: what they read and leave. -/
module

public import Idealize.ShloMosaic.Lib.Pipeline.FrameBody
public import Idealize.ShloMosaic.Lib.Pipeline.ReadBack
public import Idealize.ShloMosaic.Lib.VecWindow

@[expose] public section

noncomputable section

namespace Cert.Whole

open Idealize.ShloMosaic

variable {sig : RefSig} {κ : Kind} {sp : Space} {s : Shape} {e : EltTy} {Val : EltTy → Type}

/-- The window of a block at offset zero, as large as the block, is the block. -/
theorem window_whole {α : Type} (x : s.Idx → α) {o : Fin s.rank → ℕ} (inb : ∀ a, o a + s.size a ≤ s.size a) :
    VecWindow.window x o s.size inb = x := by
  have e : o = fun _ => 0 := funext fun a => by have := inb a; omega
  subst e
  funext y
  exact congrArg x (funext fun a => Fin.ext (by show 0 + 1 * (y a).val = (y a).val; omega))

/-- A whole block stored over anything is what the buffer reads. -/
theorem read_whole (v : View sig κ sp s e) (f : v.ty.Contents Val) {o : Fin s.rank → ℕ} (inb : ∀ a, o a + s.size a ≤ s.size a)
    (Z : (Rect.unit o s.size inb).shape.Idx → Val e) (L : List (View.Piece Val s e)) :
    v.read Val (v.writes Val f (⟨Rect.unit o s.size inb, Z⟩ :: L)) = Z :=
  View.read_writes_full v f inb Z L

/-- A load of the whole buffer is what it reads. -/
theorem load_whole (v : View sig κ sp s e) (f : v.ty.Contents Val) {o : Fin s.rank → ℕ} (inb : ∀ a, o a + s.size a ≤ s.size a) :
    v.readAt Val (Rect.unit o s.size inb).toLoadRect f = v.read Val f :=
  (View.readAt_unit v f inb rfl inb).trans (window_whole _ inb)

/-- A load of the whole buffer after a whole store is the block stored. -/
theorem cov_whole [∀ e, Nonempty (Val e)] (v : View sig κ sp s e) {o o' : Fin s.rank → ℕ} (inb : ∀ a, o a + s.size a ≤ s.size a)
    (inb' : ∀ a, o' a + s.size a ≤ s.size a) (Z : (Rect.unit o s.size inb).shape.Idx → Val e) (L : List (View.Piece Val s e)) :
    v.readCov (⟨Rect.unit o s.size inb, Z⟩ :: L) (Rect.unit o' s.size inb').toLoadRect = Z :=
  (load_whole v _ inb').trans (read_whole v _ inb Z L)

end Cert.Whole

end
-- ==== Proof.Ffn.InFrame.lean ====
/- The frame of the feed-forward layer's input half. The body runs in two cases. Where the second grid coordinate is zero it normalises the block of rows, stores it and goes on from it.
   Elsewhere it goes on from the normalised block already in its buffer. So what that buffer holds after a point is defined by
   recursion over the points. -/
module

public import proofs.«01_k».proof.Proof.Gen.Kernel14Ideal.Frame
public import proofs.«01_k».proof.Proof.Gen.Kernel14Ideal.Skeleton
public import proofs.«01_k».proof.Proof.Whole
public import Idealize.ShloMosaic.Lib.Claim
public import Idealize.ShloMosaic.Lib.Tactic.Stretches
public import Idealize.ShloMosaic.Lib.Pipeline.TableIdle

@[expose] public section

set_option maxRecDepth 16384

noncomputable section

namespace Cert.Kernel14Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel14Ideal.Gen Cert.Whole

variable {F : FTy → Type} [FloatOps F]

local notation "𝕄" => MT nD τ sig Unit (Elt F) ℕ (UR sig nD τ) ℕ

/-! ## The body's run -/

set_option maxHeartbeats 1600000 in
/-- The body where it normalises the block. -/
theorem run_first (c : Dev nD) (E : Set ℕ) (i : grid0.Coords) (arg2 : Memref sig .tc .vmem S1024x1024 .f32) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole)
    (hc : k0_cond1 i = 1#1) (x0 : Vec F S1024x1024 .f32) (x1 : Vec F S1x1024 .f32) (x2 : Vec F S512x1024 .bf16) (x3 : Vec F S512x1024 .bf16) (X : Vec F S1024x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare X ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay1 x0 x1) ∗ owns (c : Thread nD τ) arg7 fullShare (k0_pay5 (k0_pay1 x0 x1) x2) ∗ owns (c : Thread nD τ) arg8 fullShare (k0_pay6 (k0_pay1 x0 x1) x3) ∗ owns (c : Thread nD τ) arg9 fullShare (k0_pay7 (k0_pay1 x0 x1) x2 x3)) -∗ K ⟨⟩))
      ⊢ wp frame (wpE (defs₀ (F := F)) Variants.none c none) E (cc0_ffn_in i arg2 harg2 arg3 harg3 arg4 harg4 arg5 harg5 arg6 harg6 arg7 harg7 arg8 harg8 arg9 harg9) K := by
  simp only [cc0_ffn_in_eq_skeleton]; unfold cc0_ffn_in_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_run_names
    exact (read_whole _ _ _ _ _).trans (congr (congrArg k0_pay1 ((load_whole _ _ _).trans (harg2.read_unread _))) ((load_whole _ _ _).trans (harg3.read_unread _)))
  isplitl [H5]
  · iexists _; isplitr; swap; · iexact H5
    ipureintro
    sl_unfold_run_names
    exact (read_whole _ _ _ _ _).trans (congr (congrArg k0_pay5 ((cov_whole _ _ _ _ _).trans (congr (congrArg k0_pay1 ((load_whole _ _ _).trans (harg2.read_unread _))) ((load_whole _ _ _).trans (harg3.read_unread _))))) ((load_whole _ _ _).trans (harg4.read_unread _)))
  isplitl [H6]
  · iexists _; isplitr; swap; · iexact H6
    ipureintro
    sl_unfold_run_names
    exact (read_whole _ _ _ _ _).trans (congr (congrArg k0_pay6 ((cov_whole _ _ _ _ _).trans (congr (congrArg k0_pay1 ((load_whole _ _ _).trans (harg2.read_unread _))) ((load_whole _ _ _).trans (harg3.read_unread _))))) ((load_whole _ _ _).trans (harg5.read_unread _)))
  iexists _; isplitr; swap; · iexact H7
  ipureintro
  sl_unfold_run_names
  exact (read_whole _ _ _ _ _).trans (congr (congr (congrArg k0_pay7 ((cov_whole _ _ _ _ _).trans (congr (congrArg k0_pay1 ((load_whole _ _ _).trans (harg2.read_unread _))) ((load_whole _ _ _).trans (harg3.read_unread _))))) ((load_whole _ _ _).trans (harg4.read_unread _))) ((load_whole _ _ _).trans (harg5.read_unread _)))

set_option maxHeartbeats 1600000 in
/-- The body where the block is there already. -/
theorem run_rest (c : Dev nD) (E : Set ℕ) (i : grid0.Coords) (arg2 : Memref sig .tc .vmem S1024x1024 .f32) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole)
    (hc : ¬ k0_cond1 i = 1#1) (x0 : Vec F S1024x1024 .f32) (x1 : Vec F S1x1024 .f32) (x2 : Vec F S512x1024 .bf16) (x3 : Vec F S512x1024 .bf16) (X : Vec F S1024x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare X ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare X ∗ owns (c : Thread nD τ) arg7 fullShare (k0_pay5 X x2) ∗ owns (c : Thread nD τ) arg8 fullShare (k0_pay6 X x3) ∗ owns (c : Thread nD τ) arg9 fullShare (k0_pay7 X x2 x3)) -∗ K ⟨⟩))
      ⊢ wp frame (wpE (defs₀ (F := F)) Variants.none c none) E (cc0_ffn_in i arg2 harg2 arg3 harg3 arg4 harg4 arg5 harg5 arg6 harg6 arg7 harg7 arg8 harg8 arg9 harg9) K := by
  simp only [cc0_ffn_in_eq_skeleton]; unfold cc0_ffn_in_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    sl_unfold_run_names
    exact (read_whole _ _ _ _ _).trans (congr (congrArg k0_pay5 ((load_whole _ _ _).trans (harg6.read_unread _))) ((load_whole _ _ _).trans (harg4.read_unread _)))
  isplitl [H6]
  · iexists _; isplitr; swap; · iexact H6
    ipureintro
    sl_unfold_run_names
    exact (read_whole _ _ _ _ _).trans (congr (congrArg k0_pay6 ((load_whole _ _ _).trans (harg6.read_unread _))) ((load_whole _ _ _).trans (harg5.read_unread _)))
  iexists _; isplitr; swap; · iexact H7
  ipureintro
  sl_unfold_run_names
  exact (read_whole _ _ _ _ _).trans (congr (congr (congrArg k0_pay7 ((load_whole _ _ _).trans (harg6.read_unread _))) ((load_whole _ _ _).trans (harg4.read_unread _))) ((load_whole _ _ _).trans (harg5.read_unread _)))

variable (m : (ℓ : Loc nD τ sig) → Buf (Elt F) ℓ) (ρ : Dev nD → PrngReg)

/-! ## The points -/

/-- The conditional is taken where the second coordinate is zero. -/
theorem cond_iff : ∀ t : Fin cfg0.N, k0_cond1 (grid0.coords t) = 1#1 ↔ t.val % 6 = 0 :=
  (by decide +kernel : ∀ t : Fin grid0.N, k0_cond1 (grid0.coords t) = 1#1 ↔ t.val % 6 = 0)

/-- The normalised block's window is stored into just there. -/
theorem idle_iff : ∀ t : Fin cfg0.N, cfg0.idle 4 (grid0.coords t) = decide (t.val % 6 ≠ 0) := by decide +kernel

/-- Just there its buffer is new. -/
theorem fresh_iff : ∀ t : Fin cfg0.N, cfg0.fresh 4 t.val = decide (t.val % 6 = 0) := by decide +kernel

/-- The normalised block in its buffer after point `n`. -/
def hAt (c : Dev nD) : (n : ℕ) → n < cfg0.N → Vec F S1024x1024 .bf16
  | 0, h => k0_pay1 (iblk m c 0 ⟨0, h⟩) (iblk m c 1 ⟨0, h⟩)
  | n + 1, h => if (n + 1) % 6 = 0 then k0_pay1 (iblk m c 0 ⟨n + 1, h⟩) (iblk m c 1 ⟨n + 1, h⟩) else hAt c n (Nat.lt_of_succ_lt h)

theorem hAt_first (c : Dev nD) (t : Fin cfg0.N) (h : t.val % 6 = 0) : hAt m c t.val t.isLt = k0_pay1 (iblk m c 0 t) (iblk m c 1 t) := by
  obtain ⟨n, hn⟩ := t
  cases n with
  | zero => rfl
  | succ n => exact if_pos h

theorem hAt_next (c : Dev nD) (t : Fin cfg0.N) (h : t.val % 6 ≠ 0) :
    hAt m c t.val t.isLt = hAt m c (t.val - 1) (Nat.lt_of_le_of_lt (Nat.sub_le _ _) t.isLt) := by
  obtain ⟨n, hn⟩ := t
  cases n with
  | zero => exact absurd rfl h
  | succ n => exact if_neg h

/-! ## The proof data -/

/-- The proof data on core `c`: the arrays as the region finds them; after a point each input's buffer at its block, the normalised
    block as the recursion says, the other outputs computed from it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => hAt m c t.val t.isLt
    | ⟨5, _⟩ => k0_pay5 (hAt m c t.val t.isLt) (iblk m c 2 t)
    | ⟨6, _⟩ => k0_pay6 (hAt m c t.val t.isLt) (iblk m c 3 t)
    | ⟨7, _⟩ => k0_pay7 (hAt m c t.val t.isLt) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = hAt m c t.val t.isLt := by dsimp only [dats]
theorem after0_5 (c : Dev nD) (t : Fin cfg0.N) : (dats m 0 c).after 5 t = k0_pay5 (hAt m c t.val t.isLt) (iblk m c 2 t) := by dsimp only [dats]
theorem after0_6 (c : Dev nD) (t : Fin cfg0.N) : (dats m 0 c).after 6 t = k0_pay6 (hAt m c t.val t.isLt) (iblk m c 3 t) := by dsimp only [dats]
theorem after0_7 (c : Dev nD) (t : Fin cfg0.N) : (dats m 0 c).after 7 t = k0_pay7 (hAt m c t.val t.isLt) (iblk m c 2 t) (iblk m c 3 t) := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d

/-- Where the block is not stored, its buffer holds what it held after the point before. -/
theorem before0_4 (c : Dev nD) (t : Fin cfg0.N) (h : t.val % 6 ≠ 0) (d) : (dats m 0 c).before 4 t d = hAt m c t.val t.isLt := by
  rw [(dats m 0 c).before_out_traj 4 rfl (fun _ _ => rfl) (fun s _ _ hf => by
    rw [fresh_iff s, decide_eq_false_iff_not] at hf
    rw [after0_4, after0_4]; exact hAt_next m c s hf) t.val t rfl d, fresh_iff t, decide_eq_false h, if_neg Bool.false_ne_true, after0_4]
  exact (hAt_next m c t h).symm

/-! ## What the body leaves -/

/-- A window stored into at every point, or an input, is left as the data say. -/
theorem live0 (c : Dev nD) (t : Fin cfg0.N) : (dats m 0 c).leavesExact 0 t = owns (c : Thread nD τ) (st0_0 t) fullShare ((dats m 0 c).after 0 t) := by
  unfold Dat.leavesExact; rw [show cfg0.idle 0 (grid0.coords t) = false from rfl]
theorem live1 (c : Dev nD) (t : Fin cfg0.N) : (dats m 0 c).leavesExact 1 t = owns (c : Thread nD τ) (st0_1 t) fullShare ((dats m 0 c).after 1 t) := by
  unfold Dat.leavesExact; rw [show cfg0.idle 1 (grid0.coords t) = false from rfl]
theorem live2 (c : Dev nD) (t : Fin cfg0.N) : (dats m 0 c).leavesExact 2 t = owns (c : Thread nD τ) (st0_2 t) fullShare ((dats m 0 c).after 2 t) := by
  unfold Dat.leavesExact; rw [show cfg0.idle 2 (grid0.coords t) = false from rfl]
theorem live3 (c : Dev nD) (t : Fin cfg0.N) : (dats m 0 c).leavesExact 3 t = owns (c : Thread nD τ) (st0_3 t) fullShare ((dats m 0 c).after 3 t) := by
  unfold Dat.leavesExact; rw [show cfg0.idle 3 (grid0.coords t) = false from rfl]
theorem live5 (c : Dev nD) (t : Fin cfg0.N) : (dats m 0 c).leavesExact 5 t = owns (c : Thread nD τ) (st0_5 t) fullShare ((dats m 0 c).after 5 t) := by
  unfold Dat.leavesExact; rw [show cfg0.idle 5 (grid0.coords t) = false from rfl]
theorem live6 (c : Dev nD) (t : Fin cfg0.N) : (dats m 0 c).leavesExact 6 t = owns (c : Thread nD τ) (st0_6 t) fullShare ((dats m 0 c).after 6 t) := by
  unfold Dat.leavesExact; rw [show cfg0.idle 6 (grid0.coords t) = false from rfl]
theorem live7 (c : Dev nD) (t : Fin cfg0.N) : (dats m 0 c).leavesExact 7 t = owns (c : Thread nD τ) (st0_7 t) fullShare ((dats m 0 c).after 7 t) := by
  unfold Dat.leavesExact; rw [show cfg0.idle 7 (grid0.coords t) = false from rfl]

/-- The normalised block where it is stored, -/
theorem left_first (c : Dev nD) (t : Fin cfg0.N) (h : t.val % 6 = 0) :
    (dats m 0 c).leavesExact 4 t = owns (c : Thread nD τ) (st0_4 t) fullShare (k0_pay1 (iblk m c 0 t) (iblk m c 1 t)) := by
  unfold Dat.leavesExact; rw [show cfg0.idle 4 (cfg0.grid.coords t) = false from (idle_iff t).trans (decide_eq_false (not_not.mpr h)), after0_4, hAt_first m c t h]

/-- where it is kept and not written back, -/
theorem left_kept (c : Dev nD) (t : Fin cfg0.N) (h : t.val % 6 ≠ 0) (h' : t.val % 6 ≠ 5) :
    (dats m 0 c).leavesExact 4 t = iprop(∃ d, owns (c : Thread nD τ) (st0_4 t) fullShare ((dats m 0 c).before 4 t d)) :=
  Dat.leavesExact_idle (dats m 0 c) 4 t ((idle_iff t).trans (decide_eq_true h)) (by rw [Bool.eq_false_iff]; exact fun e => h' ((flush0_4 t).mp e))

/-- and where it is written back. -/
theorem left_last (c : Dev nD) (t : Fin cfg0.N) (h : t.val % 6 = 5) :
    (dats m 0 c).leavesExact 4 t = owns (c : Thread nD τ) (st0_4 t) fullShare (hAt m c t.val t.isLt) := by
  unfold Dat.leavesExact; rw [show (cfg0.win 4).flush t = true from (flush0_4 t).mpr h, after0_4]
  cases cfg0.idle 4 (cfg0.grid.coords t) <;> rfl

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    live0, live1, live2, live3, live5, live6, live7,
    after0_0, after0_1, after0_2, after0_3, after0_5, after0_6, after0_7]
  by_cases h : t.val % 6 = 0
  · rw [left_first m c t h, hAt_first m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c Set.univ (grid0.coords t) _ _ _ _ _ _ _ _ _ _ _ _ _ _ _ _ ((cond_iff t).mpr h) (iblk m c 0 t) (iblk m c 1 t) (iblk m c 2 t) (iblk m c 3 t) _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases h' : t.val % 6 = 5
    · rw [left_last m c t h']
      simp only [before0_4 m c t h]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_rest c Set.univ (grid0.coords t) _ _ _ _ _ _ _ _ _ _ _ _ _ _ _ _ (fun e => h ((cond_iff t).mp e)) (iblk m c 0 t) (iblk m c 1 t) (iblk m c 2 t) (iblk m c 3 t) _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      iintro ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [left_kept m c t h h']
      simp only [before0_4 m c t h]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_rest c Set.univ (grid0.coords t) _ _ _ _ _ _ _ _ _ _ _ _ _ _ _ _ (fun e => h ((cond_iff t).mp e)) (iblk m c 0 t) (iblk m c 1 t) (iblk m c 2 t) (iblk m c 3 t) _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      iintro ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexists d4; iexact H4
      isplitl [H5]; · iexact H5
      isplitl [H6]; · iexact H6
      iexact H7

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run: the arrays end as the data say, every counter at zero. -/
theorem run_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame, for any floats: the arguments end unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.Kernel14Ideal.Ffn

end
-- ==== Proof.Ffn.Half.lean ====
/- The numbers of the feed-forward gradients: the factor a half, and the logistic function written with the hyperbolic tangent. -/
module

public import proofs.«01_k».proof.Proof.Attn.Spec

@[expose] public section

noncomputable section

namespace Cert.Half

open Idealize.ShloMosaic

/-- The constant a half, -/
abbrev half : EReal := Row.half

/-- and the constant one. -/
abbrev one : EReal := Ideal.ofBits .f32 0x3F800000#32

theorem half_eq : half = ((1 / 2 : ℝ) : EReal) := by
  simp [half, Row.half, Ideal.ofBits, Ideal.ieee, -EReal.coe_mul]
  norm_num

theorem one_eq : one = 1 := by
  simp [one, Ideal.ofBits, Ideal.ieee, -EReal.coe_mul]
  norm_num

/-- A half may be taken out of a sum, whatever its terms are. -/
theorem sum_half {n : ℕ} (f : Fin n → EReal) : ∑ k, f k * half = (∑ k, f k) * half :=
  Row.sum_factor f half (by rw [half_eq]; exact_mod_cast (by norm_num : (0 : ℝ) ≤ 1 / 2)) (by rw [half_eq]; exact EReal.coe_ne_top _)

/-- Half the hyperbolic tangent of half the argument, plus a half, is the logistic function. -/
theorem tanh_logistic (x : EReal) : half * Ideal.tanh (half * x) + half = Ideal.logistic x := by
  rw [half_eq]
  induction x with
  | bot =>
    rw [EReal.coe_mul_bot_of_pos (by norm_num), Ideal.tanh_bot, Ideal.logistic_bot, ← EReal.coe_one, ← EReal.coe_neg, ← EReal.coe_mul, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have e : Real.exp (-r) = Real.exp (-(1 / 2 * r)) * Real.exp (-(1 / 2 * r)) := by rw [← Real.exp_add]; congr 1; ring
    have e2 : Real.exp (1 / 2 * r) * Real.exp (-(1 / 2 * r)) = 1 := by rw [← Real.exp_add]; simp
    have p1 := Real.exp_pos (1 / 2 * r)
    have p2 := Real.exp_pos (-(1 / 2 * r))
    rw [e]
    generalize Real.exp (1 / 2 * r) = a at *
    generalize Real.exp (-(1 / 2 * r)) = b at *
    have h1 : a + b ≠ 0 := by positivity
    have h2 : 1 + b * b ≠ 0 := by positivity
    field_simp
    linear_combination (2 * b) * e2
  | top =>
    rw [EReal.coe_mul_top_of_pos (by norm_num), Ideal.tanh_top, Ideal.logistic_top, mul_one, ← EReal.coe_add]
    norm_num

/-- For a real `c` and any `x`, the product with the derivative of `x · Ideal.logistic x` may be taken term by term. -/
theorem derivative (c : ℝ) (x : EReal) :
    (c : EReal) * (Ideal.logistic x + x * Ideal.logistic x * (1 - Ideal.logistic x)) = c * Ideal.logistic x + x * c * (Ideal.logistic x * (1 - Ideal.logistic x)) := by
  induction x with
  | bot => simp
  | coe r =>
    rw [Ideal.logistic_coe]
    generalize (1 + Real.exp (-r))⁻¹ = s
    norm_cast
    ring
  | top =>
    rw [Ideal.logistic_top, ← EReal.coe_one, ← EReal.coe_sub]
    simp

end Cert.Half

end
-- ==== Proof.Ffn.In.lean ====
/- The feed-forward layer's input half: the normalised input, its products with the gate and the up weights and the gated value. -/
module

public import proofs.«01_k».proof.Defs
public import proofs.«01_k».proof.Proof.Ffn.InFrame
public import proofs.«01_k».proof.Proof.Ffn.Half
public import proofs.«01_k».proof.Proof.Gen.Reference14Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel14Ideal.Ffn

open Cert.Kernel14Ideal Cert.Kernel14Ideal.Gen Cert.Half

variable (m : (ℓ : Loc nD τ sig) → Buf (Elt Ideal) ℓ)

/-- The reference's normalised input: each row over the root of its mean square, times the gain, -/
abbrev NORM (X : FVec Ideal S4096x1024 .f32) (G : FVec Ideal S1x1024 .f32) : FVec Ideal S4096x1024 .f32 :=
  mulf (mulf X (broadcastInDim Cert.Reference14Ideal.S4096x1024 ![0, 1] Cert.Reference14Ideal.Gen.bcast_S4096x1_S4096x1024_0_1 (Host.rsqrt (addf (Host.divf (broadcastInDim Cert.Reference14Ideal.S4096x1 ![0] Cert.Reference14Ideal.Gen.bcast_S4096_S4096x1_0 (Host.reduceAdd (mulf X X) (constant Cert.Reference14Ideal.S_ .f32 0x00000000#32) Cert.Reference14Ideal.Gen.reducesTo_S4096x1024_S4096_d1 Cert.Reference14Ideal.Gen.h_S_)) (broadcastInDim Cert.Reference14Ideal.S4096x1 ![] Cert.Reference14Ideal.Gen.bcast_S_S4096x1 (constant Cert.Reference14Ideal.S_ .f32 0x44800000#32))) (broadcastInDim Cert.Reference14Ideal.S4096x1 ![] Cert.Reference14Ideal.Gen.bcast_S_S4096x1 (constant Cert.Reference14Ideal.S_ .f32 0x358637BD#32)))))) (broadcastInDim Cert.Reference14Ideal.S4096x1024 ![0, 1] Cert.Reference14Ideal.Gen.bcast_S1x1024_S4096x1024_0_1 G)

/-- its product with weights transposed, -/
abbrev PROD (X : FVec Ideal S4096x1024 .f32) (G : FVec Ideal S1x1024 .f32) (W : FVec Ideal S3072x1024 .bf16) : FVec Ideal S4096x3072 .f32 :=
  Host.dotGeneral Cert.Reference14Ideal.dot_S4096x1024_S1024x3072_S4096x3072_1_0_0_1_n_n none (NORM X G) (transpose Cert.Reference14Ideal.S1024x3072 [1, 0] (extf .f32 W Cert.Reference14Ideal.Gen.bitsLt_bf16_f32) Cert.Reference14Ideal.Gen.transposes_S3072x1024_S1024x3072_1_0)

/-- its constant one, -/
abbrev ONE : FVec Ideal S4096x3072 .f32 :=
  broadcastInDim Cert.Reference14Ideal.S4096x3072 ![] Cert.Reference14Ideal.Gen.bcast_S_S4096x3072 (constant Cert.Reference14Ideal.S_ .f32 0x3F800000#32)

/-- the normalised input as stored, -/
abbrev REFH (X : FVec Ideal S4096x1024 .f32) (G : FVec Ideal S1x1024 .f32) : FVec Ideal S4096x1024 .bf16 :=
  truncf .bf16 (NORM X G) Cert.Reference14Ideal.Gen.bitsLt_bf16_f32

/-- a product as stored -/
abbrev REFP (X : FVec Ideal S4096x1024 .f32) (G : FVec Ideal S1x1024 .f32) (W : FVec Ideal S3072x1024 .bf16) : FVec Ideal S4096x3072 .bf16 :=
  truncf .bf16 (PROD X G W) Cert.Reference14Ideal.Gen.bitsLt_bf16_f32

/-- and the gated value: the gate times its logistic function, times the up value. -/
abbrev REFA (X : FVec Ideal S4096x1024 .f32) (G : FVec Ideal S1x1024 .f32) (W V : FVec Ideal S3072x1024 .bf16) : FVec Ideal S4096x3072 .bf16 :=
  truncf .bf16 (mulf (mulf (PROD X G W) (Host.divf ONE (addf ONE (Host.exp (Host.negf (PROD X G W)))))) (PROD X G V)) Cert.Reference14Ideal.Gen.bitsLt_bf16_f32

/-- The reference's gated value, by the logistic function. -/
theorem act_ref (P Q : FVec Ideal S4096x3072 .f32) (j : S4096x3072.Idx) :
    (mulf (mulf P (Host.divf ONE (addf ONE (Host.exp (Host.negf P))))) Q j : EReal) = P j * Ideal.logistic (P j) * Q j := by
  pointwise [ONE]
  rfl

/-- The kernel's gated value, by the logistic function. -/
theorem act_at (h : FVec Ideal S1024x1024 .bf16) (w v : FVec Ideal S512x1024 .bf16) (y : S1024x512.Idx) :
    (k0_pay7 (F := Ideal) h w v y : EReal) = (k0_pay3 (F := Ideal) h w y : EReal) * Ideal.logistic (k0_pay3 (F := Ideal) h w y) * (k0_pay4 (F := Ideal) h v y : EReal) := by
  rw [← tanh_logistic]
  rfl

/-- Where each window's block sits at each grid point. -/
theorem idx : ∀ t : Fin cfg0.N, win0_0.index t = ![t.val / 6, 0] ∧ win0_1.index t = ![0, 0] ∧ win0_2.index t = ![t.val % 6, 0] ∧ win0_3.index t = ![t.val % 6, 0]
    ∧ win0_4.index t = ![t.val / 6, 0] ∧ win0_5.index t = ![t.val / 6, t.val % 6] ∧ win0_6.index t = ![t.val / 6, t.val % 6] ∧ win0_7.index t = ![t.val / 6, t.val % 6] :=
  (by decide +kernel : ∀ t : Fin grid0.N, _)

/-- The block of rows read at a point is the one read at another, where the row coordinate is the same. -/
theorem rows_kept (c : Dev nD) (t s : Fin cfg0.N) (h : t.val / 6 = s.val / 6) : iblk m c 0 t = iblk m c 0 s := by
  funext y
  blk_point [iblk, V, idx t, idx s, h]

/-- The gain read at a point is the one read at any other. -/
theorem gain_kept (c : Dev nD) (t s : Fin cfg0.N) : iblk m c 1 t = iblk m c 1 s := by
  funext y
  blk_point [iblk, V, idx t, idx s]

/-- The normalised block after a point is that of the rows and the gain read at it. -/
theorem hAt_eq (c : Dev nD) : ∀ (n : ℕ) (h : n < cfg0.N), hAt m c n h = k0_pay1 (iblk m c 0 ⟨n, h⟩) (iblk m c 1 ⟨n, h⟩)
  | 0, _ => rfl
  | n + 1, h => by
    by_cases e : (n + 1) % 6 = 0
    · exact hAt_first m c ⟨n + 1, h⟩ e
    · refine (hAt_next m c ⟨n + 1, h⟩ e).trans ((hAt_eq c n (Nat.lt_of_succ_lt h)).trans ?_)
      rw [rows_kept m c ⟨n, _⟩ ⟨n + 1, h⟩ (by show n / 6 = (n + 1) / 6; omega), gain_kept m c ⟨n, _⟩ ⟨n + 1, h⟩]

/-- The normalised block at `y` is the reference's at the array index `y` sits at, -/
theorem point_h (c : Dev nD) (t : Fin cfg0.N) (y) : k0_pay1 (F := Ideal) (iblk m c 0 t) (iblk m c 1 t) y
    = REFH (m ((c : Thread nD τ).loc main_arg0)) (m ((c : Thread nD τ).loc main_arg1)) (((cfg0.win 4).blk t).view.emb y) := by
  pointwise [k0_pay1, REFH, NORM]
  blk_point [iblk, V, idx t]

/-- the gate's block likewise, -/
theorem point_g (c : Dev nD) (t : Fin cfg0.N) (y) : k0_pay3 (F := Ideal) (k0_pay1 (iblk m c 0 t) (iblk m c 1 t)) (iblk m c 2 t) y
    = PROD (m ((c : Thread nD τ).loc main_arg0)) (m ((c : Thread nD τ).loc main_arg1)) (m ((c : Thread nD τ).loc main_arg2)) (((cfg0.win 5).blk t).view.emb y) := by
  pointwise [k0_pay1, k0_pay2, k0_pay3, PROD, NORM]
  blk_point [iblk, V, idx t]

/-- and the up value's. -/
theorem point_u (c : Dev nD) (t : Fin cfg0.N) (y) : k0_pay4 (F := Ideal) (k0_pay1 (iblk m c 0 t) (iblk m c 1 t)) (iblk m c 3 t) y
    = PROD (m ((c : Thread nD τ).loc main_arg0)) (m ((c : Thread nD τ).loc main_arg1)) (m ((c : Thread nD τ).loc main_arg3)) (((cfg0.win 6).blk t).view.emb y) := by
  pointwise [k0_pay1, k0_pay2, k0_pay4, PROD, NORM]
  blk_point [iblk, V, idx t]

/-- The three windows of the products sit alike. -/
theorem same_place (t : Fin cfg0.N) (y : S1024x512.Idx) : ((cfg0.win 5).blk t).view.emb y = ((cfg0.win 7).blk t).view.emb y
    ∧ ((cfg0.win 6).blk t).view.emb y = ((cfg0.win 7).blk t).view.emb y := ⟨rfl, rfl⟩

/-- The normalised input after the run, -/
theorem final_h (c : Dev nD) : (dats m 0 c).arrAt 4 (cfgs 0).N = REFH (m ((c : Thread nD τ).loc main_arg0)) (m ((c : Thread nD τ).loc main_arg1)) := by
  refine (dats m 0 c).arrAt_eq_of_covers 4 _ (by decide +kernel) fun t _ y => ?_
  blk_simp
  rw [after0_4, hAt_eq]
  exact point_h m c t y

/-- the gate, -/
theorem final_g (c : Dev nD) : (dats m 0 c).arrAt 5 (cfgs 0).N = REFP (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5, hAt_eq]
  exact point_g m c t y

/-- the up value -/
theorem final_u (c : Dev nD) : (dats m 0 c).arrAt 6 (cfgs 0).N = REFP (m ((c : Thread nD τ).loc main_arg0)) (m ((c : Thread nD τ).loc main_arg1)) (m ((c : Thread nD τ).loc main_arg3)) := by
  refine (dats m 0 c).arrAt_eq_of_covers 6 _ (by decide +kernel) fun t _ y => ?_
  blk_simp
  rw [after0_6, hAt_eq]
  exact point_u m c t y

/-- and the gated value. -/
theorem final_a (c : Dev nD) : (dats m 0 c).arrAt 7 (cfgs 0).N = REFA (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7, hAt_eq]
  refine (act_at _ _ _ y).trans ?_
  rw [point_g, point_u, (same_place t y).1, (same_place t y).2]
  exact (act_ref _ _ _).symm

end Cert.Kernel14Ideal.Ffn

namespace Cert.Proof.Ffn

/-- Kernel and reference compute equal normalised inputs, gates, up values and gated values. -/
theorem equal_in : @Cert.algebraic_Kernel14Ideal_Reference14Ideal Cert.Kernel14Ideal.Gen.facts Cert.Reference14Ideal.Gen.facts := by
  intro m g m' g' _ ha
  refine ⟨fun c => Kernel14Ideal.Ffn.REFH (m ((c.tc : Thread Kernel14Ideal.nD Kernel14Ideal.τ).loc Kernel14Ideal.main_arg0)) (m ((c.tc : Thread Kernel14Ideal.nD Kernel14Ideal.τ).loc Kernel14Ideal.main_arg1)),
    fun c => Kernel14Ideal.Ffn.REFP (m ((c.tc : Thread Kernel14Ideal.nD Kernel14Ideal.τ).loc Kernel14Ideal.main_arg0)) (m ((c.tc : Thread Kernel14Ideal.nD Kernel14Ideal.τ).loc Kernel14Ideal.main_arg1)) (m ((c.tc : Thread Kernel14Ideal.nD Kernel14Ideal.τ).loc Kernel14Ideal.main_arg2)),
    fun c => Kernel14Ideal.Ffn.REFP (m ((c.tc : Thread Kernel14Ideal.nD Kernel14Ideal.τ).loc Kernel14Ideal.main_arg0)) (m ((c.tc : Thread Kernel14Ideal.nD Kernel14Ideal.τ).loc Kernel14Ideal.main_arg1)) (m ((c.tc : Thread Kernel14Ideal.nD Kernel14Ideal.τ).loc Kernel14Ideal.main_arg3)),
    fun c => Kernel14Ideal.Ffn.REFA (m ((c.tc : Thread Kernel14Ideal.nD Kernel14Ideal.τ).loc Kernel14Ideal.main_arg0)) (m ((c.tc : Thread Kernel14Ideal.nD Kernel14Ideal.τ).loc Kernel14Ideal.main_arg1)) (m ((c.tc : Thread Kernel14Ideal.nD Kernel14Ideal.τ).loc Kernel14Ideal.main_arg2)) (m ((c.tc : Thread Kernel14Ideal.nD Kernel14Ideal.τ).loc Kernel14Ideal.main_arg3)), ?_, ?_⟩
  · exact (θ_run _ _ _).mono (fun r h c => ⟨((h c).1 4).trans (Kernel14Ideal.Ffn.final_h m c), ((h c).1 5).trans (Kernel14Ideal.Ffn.final_g m c),
      ((h c).1 6).trans (Kernel14Ideal.Ffn.final_u m c), ((h c).1 7).trans (Kernel14Ideal.Ffn.final_a m c),
      (((h c).1 0).trans (((Kernel14Ideal.Ffn.dats m 0 c).arrAt_in 0 rfl _).trans (Kernel14Ideal.Ffn.A_eq m c 0))),
      (((h c).1 1).trans (((Kernel14Ideal.Ffn.dats m 0 c).arrAt_in 1 rfl _).trans (Kernel14Ideal.Ffn.A_eq m c 1))),
      (((h c).1 2).trans (((Kernel14Ideal.Ffn.dats m 0 c).arrAt_in 2 rfl _).trans (Kernel14Ideal.Ffn.A_eq m c 2))),
      (((h c).1 3).trans (((Kernel14Ideal.Ffn.dats m 0 c).arrAt_in 3 rfl _).trans (Kernel14Ideal.Ffn.A_eq m c 3)))⟩) (Kernel14Ideal.Ffn.run_main m g)
  · refine (θ_run _ _ _).mono (fun r h c => ⟨(h c).1.trans ?_, (h c).2.1.trans ?_, (h c).2.2.1.trans ?_, (h c).2.2.2.1.trans ?_, (h c).2.2.2.2⟩) (Reference14Ideal.Value.run m' g')
    · rw [(ha c).1, (ha c).2.1]
    · rw [(ha c).1, (ha c).2.1, (ha c).2.2.1]
    · rw [(ha c).1, (ha c).2.1, (ha c).2.2.2]
    · rw [(ha c).1, (ha c).2.1, (ha c).2.2.1, (ha c).2.2.2]

end Cert.Proof.Ffn

end
-- ==== Proof.Mix.ProjFrame.lean ====
/- The frame of the mixer's input projection. The body runs in two cases. Where the second grid coordinate is zero it normalises the block of rows, stores it and goes on from it.
   Elsewhere it goes on from the normalised block already in its buffer. So what that buffer holds after a point is defined by
   recursion over the points. -/
module

public import proofs.«01_k».proof.Proof.Gen.Kernel15Ideal.Frame
public import proofs.«01_k».proof.Proof.Gen.Kernel15Ideal.Skeleton
public import proofs.«01_k».proof.Proof.Whole
public import Idealize.ShloMosaic.Lib.Claim
public import Idealize.ShloMosaic.Lib.Tactic.Stretches
public import Idealize.ShloMosaic.Lib.Pipeline.TableIdle

@[expose] public section

set_option maxRecDepth 16384

noncomputable section

namespace Cert.Kernel15Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel15Ideal.Gen Cert.Whole

variable {F : FTy → Type} [FloatOps F]

local notation "𝕄" => MT nD τ sig Unit (Elt F) ℕ (UR sig nD τ) ℕ

/-! ## The body's run -/

set_option maxHeartbeats 1600000 in
/-- The body where it normalises the block. -/
theorem run_first (c : Dev nD) (E : Set ℕ) (i : grid0.Coords) (arg2 : Memref sig .tc .vmem S1024x1024 .f32) (harg2 : arg2.IsWhole) (arg3 : Memref sig .tc .vmem S1x1024 .f32) (harg3 : arg3.IsWhole) (arg4 : Memref sig .tc .vmem S1024x1664 .bf16) (harg4 : arg4.IsWhole) (arg5 : Memref sig .tc .vmem S1024x1024 .bf16) (harg5 : arg5.IsWhole) (arg6 : Memref sig .tc .vmem S1024x1664 .f32) (harg6 : arg6.IsWhole)
    (hc : k0_cond1 i = 1#1) (x0 : Vec F S1024x1024 .f32) (x1 : Vec F S1x1024 .f32) (x2 : Vec F S1024x1664 .bf16) (X : Vec F S1024x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare X ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay1 x0 x1) ∗ owns (c : Thread nD τ) arg6 fullShare (k0_pay2 (k0_pay1 x0 x1) x2)) -∗ K ⟨⟩))
      ⊢ wp frame (wpE (defs₀ (F := F)) Variants.none c none) E (cc0_mix_proj i arg2 harg2 arg3 harg3 arg4 harg4 arg5 harg5 arg6 harg6) K := by
  simp only [cc0_mix_proj_eq_skeleton]; unfold cc0_mix_proj_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    sl_unfold_run_names
    exact (read_whole _ _ _ _ _).trans (congr (congrArg k0_pay1 ((load_whole _ _ _).trans (harg2.read_unread _))) ((load_whole _ _ _).trans (harg3.read_unread _)))
  iexists _; isplitr; swap; · iexact H4
  ipureintro
  sl_unfold_run_names
  exact (read_whole _ _ _ _ _).trans (congr (congrArg k0_pay2 ((cov_whole _ _ _ _ _).trans (congr (congrArg k0_pay1 ((load_whole _ _ _).trans (harg2.read_unread _))) ((load_whole _ _ _).trans (harg3.read_unread _))))) ((load_whole _ _ _).trans (harg4.read_unread _)))

set_option maxHeartbeats 1600000 in
/-- The body where the block is there already. -/
theorem run_rest (c : Dev nD) (E : Set ℕ) (i : grid0.Coords) (arg2 : Memref sig .tc .vmem S1024x1024 .f32) (harg2 : arg2.IsWhole) (arg3 : Memref sig .tc .vmem S1x1024 .f32) (harg3 : arg3.IsWhole) (arg4 : Memref sig .tc .vmem S1024x1664 .bf16) (harg4 : arg4.IsWhole) (arg5 : Memref sig .tc .vmem S1024x1024 .bf16) (harg5 : arg5.IsWhole) (arg6 : Memref sig .tc .vmem S1024x1664 .f32) (harg6 : arg6.IsWhole)
    (hc : ¬ k0_cond1 i = 1#1) (x0 : Vec F S1024x1024 .f32) (x1 : Vec F S1x1024 .f32) (x2 : Vec F S1024x1664 .bf16) (X : Vec F S1024x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare X ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare X ∗ owns (c : Thread nD τ) arg6 fullShare (k0_pay2 X x2)) -∗ K ⟨⟩))
      ⊢ wp frame (wpE (defs₀ (F := F)) Variants.none c none) E (cc0_mix_proj i arg2 harg2 arg3 harg3 arg4 harg4 arg5 harg5 arg6 harg6) K := by
  simp only [cc0_mix_proj_eq_skeleton]; unfold cc0_mix_proj_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; · iexact H4
  ipureintro
  sl_unfold_run_names
  exact (read_whole _ _ _ _ _).trans (congr (congrArg k0_pay2 ((load_whole _ _ _).trans (harg5.read_unread _))) ((load_whole _ _ _).trans (harg4.read_unread _)))

variable (m : (ℓ : Loc nD τ sig) → Buf (Elt F) ℓ) (ρ : Dev nD → PrngReg)

/-! ## The points -/

/-- The conditional is taken where the second coordinate is zero. -/
theorem cond_iff : ∀ t : Fin cfg0.N, k0_cond1 (grid0.coords t) = 1#1 ↔ t.val % 3 = 0 :=
  (by decide +kernel : ∀ t : Fin grid0.N, k0_cond1 (grid0.coords t) = 1#1 ↔ t.val % 3 = 0)

/-- The normalised block's window is stored into just there. -/
theorem idle_iff : ∀ t : Fin cfg0.N, cfg0.idle 3 (grid0.coords t) = decide (t.val % 3 ≠ 0) := by decide +kernel

/-- Just there its buffer is new. -/
theorem fresh_iff : ∀ t : Fin cfg0.N, cfg0.fresh 3 t.val = decide (t.val % 3 = 0) := by decide +kernel

/-- The normalised block in its buffer after point `n`. -/
def hAt (c : Dev nD) : (n : ℕ) → n < cfg0.N → Vec F S1024x1024 .bf16
  | 0, h => k0_pay1 (iblk m c 0 ⟨0, h⟩) (iblk m c 1 ⟨0, h⟩)
  | n + 1, h => if (n + 1) % 3 = 0 then k0_pay1 (iblk m c 0 ⟨n + 1, h⟩) (iblk m c 1 ⟨n + 1, h⟩) else hAt c n (Nat.lt_of_succ_lt h)

theorem hAt_first (c : Dev nD) (t : Fin cfg0.N) (h : t.val % 3 = 0) : hAt m c t.val t.isLt = k0_pay1 (iblk m c 0 t) (iblk m c 1 t) := by
  obtain ⟨n, hn⟩ := t
  cases n with
  | zero => rfl
  | succ n => exact if_pos h

theorem hAt_next (c : Dev nD) (t : Fin cfg0.N) (h : t.val % 3 ≠ 0) :
    hAt m c t.val t.isLt = hAt m c (t.val - 1) (Nat.lt_of_le_of_lt (Nat.sub_le _ _) t.isLt) := by
  obtain ⟨n, hn⟩ := t
  cases n with
  | zero => exact absurd rfl h
  | succ n => exact if_neg h

/-! ## The proof data -/

/-- The proof data on core `c`: the arrays as the region finds them; after a point each input's buffer at its block, the normalised
    block as the recursion says, the other outputs computed from it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => hAt m c t.val t.isLt
    | ⟨4, _⟩ => k0_pay2 (hAt m c t.val t.isLt) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = hAt m c t.val t.isLt := by dsimp only [dats]
theorem after0_4 (c : Dev nD) (t : Fin cfg0.N) : (dats m 0 c).after 4 t = k0_pay2 (hAt m c t.val t.isLt) (iblk m c 2 t) := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d

/-- Where the block is not stored, its buffer holds what it held after the point before. -/
theorem before0_3 (c : Dev nD) (t : Fin cfg0.N) (h : t.val % 3 ≠ 0) (d) : (dats m 0 c).before 3 t d = hAt m c t.val t.isLt := by
  rw [(dats m 0 c).before_out_traj 3 rfl (fun _ _ => rfl) (fun s _ _ hf => by
    rw [fresh_iff s, decide_eq_false_iff_not] at hf
    rw [after0_3, after0_3]; exact hAt_next m c s hf) t.val t rfl d, fresh_iff t, decide_eq_false h, if_neg Bool.false_ne_true, after0_3]
  exact (hAt_next m c t h).symm

/-! ## What the body leaves -/

/-- A window stored into at every point, or an input, is left as the data say. -/
theorem live0 (c : Dev nD) (t : Fin cfg0.N) : (dats m 0 c).leavesExact 0 t = owns (c : Thread nD τ) (st0_0 t) fullShare ((dats m 0 c).after 0 t) := by
  unfold Dat.leavesExact; rw [show cfg0.idle 0 (grid0.coords t) = false from rfl]
theorem live1 (c : Dev nD) (t : Fin cfg0.N) : (dats m 0 c).leavesExact 1 t = owns (c : Thread nD τ) (st0_1 t) fullShare ((dats m 0 c).after 1 t) := by
  unfold Dat.leavesExact; rw [show cfg0.idle 1 (grid0.coords t) = false from rfl]
theorem live2 (c : Dev nD) (t : Fin cfg0.N) : (dats m 0 c).leavesExact 2 t = owns (c : Thread nD τ) (st0_2 t) fullShare ((dats m 0 c).after 2 t) := by
  unfold Dat.leavesExact; rw [show cfg0.idle 2 (grid0.coords t) = false from rfl]
theorem live4 (c : Dev nD) (t : Fin cfg0.N) : (dats m 0 c).leavesExact 4 t = owns (c : Thread nD τ) (st0_4 t) fullShare ((dats m 0 c).after 4 t) := by
  unfold Dat.leavesExact; rw [show cfg0.idle 4 (grid0.coords t) = false from rfl]

/-- The normalised block where it is stored, -/
theorem left_first (c : Dev nD) (t : Fin cfg0.N) (h : t.val % 3 = 0) :
    (dats m 0 c).leavesExact 3 t = owns (c : Thread nD τ) (st0_3 t) fullShare (k0_pay1 (iblk m c 0 t) (iblk m c 1 t)) := by
  unfold Dat.leavesExact; rw [show cfg0.idle 3 (cfg0.grid.coords t) = false from (idle_iff t).trans (decide_eq_false (not_not.mpr h)), after0_3, hAt_first m c t h]

/-- where it is kept and not written back, -/
theorem left_kept (c : Dev nD) (t : Fin cfg0.N) (h : t.val % 3 ≠ 0) (h' : t.val % 3 ≠ 2) :
    (dats m 0 c).leavesExact 3 t = iprop(∃ d, owns (c : Thread nD τ) (st0_3 t) fullShare ((dats m 0 c).before 3 t d)) :=
  Dat.leavesExact_idle (dats m 0 c) 3 t ((idle_iff t).trans (decide_eq_true h)) (by rw [Bool.eq_false_iff]; exact fun e => h' ((flush0_3 t).mp e))

/-- and where it is written back. -/
theorem left_last (c : Dev nD) (t : Fin cfg0.N) (h : t.val % 3 = 2) :
    (dats m 0 c).leavesExact 3 t = owns (c : Thread nD τ) (st0_3 t) fullShare (hAt m c t.val t.isLt) := by
  unfold Dat.leavesExact; rw [show (cfg0.win 3).flush t = true from (flush0_3 t).mpr h, after0_3]
  cases cfg0.idle 3 (cfg0.grid.coords t) <;> rfl

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 1600000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    live0, live1, live2, live4,
    after0_0, after0_1, after0_2, after0_4]
  by_cases h : t.val % 3 = 0
  · rw [left_first m c t h, hAt_first m c t h]
    iintro ⟨HΦ, Ho, ⟨%d0, H0⟩, ⟨%d1, H1⟩, ⟨%d2, H2⟩, ⟨%d3, H3⟩, ⟨%d4, H4⟩⟩
    iapply (run_first c Set.univ (grid0.coords t) _ _ _ _ _ _ _ _ _ _ ((cond_iff t).mpr h) (iblk m c 0 t) (iblk m c 1 t) (iblk m c 2 t) _ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · by_cases h' : t.val % 3 = 2
    · rw [left_last m c t h']
      simp only [before0_3 m c t h]
      iintro ⟨HΦ, Ho, ⟨%d0, H0⟩, ⟨%d1, H1⟩, ⟨%d2, H2⟩, ⟨%d3, H3⟩, ⟨%d4, H4⟩⟩
      iapply (run_rest c Set.univ (grid0.coords t) _ _ _ _ _ _ _ _ _ _ (fun e => h ((cond_iff t).mp e)) (iblk m c 0 t) (iblk m c 1 t) (iblk m c 2 t) _ _)
      isplitl [H0]; · iexact H0
      isplitl [H1]; · iexact H1
      isplitl [H2]; · iexact H2
      isplitl [H3]; · iexact H3
      isplitl [H4]; · iexists _; iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
    · rw [left_kept m c t h h']
      simp only [before0_3 m c t h]
      iintro ⟨HΦ, Ho, ⟨%d0, H0⟩, ⟨%d1, H1⟩, ⟨%d2, H2⟩, ⟨%d3, H3⟩, ⟨%d4, H4⟩⟩
      iapply (run_rest c Set.univ (grid0.coords t) _ _ _ _ _ _ _ _ _ _ (fun e => h ((cond_iff t).mp e)) (iblk m c 0 t) (iblk m c 1 t) (iblk m c 2 t) _ _)
      isplitl [H0]; · iexact H0
      isplitl [H1]; · iexact H1
      isplitl [H2]; · iexact H2
      isplitl [H3]; · iexact H3
      isplitl [H4]; · iexists _; iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexists d3; iexact H3
      iexact H4

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run: the arrays end as the data say, every counter at zero. -/
theorem run_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame, for any floats: the arguments end unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.Kernel15Ideal.Mix

end
-- ==== Proof.Mix.Proj.lean ====
/- The mixer's input projection: the normalised input and its product with the projection weights. -/
module

public import proofs.«01_k».proof.Defs
public import proofs.«01_k».proof.Proof.Mix.ProjFrame
public import proofs.«01_k».proof.Proof.Gen.Reference15Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel15Ideal.Mix

open Cert.Kernel15Ideal Cert.Kernel15Ideal.Gen

variable (m : (ℓ : Loc nD τ sig) → Buf (Elt Ideal) ℓ)

/-- The reference's normalised input: each row over the root of its mean square, times the gain, -/
abbrev NORM (X : FVec Ideal S4096x1024 .f32) (G : FVec Ideal S1x1024 .f32) : FVec Ideal S4096x1024 .f32 :=
  mulf (mulf X (broadcastInDim Cert.Reference15Ideal.S4096x1024 ![0, 1] Cert.Reference15Ideal.Gen.bcast_S4096x1_S4096x1024_0_1 (Host.rsqrt (addf (Host.divf (broadcastInDim Cert.Reference15Ideal.S4096x1 ![0] Cert.Reference15Ideal.Gen.bcast_S4096_S4096x1_0 (Host.reduceAdd (mulf X X) (constant Cert.Reference15Ideal.S_ .f32 0x00000000#32) Cert.Reference15Ideal.Gen.reducesTo_S4096x1024_S4096_d1 Cert.Reference15Ideal.Gen.h_S_)) (broadcastInDim Cert.Reference15Ideal.S4096x1 ![] Cert.Reference15Ideal.Gen.bcast_S_S4096x1 (constant Cert.Reference15Ideal.S_ .f32 0x44800000#32))) (broadcastInDim Cert.Reference15Ideal.S4096x1 ![] Cert.Reference15Ideal.Gen.bcast_S_S4096x1 (constant Cert.Reference15Ideal.S_ .f32 0x358637BD#32)))))) (broadcastInDim Cert.Reference15Ideal.S4096x1024 ![0, 1] Cert.Reference15Ideal.Gen.bcast_S1x1024_S4096x1024_0_1 G)

/-- as stored, -/
abbrev REFH (X : FVec Ideal S4096x1024 .f32) (G : FVec Ideal S1x1024 .f32) : FVec Ideal S4096x1024 .bf16 :=
  truncf .bf16 (NORM X G) Cert.Reference15Ideal.Gen.bitsLt_bf16_f32

/-- and its product with the projection weights. -/
abbrev REFP (X : FVec Ideal S4096x1024 .f32) (G : FVec Ideal S1x1024 .f32) (W : FVec Ideal S1024x4992 .bf16) : FVec Ideal S4096x4992 .f32 :=
  Host.dotGeneral Cert.Reference15Ideal.dot_S4096x1024_S1024x4992_S4096x4992_1_0_0_1_n_n none (NORM X G) (extf .f32 W Cert.Reference15Ideal.Gen.bitsLt_bf16_f32)

/-- Where each window's block sits at each grid point. -/
theorem idx : ∀ t : Fin cfg0.N, win0_0.index t = ![t.val / 3, 0] ∧ win0_1.index t = ![0, 0] ∧ win0_2.index t = ![0, t.val % 3]
    ∧ win0_3.index t = ![t.val / 3, 0] ∧ win0_4.index t = ![t.val / 3, t.val % 3] :=
  (by decide +kernel : ∀ t : Fin grid0.N, _)

/-- The block of rows read at a point is the one read at the point before, where the row coordinate has not moved. -/
theorem rows_kept (c : Dev nD) (t s : Fin cfg0.N) (h : t.val / 3 = s.val / 3) : iblk m c 0 t = iblk m c 0 s := by
  funext y
  blk_point [iblk, V, idx t, idx s, h]

/-- The gain read at a point is the one read at any other. -/
theorem gain_kept (c : Dev nD) (t s : Fin cfg0.N) : iblk m c 1 t = iblk m c 1 s := by
  funext y
  blk_point [iblk, V, idx t, idx s]

/-- The normalised block after a point is that of the rows and the gain read at it. -/
theorem hAt_eq (c : Dev nD) : ∀ (n : ℕ) (h : n < cfg0.N), hAt m c n h = k0_pay1 (iblk m c 0 ⟨n, h⟩) (iblk m c 1 ⟨n, h⟩)
  | 0, _ => rfl
  | n + 1, h => by
    by_cases e : (n + 1) % 3 = 0
    · exact hAt_first m c ⟨n + 1, h⟩ e
    · refine (hAt_next m c ⟨n + 1, h⟩ e).trans ((hAt_eq c n (Nat.lt_of_succ_lt h)).trans ?_)
      rw [rows_kept m c ⟨n, _⟩ ⟨n + 1, h⟩ (by show n / 3 = (n + 1) / 3; omega), gain_kept m c ⟨n, _⟩ ⟨n + 1, h⟩]

/-- The normalised block at `y` is the reference's at the array index `y` sits at. -/
theorem point_h (c : Dev nD) (t : Fin cfg0.N) (y) : k0_pay1 (F := Ideal) (iblk m c 0 t) (iblk m c 1 t) y
    = REFH (m ((c : Thread nD τ).loc main_arg0)) (m ((c : Thread nD τ).loc main_arg1)) (((cfg0.win 3).blk t).view.emb y) := by
  pointwise [k0_pay1, REFH, NORM]
  blk_point [iblk, V, idx t]

/-- The product's block at `y` is the reference's at the array index `y` sits at. -/
theorem point_p (c : Dev nD) (t : Fin cfg0.N) (y) : k0_pay2 (F := Ideal) (k0_pay1 (iblk m c 0 t) (iblk m c 1 t)) (iblk m c 2 t) y
    = REFP (m ((c : Thread nD τ).loc main_arg0)) (m ((c : Thread nD τ).loc main_arg1)) (m ((c : Thread nD τ).loc main_arg2)) (((cfg0.win 4).blk t).view.emb y) := by
  pointwise [k0_pay1, k0_pay2, REFP, NORM]
  blk_point [iblk, V, idx t]

/-- The normalised input after the run, -/
theorem final_h (c : Dev nD) : (dats m 0 c).arrAt 3 (cfgs 0).N = REFH (m ((c : Thread nD τ).loc main_arg0)) (m ((c : Thread nD τ).loc main_arg1)) := by
  refine (dats m 0 c).arrAt_eq_of_covers 3 _ (by decide +kernel) fun t _ y => ?_
  blk_simp
  rw [after0_3, hAt_eq]
  exact point_h m c t y

/-- and the projections. -/
theorem final_p (c : Dev nD) : (dats m 0 c).arrAt 4 (cfgs 0).N
    = REFP (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4, hAt_eq]
  exact point_p m c t y

end Cert.Kernel15Ideal.Mix

namespace Cert.Proof.Mix

/-- Kernel and reference compute equal normalised inputs and projections. -/
theorem equal_proj : @Cert.algebraic_Kernel15Ideal_Reference15Ideal Cert.Kernel15Ideal.Gen.facts Cert.Reference15Ideal.Gen.facts := by
  intro m g m' g' _ ha
  refine ⟨fun c => Kernel15Ideal.Mix.REFH (m ((c.tc : Thread Kernel15Ideal.nD Kernel15Ideal.τ).loc Kernel15Ideal.main_arg0)) (m ((c.tc : Thread Kernel15Ideal.nD Kernel15Ideal.τ).loc Kernel15Ideal.main_arg1)),
    fun c => Kernel15Ideal.Mix.REFP (m ((c.tc : Thread Kernel15Ideal.nD Kernel15Ideal.τ).loc Kernel15Ideal.main_arg0)) (m ((c.tc : Thread Kernel15Ideal.nD Kernel15Ideal.τ).loc Kernel15Ideal.main_arg1)) (m ((c.tc : Thread Kernel15Ideal.nD Kernel15Ideal.τ).loc Kernel15Ideal.main_arg2)), ?_, ?_⟩
  · exact (θ_run _ _ _).mono (fun r h c => ⟨((h c).1 3).trans (Kernel15Ideal.Mix.final_h m c), ((h c).1 4).trans (Kernel15Ideal.Mix.final_p m c),
      (((h c).1 0).trans (((Kernel15Ideal.Mix.dats m 0 c).arrAt_in 0 rfl _).trans (Kernel15Ideal.Mix.A_eq m c 0))),
      (((h c).1 1).trans (((Kernel15Ideal.Mix.dats m 0 c).arrAt_in 1 rfl _).trans (Kernel15Ideal.Mix.A_eq m c 1))),
      (((h c).1 2).trans (((Kernel15Ideal.Mix.dats m 0 c).arrAt_in 2 rfl _).trans (Kernel15Ideal.Mix.A_eq m c 2)))⟩) (Kernel15Ideal.Mix.run_main m g)
  · refine (θ_run _ _ _).mono (fun r h c => ⟨(h c).1.trans ?_, (h c).2.1.trans ?_, (h c).2.2⟩) (Reference15Ideal.Value.run m' g')
    · rw [(ha c).1, (ha c).2.1]
    · rw [(ha c).1, (ha c).2.1, (ha c).2.2]

end Cert.Proof.Mix

end
-- ==== Proof.Ffn.Input.lean ====
/- The gradient of the feed-forward layer's input and of its norm's gain: what the gate and up projections send back to the
   normalised input adds up over three blocks of columns, then goes through the norm's derivative. The gain's gradient adds up over the
   eight blocks of rows. -/
module

public import proofs.«01_k».proof.Defs
public import proofs.«01_k».proof.Proof.Gen.Kernel16Ideal.Value
public import proofs.«01_k».proof.Proof.Gen.Reference16Ideal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel16Ideal.Ffn

open Cert.Kernel16Ideal Cert.Kernel16Ideal.Gen

variable (m : (ℓ : Loc nD τ sig) → Buf (Elt Ideal) ℓ)

/-! ## The reference's terms -/

/-- The normalised input's gradient, from the up and gate values', -/
abbrev DH (DG DU : FVec Ideal S4096x3072 .bf16) (WG WU : FVec Ideal S3072x1024 .bf16) : FVec Ideal S4096x1024 .f32 :=
  addf (Host.dotGeneral Cert.Reference16Ideal.dot_S4096x3072_S1024x3072_S4096x1024_1_1_0_0_n_n none (extf .f32 DU Cert.Reference16Ideal.Gen.bitsLt_bf16_f32) (transpose Cert.Reference16Ideal.S1024x3072 [1, 0] (extf .f32 WU Cert.Reference16Ideal.Gen.bitsLt_bf16_f32) Cert.Reference16Ideal.Gen.transposes_S3072x1024_S1024x3072_1_0)) (Host.dotGeneral Cert.Reference16Ideal.dot_S4096x3072_S1024x3072_S4096x1024_1_1_0_0_n_n none (extf .f32 DG Cert.Reference16Ideal.Gen.bitsLt_bf16_f32) (transpose Cert.Reference16Ideal.S1024x3072 [1, 0] (extf .f32 WG Cert.Reference16Ideal.Gen.bitsLt_bf16_f32) Cert.Reference16Ideal.Gen.transposes_S3072x1024_S1024x3072_1_0))

/-- each row's mean square, with the small constant, -/
abbrev MS (X : FVec Ideal S4096x1024 .f32) : FVec Ideal Cert.Reference16Ideal.S4096x1 .f32 :=
  addf (Host.divf (broadcastInDim Cert.Reference16Ideal.S4096x1 ![0] Cert.Reference16Ideal.Gen.bcast_S4096_S4096x1_0 (Host.reduceAdd (mulf X X) (constant Cert.Reference16Ideal.S_ .f32 0x00000000#32) Cert.Reference16Ideal.Gen.reducesTo_S4096x1024_S4096_d1 Cert.Reference16Ideal.Gen.h_S_)) (broadcastInDim Cert.Reference16Ideal.S4096x1 ![] Cert.Reference16Ideal.Gen.bcast_S_S4096x1 (constant Cert.Reference16Ideal.S_ .f32 0x44800000#32))) (broadcastInDim Cert.Reference16Ideal.S4096x1 ![] Cert.Reference16Ideal.Gen.bcast_S_S4096x1 (constant Cert.Reference16Ideal.S_ .f32 0x358637BD#32))

/-- the gradient of the row over its root, -/
abbrev DY (G : FVec Ideal S1x1024 .f32) (D : FVec Ideal S4096x1024 .f32) : FVec Ideal S4096x1024 .f32 :=
  mulf D (broadcastInDim Cert.Reference16Ideal.S4096x1024 ![0, 1] Cert.Reference16Ideal.Gen.bcast_S1x1024_S4096x1024_0_1 G)

/-- what each of the row's squares gets, -/
abbrev DM (X : FVec Ideal S4096x1024 .f32) (G : FVec Ideal S1x1024 .f32) (D : FVec Ideal S4096x1024 .f32) : FVec Ideal S4096x1024 .f32 :=
  broadcastInDim Cert.Reference16Ideal.S4096x1024 ![0] Cert.Reference16Ideal.Gen.bcast_S4096_S4096x1024_0 (Host.reduceAdd (Host.divf (mulf (shapeCast _ (Host.reduceAdd (mulf X (DY G D)) (constant Cert.Reference16Ideal.S_ .f32 0x00000000#32) Cert.Reference16Ideal.Gen.reducesTo_S4096x1024_S4096_d1 Cert.Reference16Ideal.Gen.h_S_) Cert.Reference16Ideal.Gen.shapeCasts_S4096_S4096x1) (mulf (broadcastInDim Cert.Reference16Ideal.S4096x1 ![] Cert.Reference16Ideal.Gen.bcast_S_S4096x1 (constant Cert.Reference16Ideal.S_ .f32 0xBF000000#32)) (Host.divf (Host.rsqrt (MS X)) (MS X)))) (broadcastInDim Cert.Reference16Ideal.S4096x1 ![] Cert.Reference16Ideal.Gen.bcast_S_S4096x1 (constant Cert.Reference16Ideal.S_ .f32 0x44800000#32))) (constant Cert.Reference16Ideal.S_ .f32 0x00000000#32) Cert.Reference16Ideal.Gen.reducesTo_S4096x1_S4096_d1 Cert.Reference16Ideal.Gen.h_S_)

/-- the input's gradient, with the residual's, -/
abbrev DX (X : FVec Ideal S4096x1024 .f32) (G : FVec Ideal S1x1024 .f32) (D R : FVec Ideal S4096x1024 .f32) : FVec Ideal S4096x1024 .f32 :=
  addf R (addf (addf (mulf (DY G D) (broadcastInDim Cert.Reference16Ideal.S4096x1024 ![0, 1] Cert.Reference16Ideal.Gen.bcast_S4096x1_S4096x1024_0_1 (Host.rsqrt (MS X)))) (mulf X (DM X G D))) (mulf (DM X G D) X))

/-- and the gain's. -/
abbrev DGAIN (X D : FVec Ideal S4096x1024 .f32) : FVec Ideal S1x1024 .f32 :=
  shapeCast Cert.Reference16Ideal.S1x1024 (Host.reduceAdd (mulf (mulf X (broadcastInDim Cert.Reference16Ideal.S4096x1024 ![0, 1] Cert.Reference16Ideal.Gen.bcast_S4096x1_S4096x1024_0_1 (Host.rsqrt (MS X)))) D) (constant Cert.Reference16Ideal.S_ .f32 0x00000000#32) Cert.Reference16Ideal.Gen.reducesTo_S4096x1024_S1024_d0 Cert.Reference16Ideal.Gen.h_S_) Cert.Reference16Ideal.Gen.shapeCasts_S1024_S1x1024

/-! ## The blocks -/

/-- Where each window's block sits at each grid point. -/
theorem idx : ∀ t : Fin cfg0.N, win0_0.index t = ![t.val / 3, t.val % 3] ∧ win0_1.index t = ![t.val / 3, t.val % 3] ∧ win0_2.index t = ![t.val % 3, 0]
    ∧ win0_3.index t = ![t.val % 3, 0] ∧ win0_4.index t = ![t.val / 3, 0] ∧ win0_5.index t = ![0, 0] ∧ win0_6.index t = ![t.val / 3, 0]
    ∧ win0_7.index t = ![t.val / 3, 0] ∧ win0_8.index t = ![0, 0] :=
  (by decide +kernel : ∀ t : Fin grid0.N, _)

/-- The accumulator starts at zero, -/
theorem zero_at (j) : k0_pay1 (F := Ideal) j = 0 := by pointwise [k0_pay1]

/-- and takes in one block of columns at each point. -/
theorem step_at (acc : FVec Ideal S512x1024 .f32) (dg du : FVec Ideal S512x1024 .bf16) (wg wu : FVec Ideal S1024x1024 .bf16) (j : S512x1024.Idx) :
    k0_pay2 acc dg wg du wu j = acc j + ((∑ k : Fin 1024, dg (ix2 (j 0) k) * wg (ix2 k (j 1))) + ∑ k : Fin 1024, du (ix2 (j 0) k) * wu (ix2 k (j 1))) := by
  pointwise [k0_pay2]

/-- The reference's gradient of the normalised input at an index. -/
theorem dh_at (DG DU : FVec Ideal S4096x3072 .bf16) (WG WU : FVec Ideal S3072x1024 .bf16) (j : S4096x1024.Idx) :
    (DH DG DU WG WU j : EReal) = (∑ k : Fin 3072, DG (ix2 (j 0) k) * WG (ix2 k (j 1))) + ∑ k : Fin 3072, DU (ix2 (j 0) k) * WU (ix2 k (j 1)) := by
  rw [add_comm]
  pointwise [DH]

/-- The normalised input's gradient over the kernel's arguments. -/
abbrev DHm (c : Dev nD) : FVec Ideal S4096x1024 .f32 := DH (m ((c : Thread nD τ).loc main_arg0)) (m ((c : Thread nD τ).loc main_arg1)) (m ((c : Thread nD τ).loc main_arg2)) (m ((c : Thread nD τ).loc main_arg3))

/-- After the last of a block of rows' points the accumulator holds the gradient of its rows. -/
theorem acc_last (c : Dev nD) (t : Fin cfg0.N) (h2 : t.val % 3 = 2) (y : S512x1024.Idx) :
    (outsAt0 m c t.val t.isLt).2.2 y = DHm m c (((cfg0.win 7).blk t).view.emb y) := by
  have e := Pipeline.eq_sum_fin_of_reset_step_apply_of_flush (fun n h => (outsAt0 m c n h).2.2) 3 (fun _ => 0)
    (fun p j => (∑ k : Fin 1024, (show FVec Ideal S512x1024 .bf16 from iblk m c 0 p) (ix2 (j 0) k) * (show FVec Ideal S1024x1024 .bf16 from iblk m c 2 p) (ix2 k (j 1)))
      + ∑ k : Fin 1024, (show FVec Ideal S512x1024 .bf16 from iblk m c 1 p) (ix2 (j 0) k) * (show FVec Ideal S1024x1024 .bf16 from iblk m c 3 p) (ix2 k (j 1)))
    (fun t h j => by rw [outsAt0_A m c t h (by omega) (by omega)]; frame_out; rw [step_at, zero_at])
    (fun t h j => by
      by_cases h2 : t.val % 3 = 2
      · by_cases h1 : t.val % 24 = 2
        · rw [outsAt0_C m c t h h1 h2]; frame_out; rw [step_at, read_unread_whole]
        · rw [outsAt0_D m c t h h1 h2]; frame_out; rw [step_at, read_unread_whole]
      · rw [outsAt0_B m c t h (by omega) h2]; frame_out; rw [step_at, read_unread_whole])
    t h2 y
  rw [zero_add] at e
  refine e.trans ?_
  refine Finset.sum_add_distrib.trans (Eq.trans ?_ (dh_at _ _ _ _ _).symm)
  congr 1
  · refine Fin.sum_mul_add_congr fun s k hl => ?_
    blk_point [iblk, V, idx t, idx ⟨_, Pipeline.run_point_lt_of_flush t h2 s⟩]
  · refine Fin.sum_mul_add_congr fun s k hl => ?_
    blk_point [iblk, V, idx t, idx ⟨_, Pipeline.run_point_lt_of_flush t h2 s⟩]

/-- The accumulator's block as a function of the reference's gradient. -/
theorem acc_eq (c : Dev nD) (t : Fin cfg0.N) (h2 : t.val % 3 = 2) :
    (outsAt0 m c t.val t.isLt).2.2 = fun y => DHm m c (((cfg0.win 7).blk t).view.emb y) :=
  funext (acc_last m c t h2)

/-! ## The input's gradient -/

/-- The kernel's block over a gradient `D` of the normalised input, at `y`, is the reference's term at the array index `y` sits at. -/
theorem point_dx (c : Dev nD) (t : Fin cfg0.N) (D : FVec Ideal S4096x1024 .f32) (y) :
    k0_pay8 (F := Ideal) (iblk m c 4 t) (iblk m c 5 t) (fun y => D (((cfg0.win 7).blk t).view.emb y)) (iblk m c 6 t) y
    = DX (m ((c : Thread nD τ).loc main_arg5)) (m ((c : Thread nD τ).loc main_arg6)) D (m ((c : Thread nD τ).loc main_arg7)) (((cfg0.win 7).blk t).view.emb y) := by
  pointwise [k0_pay5, k0_pay6, k0_pay8, DX, DM, DY, MS]
  blk_point [iblk, V, idx t]

/-- The input's gradient after the run. -/
theorem final_dx (c : Dev nD) : (dats m 0 c).arrAt 7 (cfgs 0).N = DX (m ((c : Thread nD τ).loc main_arg5)) (m ((c : Thread nD τ).loc main_arg6)) (DHm m c) (m ((c : Thread nD τ).loc main_arg7)) := by
  refine (dats m 0 c).arrAt_eq_of_covers 7 _ (by decide +kernel) fun t hf y => ?_
  have h2 : t.val % 3 = 2 := (flush0_7 t).mp hf
  have h0 : ¬ t.val % 3 = 0 := by omega
  blk_simp
  rw [after0_7]
  have e : (outsAt0 m c t.val t.isLt).1 = k0_pay8 (iblk m c 4 t) (iblk m c 5 t) (outsAt0 m c t.val t.isLt).2.2 (iblk m c 6 t) := by
    by_cases h1 : t.val % 24 = 2
    · rw [outsAt0_C m c t h0 h1 h2]; frame_out
    · rw [outsAt0_D m c t h0 h1 h2]; frame_out
  rw [e, acc_eq m c t h2]
  exact point_dx m c t _ y

/-! ## The gain's gradient -/

/-- The reference's rows over their roots, -/
abbrev XN (X : FVec Ideal S4096x1024 .f32) : FVec Ideal S4096x1024 .f32 := mulf X (broadcastInDim Cert.Reference16Ideal.S4096x1024 ![0, 1] Cert.Reference16Ideal.Gen.bcast_S4096x1_S4096x1024_0_1 (Host.rsqrt (MS X)))

/-- and the kernel's, in one block. -/
abbrev XNB (X : FVec Ideal S512x1024 .f32) : FVec Ideal S512x1024 .f32 := mulf X (broadcastTo S512x1024 (k0_pay6 X) broadcasts_S512x1_S512x1024)

/-- A block's own part of the gain's gradient is a sum over its rows, -/
theorem part_at (X A : FVec Ideal S512x1024 .f32) (j : S1x1024.Idx) :
    k0_pay7 X A j = ∑ r : Fin 512, (XNB X (ix2 r (j 1)) : EReal) * A (ix2 r (j 1)) := by
  pointwise [k0_pay5, k0_pay6, k0_pay7, XNB]

/-- and the reference's gradient a sum over all rows. -/
theorem dgain_at (X D : FVec Ideal S4096x1024 .f32) (j : S1x1024.Idx) :
    DGAIN X D j = ∑ r : Fin 4096, (XN X (ix2 r (j 1)) : EReal) * D (ix2 r (j 1)) := by
  pointwise [DGAIN, XN, MS]

/-- The two agree on a block's rows. -/
theorem point_xn (c : Dev nD) (t : Fin cfg0.N) (y : S512x1024.Idx) :
    XNB (iblk m c 4 t) y = XN (m ((c : Thread nD τ).loc main_arg5)) (((cfg0.win 7).blk t).view.emb y) := by
  pointwise [k0_pay5, k0_pay6, XNB, XN, MS]
  blk_point [iblk, V, idx t]

/-- The gradient starts at zero -/
theorem gain_zero_at (j) : k0_pay3 (F := Ideal) j = 0 := by pointwise [k0_pay3]

/-- and adds each part. -/
theorem gain_step_at (g p : FVec Ideal S1x1024 .f32) (j) : k0_pay4 g p j = (p j : EReal) + g j := by pointwise [k0_pay4]

/-- The last point of each block of rows. -/
def last (n : Fin 8) : Fin cfg0.N := ⟨3 * n.val + 2, by have := n.isLt; show 3 * n.val + 2 < 24; omega⟩

/-- A point that is not a block of rows' last leaves the gain's gradient as it was. -/
theorem carried (c : Dev nD) (t : Fin cfg0.N) (h2 : ¬ t.val % 3 = 2) (hp : t.val - 1 < cfg0.N) :
    (outsAt0 m c t.val t.isLt).2.1 = (outsAt0 m c (t.val - 1) hp).2.1 := by
  by_cases h0 : t.val % 3 = 0
  · rw [outsAt0_A m c t h0 (by omega) h2]; dsimp only; unfold out0_A_8; rfl
  · rw [outsAt0_B m c t h0 (by omega) h2]; dsimp only; unfold out0_B_8; rfl

/-- The first block's part is added to zero, -/
theorem gain_first (c : Dev nD) (t : Fin cfg0.N) (h : t.val = 2) :
    (outsAt0 m c t.val t.isLt).2.1 = k0_pay4 (k0_pay7 (iblk m c 4 t) (outsAt0 m c t.val t.isLt).2.2) (k0_pay3 (F := Ideal)) := by
  rw [outsAt0_C m c t (by omega) (by omega) (by omega)]; frame_out

/-- each other's to what the block before left. -/
theorem gain_next (c : Dev nD) (t : Fin cfg0.N) (h1 : ¬ t.val % 24 = 2) (h2 : t.val % 3 = 2) (hp : t.val - 1 < cfg0.N) :
    (outsAt0 m c t.val t.isLt).2.1 = k0_pay4 (k0_pay7 (iblk m c 4 t) (outsAt0 m c t.val t.isLt).2.2) (outsAt0 m c (t.val - 1) hp).2.1 := by
  rw [outsAt0_D m c t (by omega) h1 h2]; frame_out

/-- What block of rows `n` adds. -/
abbrev part (c : Dev nD) (n : Fin 8) (j : S1x1024.Idx) : EReal :=
  k0_pay7 (F := Ideal) (iblk m c 4 (last n)) (fun y => DHm m c (((cfg0.win 7).blk (last n)).view.emb y)) j

/-- The gain's gradient after block of rows `n`. -/
def gains (c : Dev nD) (n : Fin 8) (j : S1x1024.Idx) : EReal := (outsAt0 m c (last n).val (last n).isLt).2.1 j

/-- After the first block it is that block's part; -/
theorem gains_first (c : Dev nD) (n : Fin 8) (h : n.val = 0) (j) : gains m c n j = 0 + part m c n j := by
  unfold gains
  rw [gain_first m c (last n) (by show 3 * n.val + 2 = 2; omega), gain_step_at, gain_zero_at, acc_eq m c (last n) (by show (3 * n.val + 2) % 3 = 2; omega)]
  rfl

/-- after each other, one more part. -/
theorem gains_next (c : Dev nD) (n k : Fin 8) (h : n.val = k.val + 1) (j) : gains m c n j = gains m c k j + part m c n j := by
  unfold gains
  have hv : (last n).val = 3 * n.val + 2 := rfl
  have hl : (last n).val - 1 < cfg0.N := lt_of_le_of_lt (Nat.sub_le _ _) (last n).isLt
  have hl' : (last n).val - 1 - 1 < cfg0.N := lt_of_le_of_lt (Nat.sub_le _ _) hl
  have hl'' : (last n).val - 1 - 1 - 1 < cfg0.N := lt_of_le_of_lt (Nat.sub_le _ _) hl'
  have hn := n.isLt
  rw [gain_next m c (last n) (by omega) (by omega) hl, gain_step_at, acc_eq m c (last n) (by omega),
    carried m c ⟨_, hl⟩ (by show ¬ ((last n).val - 1) % 3 = 2; omega) hl',
    carried m c ⟨_, hl'⟩ (by show ¬ ((last n).val - 1 - 1) % 3 = 2; omega) hl'']
  have ev : (last n).val - 1 - 1 - 1 = (last k).val := by show 3 * n.val + 2 - 1 - 1 - 1 = 3 * k.val + 2; omega
  simp only [ev]
  exact congrArg (fun a : EReal => (outsAt0 m c (last k).val (last k).isLt).2.1 j + a) rfl

/-- After the last it is the sum of the eight parts, -/
theorem gains_last (c : Dev nD) (j : S1x1024.Idx) : gains m c 7 j = ∑ s : Fin 8, part m c s j := by
  have e := Pipeline.eq_sum_fin_of_reset_step_apply_of_flush (N := 8) (fun n h => gains m c ⟨n, h⟩) 8 (fun _ => (0 : EReal)) (part m c)
    (fun t h j => gains_first m c t (by have := t.isLt; omega) j)
    (fun t h j => gains_next m c t ⟨t.val - 1, by omega⟩ (by show t.val = t.val - 1 + 1; omega) j)
    7 rfl j
  rw [zero_add] at e
  exact e.trans (Finset.sum_congr rfl fun s _ => congrArg (fun n => part m c n j) (Fin.ext (by show 8 * (7 / 8) + s.val = s.val; omega)))

/-- as the output's buffer holds it, -/
theorem gain_sum (c : Dev nD) (t : Fin cfg0.N) (ht : t.val = 23) (j : S1x1024.Idx) : (outsAt0 m c t.val t.isLt).2.1 j = ∑ s : Fin 8, part m c s j := by
  obtain rfl : t = last 7 := Fin.ext ht
  exact gains_last m c j

/-- which is the reference's. -/
theorem final_gain (c : Dev nD) : (dats m 0 c).arrAt 8 (cfgs 0).N = DGAIN (m ((c : Thread nD τ).loc main_arg5)) (DHm m c) := by
  refine (dats m 0 c).arrAt_eq_of_covers 8 _ (by decide +kernel) fun t hf y => ?_
  have h2 : t.val % 24 = 23 := (flush0_8 t).mp hf
  have ht : t.val = 23 := by have := (show t.val < 24 from t.isLt); omega
  blk_simp
  rw [after0_8]
  refine (gain_sum m c t ht y).trans ((Finset.sum_congr rfl fun s _ => part_at _ _ _).trans (Eq.trans ?_ (dgain_at _ _ _).symm))
  refine Fin.sum_mul_add_congr fun s k hl => ?_
  refine congrArg₂ (fun a b : EReal => a * b) ((point_xn m c (last s) _).trans ?_) ?_
  · blk_point [idx ⟨3 * s.val + 2, (last s).isLt⟩, idx t, last, ht]
  · blk_point [idx ⟨3 * s.val + 2, (last s).isLt⟩, idx t, last, ht]

end Cert.Kernel16Ideal.Ffn

namespace Cert.Proof.Ffn

/-- Kernel and reference compute equal gradients of the feed-forward layer's input and of its norm's gain. -/
theorem equal_input : @Cert.algebraic_Kernel16Ideal_Reference16Ideal Cert.Kernel16Ideal.Gen.facts Cert.Reference16Ideal.Gen.facts := by
  intro m g m' g' _ ha
  refine ⟨fun c => Cert.Kernel16Ideal.Ffn.DX (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)) (Cert.Kernel16Ideal.Ffn.DH (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3))) (m ((c.tc : Thread Cert.Kernel16Ideal.nD Cert.Kernel16Ideal.τ).loc Cert.Kernel16Ideal.main_arg7)), fun c => Cert.Kernel16Ideal.Ffn.DGAIN (m ((c.tc : Thread Cert.Kernel16Ideal.nD Cert.Kernel16Ideal.τ).loc Cert.Kernel16Ideal.main_arg5)) (Cert.Kernel16Ideal.Ffn.DH (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3))), ?_, ?_⟩
  · exact (θ_run _ _ _).mono (fun r h c => ⟨(h c).1.trans (Cert.Kernel16Ideal.Ffn.final_dx m c), (h c).2.1.trans (Cert.Kernel16Ideal.Ffn.final_gain m c), (h c).2.2⟩) (Cert.Kernel16Ideal.Value.run_blocks m g)
  · refine (θ_run _ _ _).mono (fun r h c => ⟨(h c).1.trans ?_, (h c).2.1.trans ?_, (h c).2.2⟩) (Cert.Reference16Ideal.Value.run m' g')
    · unfold Cert.Reference16Ideal.Value.res_main_v45
      rw [(ha c).1, (ha c).2.1, (ha c).2.2.1, (ha c).2.2.2.1, (ha c).2.2.2.2.2.1, (ha c).2.2.2.2.2.2.1, (ha c).2.2.2.2.2.2.2]
    · rw [(ha c).1, (ha c).2.1, (ha c).2.2.1, (ha c).2.2.2.1, (ha c).2.2.2.2.2.1]

end Cert.Proof.Ffn

end
-- ==== Proof.Ffn.SwiGlu.lean ====
/- The gradients of the gate and up values: what both programs compute at an index, and the blocks of the kernel's results. -/
module

public import proofs.«01_k».proof.Defs
public import proofs.«01_k».proof.Proof.Gen.Kernel2Ideal.Value
public import proofs.«01_k».proof.Proof.Gen.Reference2Ideal.Run
public import proofs.«01_k».proof.Proof.Ffn.Half
public import proofs.«01_k».proof.Proof.Finite
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen Cert.Half

variable (X : FVec Ideal S4096x1024 .f32) (W : FVec Ideal S3072x1024 .bf16) (G U : FVec Ideal S4096x3072 .bf16)

/-- The gradient of the gated value: half of `dx` times the down weights transposed. -/
def dact (j : S4096x3072.Idx) : EReal := (∑ k : Fin 1024, X (ix2 (j 0) k) * W (ix2 (j 1) k)) * half

/-- The gradient of the gate value as the kernel writes it, -/
def dgate (j : S4096x3072.Idx) : EReal := dact X W j * U j * (Ideal.logistic (G j) + G j * Ideal.logistic (G j) * (1 - Ideal.logistic (G j)))

/-- and of the up value. -/
def dup (j : S4096x3072.Idx) : EReal := dact X W j * (G j * Ideal.logistic (G j))

/-- The reference's product of half of `dx` and the down weights, -/
abbrev refDact : FVec Ideal S4096x3072 .f32 :=
  Host.dotGeneral Cert.Reference2Ideal.dot_S4096x1024_S3072x1024_S4096x3072_1_1_0_0_n_n none
    (mulf (broadcastInDim Cert.Reference2Ideal.S4096x1024 ![] Cert.Reference2Ideal.Gen.bcast_S_S4096x1024 (constant Cert.Reference2Ideal.S_ .f32 0x3F000000#32)) X)
    (extf .f32 W Cert.Reference2Ideal.Gen.bitsLt_bf16_f32)

/-- its constant one, -/
abbrev refOne : FVec Ideal S4096x3072 .f32 :=
  broadcastInDim Cert.Reference2Ideal.S4096x3072 ![] Cert.Reference2Ideal.Gen.bcast_S_S4096x3072 (constant Cert.Reference2Ideal.S_ .f32 0x3F800000#32)

/-- its logistic function of the gate, -/
abbrev refLogi : FVec Ideal S4096x3072 .f32 :=
  Host.divf refOne (addf refOne (Host.exp (Host.negf (extf .f32 G Cert.Reference2Ideal.Gen.bitsLt_bf16_f32))))

/-- its gradient of the gate -/
abbrev refGate : FVec Ideal S4096x3072 .bf16 :=
  truncf .bf16 (addf (mulf (mulf (refDact X W) (extf .f32 U Cert.Reference2Ideal.Gen.bitsLt_bf16_f32)) (refLogi G))
    (mulf (mulf (extf .f32 G Cert.Reference2Ideal.Gen.bitsLt_bf16_f32) (mulf (refDact X W) (extf .f32 U Cert.Reference2Ideal.Gen.bitsLt_bf16_f32)))
      (mulf (refLogi G) (subf refOne (refLogi G))))) Cert.Reference2Ideal.Gen.bitsLt_bf16_f32

/-- and of the up value. -/
abbrev refUp : FVec Ideal S4096x3072 .bf16 :=
  truncf .bf16 (mulf (mulf (extf .f32 G Cert.Reference2Ideal.Gen.bitsLt_bf16_f32) (refLogi G)) (refDact X W)) Cert.Reference2Ideal.Gen.bitsLt_bf16_f32

theorem refDact_at (j : S4096x3072.Idx) : refDact X W j = dact X W j := by
  unfold dact
  rw [← sum_half]
  pointwise [refDact]
  refine Finset.sum_congr rfl fun k _ => ?_
  rw [mul_comm half, mul_right_comm]

theorem refLogi_at (j : S4096x3072.Idx) : refLogi G j = Ideal.logistic (G j) := by
  pointwise [refLogi, refOne]
  rfl

/-- The reference's gradient of the up value is the kernel's, -/
theorem refUp_at (j : S4096x3072.Idx) : refUp X W G j = dup X W G j := by
  show G j * refLogi G j * refDact X W j = _
  rw [refLogi_at, refDact_at, mul_comm]; rfl

/-- and so is the gradient of the gate value, where the gradient of the gated value is real. -/
theorem refGate_at (j : S4096x3072.Idx) (h : ∃ r : ℝ, dact X W j * U j = r) : refGate X W G U j = dgate X W G U j := by
  show refDact X W j * U j * refLogi G j + G j * (refDact X W j * U j) * (refLogi G j * (one - refLogi G j)) = _
  obtain ⟨r, e⟩ := h
  rw [refLogi_at, refDact_at, one_eq, dgate, e, derivative]

variable (m : (ℓ : Loc nD τ sig) → Buf (Elt Ideal) ℓ)

/-- Where each window's block sits at each grid point. -/
theorem idx : ∀ t : Fin cfg0.N, win0_0.index t = ![t.val / 6, 0] ∧ win0_1.index t = ![t.val % 6, 0] ∧ win0_2.index t = ![t.val / 6, t.val % 6]
    ∧ win0_3.index t = ![t.val / 6, t.val % 6] ∧ win0_4.index t = ![t.val / 6, t.val % 6] ∧ win0_5.index t = ![t.val / 6, t.val % 6] :=
  (by decide +kernel : ∀ t : Fin grid0.N, _)

/-- The kernel's logistic function is the reference's. -/
theorem logi_at (g : FVec Ideal S1024x512 .bf16) (y : S1024x512.Idx) : k0_pay3 (F := Ideal) g y = Ideal.logistic (g y) := by
  rw [← tanh_logistic]
  pointwise [k0_pay3, k0_pay2]

theorem dact_at (x : FVec Ideal S1024x1024 .f32) (w : FVec Ideal S512x1024 .bf16) (y : S1024x512.Idx) :
    k0_pay1 (F := Ideal) x w y = (∑ k : Fin 1024, x (ix2 (y 0) k) * w (ix2 (y 1) k)) * half := by
  pointwise [k0_pay1]

theorem gate_at (x : FVec Ideal S1024x1024 .f32) (w : FVec Ideal S512x1024 .bf16) (g u : FVec Ideal S1024x512 .bf16) (y : S1024x512.Idx) :
    (k0_pay5 (F := Ideal) x w g u y : EReal) = (∑ k : Fin 1024, x (ix2 (y 0) k) * w (ix2 (y 1) k)) * half * u y * (Ideal.logistic (g y) + g y * Ideal.logistic (g y) * (1 - Ideal.logistic (g y))) := by
  rw [← dact_at, ← logi_at, ← one_eq]
  rfl

theorem up_at (x : FVec Ideal S1024x1024 .f32) (w : FVec Ideal S512x1024 .bf16) (g : FVec Ideal S1024x512 .bf16) (y : S1024x512.Idx) :
    (k0_pay6 (F := Ideal) x w g y : EReal) = (∑ k : Fin 1024, x (ix2 (y 0) k) * w (ix2 (y 1) k)) * half * (g y * Ideal.logistic (g y)) := by
  rw [← dact_at, ← logi_at]
  rfl

/-- The gate gradients after the run, -/
theorem final_gate (c : Dev nD) : (dats m 0 c).arrAt 4 (cfgs 0).N
    = dgate (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  refine (gate_at _ _ _ _ y).trans ?_
  unfold dgate dact
  blk_point [iblk, V, idx t]

/-- and the up gradients. -/
theorem final_up (c : Dev nD) : (dats m 0 c).arrAt 5 (cfgs 0).N
    = dup (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  refine (up_at _ _ _ y).trans ?_
  unfold dup dact
  blk_point [iblk, V, idx t]

end Cert.Kernel2Ideal.Ffn

/-! ## The precondition -/

namespace Cert.Pre_finite_swiglu

open Idealize.ShloMosaic Cert

/-- The side conditions of the precondition's operations. -/
theorem facts : Facts where
  bcast_S_S4096x1024 := by decide
  shapeCasts_S4096x1024_S4x1024x1x1024 := by decide
  bitsLt_bf16_f32 := by decide
  bcast_S_S3072x1024 := by decide
  shapeCasts_S3072x1024_S1x1024x3x1024 := by decide
  bcast_S_S4096x3072 := by decide
  shapeCasts_S4096x3072_S4x1024x3x1024 := by decide
  bcast_S4x1024x1x1024_S4x1024x3x1024_0_1_2_3 := by decide
  bcast_S1x1024x3x1024_S4x1024x3x1024_0_1_2_3 := by decide

variable [Facts]

/-- The places of the precondition's array: token `1024·a + b`, weight row `3·b + f`, up value `(1024·a + b, 1024·f + k)`. -/
theorem fn_at (x : FVec Ideal S4096x1024 .f32) (w : FVec Ideal S3072x1024 .bf16) (g u : FVec Ideal S4096x3072 .bf16)
    (hpre : fn x w g u = fun _ => 1#1) (a : Fin 4) (b : Fin 1024) (f : Fin 3) (k : Fin 1024) :
    (∃ r : ℝ, x (ix2 ⟨a.val * 1024 + b.val, by omega⟩ k) = r) ∧ (∃ r : ℝ, w (ix2 ⟨b.val * 3 + f.val, by omega⟩ k) = r)
      ∧ ∃ r : ℝ, u (ix2 ⟨a.val * 1024 + b.val, by omega⟩ ⟨f.val * 1024 + k.val, by omega⟩) = r := by
  have e := congrFun hpre (ix4 a b f k)
  unfold fn at e
  pointwise at e
  obtain ⟨e1, e3⟩ := Finite.and_both e
  obtain ⟨e1, e2⟩ := Finite.and_both e1
  exact ⟨Finite.real_of_lt _ e1, Finite.real_of_lt _ e2, Finite.real_of_lt _ e3⟩

/-- Every gradient, weight and up value is real. -/
theorem all_real (x : FVec Ideal S4096x1024 .f32) (w : FVec Ideal S3072x1024 .bf16) (g u : FVec Ideal S4096x3072 .bf16)
    (hpre : fn x w g u = fun _ => 1#1) :
    (∀ t k, ∃ r : ℝ, x (ix2 t k) = r) ∧ (∀ f k, ∃ r : ℝ, w (ix2 f k) = r) ∧ ∀ t f, ∃ r : ℝ, u (ix2 t f) = r := by
  have key := fn_at x w g u hpre
  refine ⟨fun t k => ?_, fun f k => ?_, fun t f => ?_⟩
  · have e : t = ⟨(⟨t.val / 1024, by omega⟩ : Fin 4).val * 1024 + (⟨t.val % 1024, by omega⟩ : Fin 1024).val, by dsimp only; omega⟩ := Fin.ext (by dsimp only; omega)
    rw [e]; exact (key _ _ 0 k).1
  · have e : f = ⟨(⟨f.val / 3, by omega⟩ : Fin 1024).val * 3 + (⟨f.val % 3, by omega⟩ : Fin 3).val, by dsimp only; omega⟩ := Fin.ext (by dsimp only; omega)
    rw [e]; exact (key 0 _ _ k).2.1
  · have e : t = ⟨(⟨t.val / 1024, by omega⟩ : Fin 4).val * 1024 + (⟨t.val % 1024, by omega⟩ : Fin 1024).val, by dsimp only; omega⟩ := Fin.ext (by dsimp only; omega)
    have e' : f = ⟨(⟨f.val / 1024, by omega⟩ : Fin 3).val * 1024 + (⟨f.val % 1024, by omega⟩ : Fin 1024).val, by dsimp only; omega⟩ := Fin.ext (by dsimp only; omega)
    rw [e, e']; exact (key _ _ _ _).2.2

end Cert.Pre_finite_swiglu

/-! ## The equality -/

namespace Cert.Proof.Ffn

open Cert.Half

/-- The gradient of the gated value is real where the arguments are. -/
theorem real_dact (x : FVec Ideal Kernel2Ideal.S4096x1024 .f32) (w : FVec Ideal Kernel2Ideal.S3072x1024 .bf16) (u : FVec Ideal Kernel2Ideal.S4096x3072 .bf16)
    (hx : ∀ t k, ∃ r : ℝ, x (ix2 t k) = r) (hw : ∀ f k, ∃ r : ℝ, w (ix2 f k) = r) (hu : ∀ t f, ∃ r : ℝ, u (ix2 t f) = r)
    (j : Kernel2Ideal.S4096x3072.Idx) : ∃ r : ℝ, Kernel2Ideal.Ffn.dact x w j * u j = r := by
  obtain ⟨b, eb⟩ := hu (j 0) (j 1)
  have ej : j = ix2 (j 0) (j 1) := by funext a; match a with | ⟨0, _⟩ => rfl | ⟨1, _⟩ => rfl
  obtain ⟨a, ea⟩ := Row.sum_fin (fun k : Fin 1024 => x (ix2 (j 0) k) * w (ix2 (j 1) k)) fun k => by
    obtain ⟨p, ep⟩ := hx (j 0) k
    obtain ⟨q, eq⟩ := hw (j 1) k
    exact ⟨p * q, by rw [ep, eq, EReal.coe_mul]⟩
  refine ⟨a * (1 / 2) * b, ?_⟩
  rw [EReal.coe_mul, EReal.coe_mul, ← half_eq, ← eb, ← ea]
  exact congrArg (fun i => Kernel2Ideal.Ffn.dact x w j * u i) ej

/-- Kernel and reference compute equal gradients of the gate and up values. -/
theorem equal_swiglu : @Cert.algebraic_Kernel2Ideal_Reference2Ideal_pre_finite_swiglu Cert.Kernel2Ideal.Gen.facts Cert.Reference2Ideal.Gen.facts Cert.Pre_finite_swiglu.facts := by
  intro m g m' g' hpre ha
  refine ⟨fun c => Kernel2Ideal.Ffn.dgate (m ((c.tc : Thread Kernel2Ideal.nD Kernel2Ideal.τ).loc Kernel2Ideal.main_arg0)) (m ((c.tc : Thread Kernel2Ideal.nD Kernel2Ideal.τ).loc Kernel2Ideal.main_arg1))
      (m ((c.tc : Thread Kernel2Ideal.nD Kernel2Ideal.τ).loc Kernel2Ideal.main_arg2)) (m ((c.tc : Thread Kernel2Ideal.nD Kernel2Ideal.τ).loc Kernel2Ideal.main_arg3)),
    fun c => Kernel2Ideal.Ffn.dup (m ((c.tc : Thread Kernel2Ideal.nD Kernel2Ideal.τ).loc Kernel2Ideal.main_arg0)) (m ((c.tc : Thread Kernel2Ideal.nD Kernel2Ideal.τ).loc Kernel2Ideal.main_arg1))
      (m ((c.tc : Thread Kernel2Ideal.nD Kernel2Ideal.τ).loc Kernel2Ideal.main_arg2)), ?_, ?_⟩
  · exact (θ_run _ _ _).mono (fun r h c => ⟨(h c).1.trans (Kernel2Ideal.Ffn.final_gate m c), (h c).2.1.trans (Kernel2Ideal.Ffn.final_up m c), (h c).2.2⟩) (Kernel2Ideal.Value.run_blocks m g)
  · refine (θ_run _ _ _).mono (fun r h c => ⟨(h c).1.trans ?_, (h c).2.1.trans ?_, (h c).2.2⟩) (Reference2Ideal.Value.run m' g')
    · rw [(ha c).1, (ha c).2.1, (ha c).2.2.1, (ha c).2.2.2]
      obtain ⟨hx, hw, hu⟩ := @Pre_finite_swiglu.all_real Pre_finite_swiglu.facts _ _ _ _ (hpre c)
      exact funext fun j => Kernel2Ideal.Ffn.refGate_at _ _ _ _ j (real_dact _ _ _ hx hw hu j)
    · rw [(ha c).1, (ha c).2.1, (ha c).2.2.1]
      exact funext fun j => Kernel2Ideal.Ffn.refUp_at _ _ _ j

end Cert.Proof.Ffn

end
-- ==== Proof.Ffn.GateWeight.lean ====
/- The gradient of the gate weights: each block of the kernel's result is the same sum over the tokens as the reference's. -/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Ffn

open Cert.Kernel3Ideal Cert.Kernel3Ideal.Gen

variable (m : (ℓ : Loc nD τ sig) → Buf (Elt Ideal) ℓ)

/-- The reference's term over the kernel's arguments: `dgate` transposed, times `h`. -/
abbrev REF (G : FVec Ideal S4096x3072 .bf16) (H : FVec Ideal S4096x1024 .bf16) : FVec Ideal S3072x1024 .bf16 :=
  truncf .bf16 (transpose Cert.Reference3Ideal.S3072x1024 [1, 0] (transpose Cert.Reference3Ideal.S1024x3072 [1, 0]
    (Host.dotGeneral Cert.Reference3Ideal.dot_S4096x3072_S4096x1024_S3072x1024_0_0_1_1_n_n none (extf .f32 G Cert.Reference3Ideal.Gen.bitsLt_bf16_f32) (extf .f32 H Cert.Reference3Ideal.Gen.bitsLt_bf16_f32))
    Cert.Reference3Ideal.Gen.transposes_S3072x1024_S1024x3072_1_0) Cert.Reference3Ideal.Gen.transposes_S1024x3072_S3072x1024_1_0) Cert.Reference3Ideal.Gen.bitsLt_bf16_f32

/-- Where each window's block sits at each grid point. -/
theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- What the body stores at block index `y` of point `t` is the reference's term at the array index `y` sits at. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel3Ideal.Ffn

namespace Cert.Proof.Ffn

/-- Kernel and reference compute equal gradients of the gate weights. -/
theorem equal_gate_weight : @Cert.algebraic_Kernel3Ideal_Reference3Ideal Cert.Kernel3Ideal.Gen.facts Cert.Reference3Ideal.Gen.facts := by
  intro m g m' g' _ ha
  refine ⟨fun c => Cert.Kernel3Ideal.Ffn.REF (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), ?_, ?_⟩
  · exact (θ_run _ _ _).mono (fun r h c => ⟨(h c).1.trans (Cert.Kernel3Ideal.Ffn.final m c), (h c).2⟩) (Cert.Kernel3Ideal.Value.run_blocks m g)
  · refine (θ_run _ _ _).mono (fun r h c => ⟨(h c).1.trans ?_, (h c).2⟩) (Cert.Reference3Ideal.Value.run m' g')
    rw [(ha c).1, (ha c).2]

end Cert.Proof.Ffn

end
-- ==== Proof.Ffn.DownWeight.lean ====
/- The gradient of the down weights: the four blocks of tokens accumulate to the reference's sum over all tokens, the factor a half taken inside. -/
module

public import proofs.«01_k».proof.Defs
public import proofs.«01_k».proof.Proof.Gen.Kernel4Ideal.Value
public import proofs.«01_k».proof.Proof.Gen.Reference4Ideal.Run
public import proofs.«01_k».proof.Proof.Ffn.Half
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Ffn

open Cert.Kernel4Ideal Cert.Kernel4Ideal.Gen

variable (m : (ℓ : Loc nD τ sig) → Buf (Elt Ideal) ℓ)

/-- The reference's term over the kernel's arguments: half of `act` transposed, times `dx`. -/
abbrev REF (A : FVec Ideal S4096x3072 .bf16) (X : FVec Ideal S4096x1024 .f32) : FVec Ideal S3072x1024 .bf16 :=
  truncf .bf16 (transpose Cert.Reference4Ideal.S3072x1024 [1, 0]
    (Host.dotGeneral Cert.Reference4Ideal.dot_S4096x1024_S4096x3072_S1024x3072_0_0_1_1_n_n none
      (mulf (broadcastInDim Cert.Reference4Ideal.S4096x1024 ![] Cert.Reference4Ideal.Gen.bcast_S_S4096x1024 (constant Cert.Reference4Ideal.S_ .f32 0x3F000000#32)) X)
      (extf .f32 A Cert.Reference4Ideal.Gen.bitsLt_bf16_f32))
    Cert.Reference4Ideal.Gen.transposes_S1024x3072_S3072x1024_1_0) Cert.Reference4Ideal.Gen.bitsLt_bf16_f32

/-- Where each window's block sits at each grid point. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The accumulator starts at zero, -/
theorem zero_at (j) : k0_pay1 (F := Ideal) j = 0 := by pointwise [k0_pay1]

/-- takes in one block of tokens at each point, -/
theorem step_at (acc : FVec Ideal S1024x1024 .f32) (a : FVec Ideal S1024x1024 .bf16) (x : FVec Ideal S1024x1024 .f32) (j : S1024x1024.Idx) :
    k0_pay2 acc a x j = acc j + ∑ k : Fin 1024, a (ix2 k (j 0)) * x (ix2 k (j 1)) := by
  pointwise [k0_pay2]

/-- and is halved when it is written out. -/
theorem last_at (acc : FVec Ideal S1024x1024 .f32) (j : S1024x1024.Idx) : (k0_pay3 (F := Ideal) acc j : EReal) = acc j * Cert.Half.half := by
  pointwise [k0_pay3]

/-- The reference's term at an index. -/
theorem ref_at (A : FVec Ideal S4096x3072 .bf16) (X : FVec Ideal S4096x1024 .f32) (j : S3072x1024.Idx) :
    (REF A X j : EReal) = (∑ k : Fin 4096, A (ix2 k (j 0)) * X (ix2 k (j 1))) * Cert.Half.half := by
  pointwise [REF]
  rw [← Cert.Half.sum_half]
  refine Finset.sum_congr rfl fun k _ => ?_
  rw [mul_comm, mul_comm Cert.Half.half, mul_assoc]

/-- The result array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  have h3 : t.val % 4 = 3 := (flush0_2 t).mp hf
  have h0 : ¬ t.val % 4 = 0 := by omega
  have e := Pipeline.eq_sum_fin_of_reset_step_apply_of_flush (fun n h => (outsAt0 m c n h).2) 4 (fun _ => 0) (fun p j => ∑ k : Fin 1024, (show FVec Ideal S1024x1024 .bf16 from iblk m c 0 p) (ix2 k (j 0)) * (show FVec Ideal S1024x1024 .f32 from iblk m c 1 p) (ix2 k (j 1)))
    (fun t h j => by rw [outsAt0_A m c t h (by omega)]; frame_out; rw [step_at, zero_at])
    (fun t h j => by
      by_cases h1 : t.val % 4 = 3
      · rw [outsAt0_C m c t h h1]; frame_out; rw [step_at, read_unread_whole]
      · rw [outsAt0_B m c t h h1]; frame_out; rw [step_at, read_unread_whole])
    t h3 y
  rw [zero_add] at e
  rw [after0_2]
  have e1 : (outsAt0 m c t.val t.isLt).1 = k0_pay3 (outsAt0 m c t.val t.isLt).2 := by
    rw [outsAt0_C m c t h0 h3]; frame_out
  rw [e1, last_at, e, ref_at]
  congr 1
  refine Fin.sum_mul_add_congr fun s k hl => ?_
  blk_point [iblk, V, idx t, idx ⟨_, Pipeline.run_point_lt_of_flush t h3 s⟩]

end Cert.Kernel4Ideal.Ffn

namespace Cert.Proof.Ffn

/-- Kernel and reference compute equal gradients of the down weights. -/
theorem equal_down_weight : @Cert.algebraic_Kernel4Ideal_Reference4Ideal Cert.Kernel4Ideal.Gen.facts Cert.Reference4Ideal.Gen.facts := by
  intro m g m' g' _ ha
  refine ⟨fun c => Cert.Kernel4Ideal.Ffn.REF (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), ?_, ?_⟩
  · exact (θ_run _ _ _).mono (fun r h c => ⟨(h c).1.trans (Cert.Kernel4Ideal.Ffn.final m c), (h c).2⟩) (Cert.Kernel4Ideal.Value.run_blocks m g)
  · refine (θ_run _ _ _).mono (fun r h c => ⟨(h c).1.trans ?_, (h c).2⟩) (Cert.Reference4Ideal.Value.run m' g')
    rw [(ha c).1, (ha c).2]

end Cert.Proof.Ffn

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Attn.Frame
public import proofs.«01_k».proof.Proof.Attn.Final
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel14
public import proofs.«01_k».proof.Proof.Gen.Kernel14Ideal
public import proofs.«01_k».proof.Proof.Gen.Reference14Ideal.Run
public import proofs.«01_k».proof.Proof.Gen.Kernel15
public import proofs.«01_k».proof.Proof.Gen.Kernel15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Reference16Ideal.Run
public import proofs.«01_k».proof.Proof.Mix.InWeight
public import proofs.«01_k».proof.Proof.Mix.InInput
public import proofs.«01_k».proof.Proof.Ffn.Down
public import proofs.«01_k».proof.Proof.Mix.OutInput
public import proofs.«01_k».proof.Proof.Mix.OutWeight
public import proofs.«01_k».proof.Proof.Mix.BranchInput
public import proofs.«01_k».proof.Proof.Mix.BranchWeight
public import proofs.«01_k».proof.Proof.Mix.Out
public import proofs.«01_k».proof.Proof.Mix.Branch
public import proofs.«01_k».proof.Proof.Ffn.In
public import proofs.«01_k».proof.Proof.Mix.Proj
public import proofs.«01_k».proof.Proof.Ffn.Input
public import proofs.«01_k».proof.Proof.Ffn.SwiGlu
public import proofs.«01_k».proof.Proof.Ffn.GateWeight
public import proofs.«01_k».proof.Proof.Ffn.DownWeight
public import Idealize.ShloMosaic.Adequacy
public import Idealize.ShloMosaic.Init

@[expose] public section

noncomputable section

namespace Cert.Proof

open Idealize.ShloMosaic Idealize.SL.Sem Cert.Kernel

set_option maxHeartbeats 4000000 in
/-- The kernel's program has the same text as its idealized reading: the one kernel body at each grid point. -/
theorem bodies_eq {F : FTy → Type} [FloatOps F] :
    @Cert.Kernel.defs₀ F _ Cert.Kernel.Gen.facts = @Cert.KernelIdeal.defs₀ F _ Cert.KernelIdeal.Gen.facts := by
  refine congrArg (Defs.onTc (nD := Cert.KernelIdeal.nD) (τ := Cert.KernelIdeal.τ) (sig := Cert.KernelIdeal.sig)) ?_
  funext l x
  match l, x with
  | 0, (t, s) => rfl

/-- Hence the same table of bodies, the pipeline's own included. -/
theorem tables_eq {F : FTy → Type} [FloatOps F] :
    @Cert.Kernel.defs F _ Cert.Kernel.Gen.facts = @Cert.KernelIdeal.defs F _ Cert.KernelIdeal.Gen.facts :=
  congrArg (Pipeline.defs Cert.KernelIdeal.pcfgs) bodies_eq

/-- So its frame is that text's frame, at the machine's floats. -/
theorem frame_kernel : Cert.quiescent_Kernel := by
  intro m ρ _
  rw [tables_eq]
  exact Cert.KernelIdeal.Attn.frame_any (F := Bits) m ρ

/-- The reference's run leaves its arguments as they were; it declares no semaphore, so every counter is zero. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩) (Cert.ReferenceIdeal.Value.run m ρ)

/-- The same frame on the smaller set of starting memories that the precondition admits. -/
theorem frame_reference_finite : @Cert.quiescent_ReferenceIdeal_pre_finite_scores _ Cert.Pre_finite_scores.facts := fun m ρ _ =>
  (θ_run Cert.ReferenceIdeal.defs _ _).mono
    (fun r h => ⟨fun c => (h c).2.2.2.2, sem_eq_zero_of_no_sems (by decide) r.2⟩) (Cert.ReferenceIdeal.Value.run m ρ)

/-- The frame of the reference of the gate's and up value's gradients, -/
theorem frame_reference2 : Cert.quiescent_Reference2Ideal := fun m ρ _ =>
  (θ_run Cert.Reference2Ideal.defs _ _).mono
    (fun r h => ⟨fun c => (h c).2.2, sem_eq_zero_of_no_sems (by decide) r.2⟩) (Cert.Reference2Ideal.Value.run m ρ)

/-- the same under its precondition, -/
theorem frame_reference2_finite : @Cert.quiescent_Reference2Ideal_pre_finite_swiglu _ Cert.Pre_finite_swiglu.facts := fun m ρ _ =>
  (θ_run Cert.Reference2Ideal.defs _ _).mono
    (fun r h => ⟨fun c => (h c).2.2, sem_eq_zero_of_no_sems (by decide) r.2⟩) (Cert.Reference2Ideal.Value.run m ρ)

/-- of the reference of the gate weights' gradient, -/
theorem frame_reference3 : Cert.quiescent_Reference3Ideal := fun m ρ _ =>
  (θ_run Cert.Reference3Ideal.defs _ _).mono
    (fun r h => ⟨fun c => (h c).2, sem_eq_zero_of_no_sems (by decide) r.2⟩) (Cert.Reference3Ideal.Value.run m ρ)

/-- and of the down weights'. -/
theorem frame_reference4 : Cert.quiescent_Reference4Ideal := fun m ρ _ =>
  (θ_run Cert.Reference4Ideal.defs _ _).mono
    (fun r h => ⟨fun c => (h c).2, sem_eq_zero_of_no_sems (by decide) r.2⟩) (Cert.Reference4Ideal.Value.run m ρ)

/-- The frame of the reference of the input projection's weights' gradient. -/
theorem frame_reference5 : Cert.quiescent_Reference5Ideal := fun m ρ _ =>
  (θ_run Cert.Reference5Ideal.defs _ _).mono
    (fun r h => ⟨fun c => (h c).2, sem_eq_zero_of_no_sems (by decide) r.2⟩) (Cert.Reference5Ideal.Value.run m ρ)

/-- The frame of the reference of the input projection's input's gradient. -/
theorem frame_reference6 : Cert.quiescent_Reference6Ideal := fun m ρ _ =>
  (θ_run Cert.Reference6Ideal.defs _ _).mono
    (fun r h => ⟨fun c => (h c).2, sem_eq_zero_of_no_sems (by decide) r.2⟩) (Cert.Reference6Ideal.Value.run m ρ)

/-- The frame of the reference of the feed-forward layer's output. -/
theorem frame_reference7 : Cert.quiescent_Reference7Ideal := fun m ρ _ =>
  (θ_run Cert.Reference7Ideal.defs _ _).mono
    (fun r h => ⟨fun c => (h c).2, sem_eq_zero_of_no_sems (by decide) r.2⟩) (Cert.Reference7Ideal.Value.run m ρ)

/-- The frame of the reference of the output projection's input's gradient. -/
theorem frame_reference8 : Cert.quiescent_Reference8Ideal := fun m ρ _ =>
  (θ_run Cert.Reference8Ideal.defs _ _).mono
    (fun r h => ⟨fun c => (h c).2, sem_eq_zero_of_no_sems (by decide) r.2⟩) (Cert.Reference8Ideal.Value.run m ρ)

/-- The frame of the reference of the output projection's weights' gradient. -/
theorem frame_reference9 : Cert.quiescent_Reference9Ideal := fun m ρ _ =>
  (θ_run Cert.Reference9Ideal.defs _ _).mono
    (fun r h => ⟨fun c => (h c).2, sem_eq_zero_of_no_sems (by decide) r.2⟩) (Cert.Reference9Ideal.Value.run m ρ)

/-- The frame of the reference of a branch's input's gradient. -/
theorem frame_reference10 : Cert.quiescent_Reference10Ideal := fun m ρ _ =>
  (θ_run Cert.Reference10Ideal.defs _ _).mono
    (fun r h => ⟨fun c => (h c).2, sem_eq_zero_of_no_sems (by decide) r.2⟩) (Cert.Reference10Ideal.Value.run m ρ)

/-- The frame of the reference of a branch's weights' gradient. -/
theorem frame_reference11 : Cert.quiescent_Reference11Ideal := fun m ρ _ =>
  (θ_run Cert.Reference11Ideal.defs _ _).mono
    (fun r h => ⟨fun c => (h c).2, sem_eq_zero_of_no_sems (by decide) r.2⟩) (Cert.Reference11Ideal.Value.run m ρ)

/-- The frame of the reference of the output projection. -/
theorem frame_reference12 : Cert.quiescent_Reference12Ideal := fun m ρ _ =>
  (θ_run Cert.Reference12Ideal.defs _ _).mono
    (fun r h => ⟨fun c => (h c).2, sem_eq_zero_of_no_sems (by decide) r.2⟩) (Cert.Reference12Ideal.Value.run m ρ)

/-- The frame of the reference of a branch. -/
theorem frame_reference13 : Cert.quiescent_Reference13Ideal := fun m ρ _ =>
  (θ_run Cert.Reference13Ideal.defs _ _).mono
    (fun r h => ⟨fun c => (h c).2, sem_eq_zero_of_no_sems (by decide) r.2⟩) (Cert.Reference13Ideal.Value.run m ρ)

/-- The two readings of the feed-forward layer's input half have the same text, -/
theorem bodies_eq14 {F : FTy → Type} [FloatOps F] :
    @Cert.Kernel14.defs₀ F _ Cert.Kernel14.Gen.facts = @Cert.Kernel14Ideal.defs₀ F _ Cert.Kernel14Ideal.Gen.facts := by
  refine congrArg (Defs.onTc (nD := Cert.Kernel14Ideal.nD) (τ := Cert.Kernel14Ideal.τ) (sig := Cert.Kernel14Ideal.sig)) ?_
  funext l x
  match l, x with
  | 0, (t, s) => rfl

/-- hence the same table of bodies, -/
theorem tables_eq14 {F : FTy → Type} [FloatOps F] :
    @Cert.Kernel14.defs F _ Cert.Kernel14.Gen.facts = @Cert.Kernel14Ideal.defs F _ Cert.Kernel14Ideal.Gen.facts :=
  congrArg (Pipeline.defs Cert.Kernel14Ideal.pcfgs) bodies_eq14

/-- and the same frame, at the machine's floats. -/
theorem frame_kernel14 : Cert.quiescent_Kernel14 := by
  intro m ρ _
  rw [tables_eq14]
  exact Cert.Kernel14Ideal.Ffn.frame_any (F := Bits) m ρ

/-- The frame of the reference of the feed-forward layer's input half. -/
theorem frame_reference14 : Cert.quiescent_Reference14Ideal := fun m ρ _ =>
  (θ_run Cert.Reference14Ideal.defs _ _).mono
    (fun r h => ⟨fun c => (h c).2.2.2.2, sem_eq_zero_of_no_sems (by decide) r.2⟩) (Cert.Reference14Ideal.Value.run m ρ)

/-- The two readings of the mixer's input projection have the same text, -/
theorem bodies_eq15 {F : FTy → Type} [FloatOps F] :
    @Cert.Kernel15.defs₀ F _ Cert.Kernel15.Gen.facts = @Cert.Kernel15Ideal.defs₀ F _ Cert.Kernel15Ideal.Gen.facts := by
  refine congrArg (Defs.onTc (nD := Cert.Kernel15Ideal.nD) (τ := Cert.Kernel15Ideal.τ) (sig := Cert.Kernel15Ideal.sig)) ?_
  funext l x
  match l, x with
  | 0, (t, s) => rfl

/-- hence the same table of bodies, -/
theorem tables_eq15 {F : FTy → Type} [FloatOps F] :
    @Cert.Kernel15.defs F _ Cert.Kernel15.Gen.facts = @Cert.Kernel15Ideal.defs F _ Cert.Kernel15Ideal.Gen.facts :=
  congrArg (Pipeline.defs Cert.Kernel15Ideal.pcfgs) bodies_eq15

/-- and the same frame, at the machine's floats. -/
theorem frame_kernel15 : Cert.quiescent_Kernel15 := by
  intro m ρ _
  rw [tables_eq15]
  exact Cert.Kernel15Ideal.Mix.frame_any (F := Bits) m ρ

/-- The frame of the reference of the mixer's input projection. -/
theorem frame_reference15 : Cert.quiescent_Reference15Ideal := fun m ρ _ =>
  (θ_run Cert.Reference15Ideal.defs _ _).mono
    (fun r h => ⟨fun c => (h c).2.2, sem_eq_zero_of_no_sems (by decide) r.2⟩) (Cert.Reference15Ideal.Value.run m ρ)

/-- The frame of the reference of the feed-forward layer's input's gradient. -/
theorem frame_reference16 : Cert.quiescent_Reference16Ideal := fun m ρ _ =>
  (θ_run Cert.Reference16Ideal.defs _ _).mono
    (fun r h => ⟨fun c => (h c).2.2, sem_eq_zero_of_no_sems (by decide) r.2⟩) (Cert.Reference16Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Pre_finite_scores.facts, Cert.Pre_finite_swiglu.facts,
  frame_kernel, fun m ρ _ => Cert.KernelIdeal.Attn.frame_any (F := Ideal) m ρ,
  fun m ρ _ => Cert.KernelIdeal.Attn.frame_any (F := Ideal) m ρ,
  frame_reference, frame_reference_finite,
  fun m ρ _ => Cert.Kernel2.Gen.frame m ρ, fun m ρ _ => Cert.Kernel2Ideal.Gen.frame m ρ, fun m ρ _ => Cert.Kernel2Ideal.Gen.frame m ρ,
  frame_reference2, frame_reference2_finite,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  frame_kernel14, fun m ρ _ => Cert.Kernel14Ideal.Ffn.frame_any (F := Ideal) m ρ, frame_reference14,
  frame_kernel15, fun m ρ _ => Cert.Kernel15Ideal.Mix.frame_any (F := Ideal) m ρ, frame_reference15,
  fun m ρ _ => Cert.Kernel16.Gen.frame m ρ, fun m ρ _ => Cert.Kernel16Ideal.Gen.frame m ρ, frame_reference16,
  trivial, Cert.Proof.Attn.equal, trivial, Cert.Proof.Ffn.equal_swiglu, trivial, Cert.Proof.Ffn.equal_gate_weight,
  trivial, Cert.Proof.Ffn.equal_down_weight,
  trivial, Cert.Proof.Mix.equal_in_weight,
  trivial, Cert.Proof.Mix.equal_in_input,
  trivial, Cert.Proof.Ffn.equal_down,
  trivial, Cert.Proof.Mix.equal_out_input,
  trivial, Cert.Proof.Mix.equal_out_weight,
  trivial, Cert.Proof.Mix.equal_branch_input,
  trivial, Cert.Proof.Mix.equal_branch_weight,
  trivial, Cert.Proof.Mix.equal_out,
  trivial, Cert.Proof.Mix.equal_branch,
  trivial, Cert.Proof.Ffn.equal_in,
  trivial, Cert.Proof.Mix.equal_proj,
  trivial, Cert.Proof.Ffn.equal_input⟩

end Cert.Proof

end
